-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def preserves_Kernel_KernelIdeal : Prop :=
  IdealRules.named_const.Statement Cert.KernelIdeal.κ "g0" .f32 0x3C8CC36A#32 ((78396524673059168935135267129777069613296345595630703725521524943634535507969383755197623356051954795321353669855221370862828507625207993636119503453243704432660074542086103959358842624471041 / 4562440617622195218641171605700291324893228507248559930579192517899275167208677386505912811317371399778642309573594407310688704721375437998252661319722214188251994674360264950082874192246603776 : ℝ) : EReal)
  ∧ IdealRules.named_const.Statement Cert.KernelIdeal.κ "g1" .f32 0x3E08698E#32 ((206818950539439974611426494768646509052450548467862700447621795740222426769977288960977743464810862855020740953892191788741654107464722037227942902092362014238569158361477328071348684792194146041516068394618902177421160615463608321 / 1552518092300708935148979488462502555256886017116696611139052038026050952686376886330878408828646477950487730697131073206171580044114814391444287275041181139204454976020849905550265285631598444825262999193716468750892846853816057856 : ℝ) : EReal)
  ∧ IdealRules.named_const.Statement Cert.KernelIdeal.κ "g2" .f32 0x3EBB9DB9#32 ((193587041323456767073378744577144446238302802122755626265377701497888780029664683420821685794909561110112747584183810952248255320179325448240268888426074358932225073573129703527667374571068332710586954198407984961320402885440313498999562662298934347135846335745400750081 / 528294531135665246352339784916516606518847326036121522127960709026673902556724859474417255887657187894674394993257128678882347559502685537250538978462939576908386683999005084168731517676426441053024232908211188404148028292751561738838396898767036476489538580897737998336 : ℝ) : EReal)
  ∧ IdealRules.named_const.Statement Cert.KernelIdeal.κ "g3" .f32 0x3F1B1EB1#32 ((108928894366787909538482854136354399894027807047938726384754988597771177118744824750036685260233948099017113922415252234011703451806056104642801051378500851854629730635169211674367174308372494347446246524392175556695189741637351359098122801357656299133935250096489309214187191088285544537939131259918212890625 / 179769313486231590772930519078902473361797697894230657273430081157732675805500963132708477322407536021120113879871393357658789768814416622492847430639474124377767893424865485276302219601246094119453082952085005768838150682342462881473913110540827237163350510684586298239947245938479716304835356329624224137216 : ℝ) : EReal)
  ∧ IdealRules.named_const.Statement Cert.KernelIdeal.κ "g4" .f32 0x3F475303#32 ((47629411692907116618449907612943127113503058551675946475726046321068673767448309433604978842042244727950808621043443846226460652335771338586632158945163132521668959777554552621550652820578661694876446670852176498616800683992861587538664151446101098738528916217395117383283261069385353239390029990732456890130741979784965471495112669402908501934081 / 61172327492847069472032393719205726809135813743440799050195397570919697796091958321786863938157971792315844506873509046544459008355036150650333616890210625686064472971480622053109783197015954399612052812141827922088117778074833698589048132156300022844899841969874763871624802603515651998113045708569927237462546233168834543264678118409417047146496 : ℝ) : EReal)
  ∧ IdealRules.named_const.Statement Cert.KernelIdeal.κ "g5" .f32 0x3F61E7C9#32 ((18368813940068701121309471031748546166409385177907889681567909204907843101356355113621789948457578423950951357861201635378353901841502083551214518705094576000801881609357528370927695345999771540811130220701806311437704123410191713207648461265752321556704891384575009631286846774765075276410443802620990291581417820693201927792904733968311586634391883874777008525219926635061949132308481 / 20815864389328798163850480654728171077230524494533409610638224700807216119346720596024478883464648369684843227908562015582767132496646929816279813211354641525848259018778440691546366699323167100945918841095379622423387354295096957733925002768876520583464697770622321657076833170056511209332449663781837603694136444406281042053396870977465916057756101739472373801429441421111406337458176 : ℝ) : EReal)
  ∧ IdealRules.named_const.Statement Cert.KernelIdeal.κ "g6" .f32 0x3F707C6F#32 ((6654016306095794578375805711706083627451106248621586707412028597044408595312882379735073979112908018757447922758800571158845448981108241366532934936903543922134307313033151462922936471521739184867036790102713388902849653985362444399390130211558444266640229528797001241261265790623485036884367437026101609929603420057467875778203261521955819753306746817495538758501232080385332001279585751237624806311955763606715255754588161 / 7083271603906078757501937199839970337237042072752024044272935252133021449487672037753077279976540494138725768234495819230178699615482523444525217326451885295083794903354995236859949814158861106339793498427520403285563504697437506153794873484561573759163876734171825622767620957924878367969185009358384129424236514293956457858505582263102570156257796764049361854053114869322098725721757629614488965634874516982012228724064256 : ℝ) : EReal)
  ∧ IdealRules.named_const.Statement Cert.KernelIdeal.κ "g7" .f32 0x3F781F6D#32 ((2336145996485715011108153785615776499858733148743538919007787240374300769161677364451330588546379393934710767297948693750212977182432144756693222913694201351415707587213845469885411951467421009026364398236912296974770937803354917816344076178184271938993357862007940537484988845481851311787727821040804576004627517636545830787600741566109129512685857776895668995836668969820089659981854127844078976793816477847952302188670216376298327531912946142256259918212890625 / 2410312426921032588580116606028314112912093247945688951359675039065257391591803200669085024107346049663448766280888004787862416978794958324969612987890774651455213339381625224770782077917681499676845543137387820057597345857904599109461387122099507964997815641342300677629473355281617428411794163967785870370368969109221591943054232011562758450080579587850900993714892283476646631181515063804873375182260506246992837898705971012525843324401232986857004760339316736 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v84)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v84) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v415) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v28)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v28) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v50) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v17) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v9)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v9) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v41) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Kernel.lean ====
abbrev S16384x5120 : Shape := ⟨2, ![16384, 5120]⟩
abbrev S1x4x256x256 : Shape := ⟨4, ![1, 4, 256, 256]⟩
abbrev S1x1024 : Shape := ⟨2, ![1, 1024]⟩
abbrev S4 : Shape := ⟨1, ![4]⟩
abbrev S4x256x256 : Shape := ⟨3, ![4, 256, 256]⟩
abbrev S2048 : Shape := ⟨1, ![2048]⟩
abbrev S64 : Shape := ⟨1, ![64]⟩
abbrev S_ : Shape := ⟨0, ![]⟩
abbrev S2048x1 : Shape := ⟨2, ![2048, 1]⟩
abbrev S1x64 : Shape := ⟨2, ![1, 64]⟩
abbrev S2048x64 : Shape := ⟨2, ![2048, 64]⟩
abbrev S2048x128 : Shape := ⟨2, ![2048, 128]⟩
abbrev S2048x512 : Shape := ⟨2, ![2048, 512]⟩
abbrev S8 : Shape := ⟨1, ![8]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S8x1x1 : Shape := ⟨3, ![8, 1, 1]⟩
abbrev S8x128x128 : Shape := ⟨3, ![8, 128, 128]⟩
abbrev S1x8 : Shape := ⟨2, ![1, 8]⟩
abbrev S128x8 : Shape := ⟨2, ![128, 8]⟩
abbrev S128x8x128 : Shape := ⟨3, ![128, 8, 128]⟩
abbrev S128x1024 : Shape := ⟨2, ![128, 1024]⟩
abbrev S4x128x256 : Shape := ⟨3, ![4, 128, 256]⟩
abbrev S4x1x1 : Shape := ⟨3, ![4, 1, 1]⟩
abbrev S16384x2048 : Shape := ⟨2, ![16384, 2048]⟩
abbrev S128x5120 : Shape := ⟨2, ![128, 5120]⟩
abbrev S128x512 : Shape := ⟨2, ![128, 512]⟩
abbrev S128x2048 : Shape := ⟨2, ![128, 2048]⟩
abbrev S256x1024 : Shape := ⟨2, ![256, 1024]⟩
abbrev S128x256 : Shape := ⟨2, ![128, 256]⟩
abbrev S1x128x256 : Shape := ⟨3, ![1, 128, 256]⟩
abbrev S256x256 : Shape := ⟨2, ![256, 256]⟩
abbrev S1x256x256 : Shape := ⟨3, ![1, 256, 256]⟩
abbrev S1x256 : Shape := ⟨2, ![1, 256]⟩

abbrev nBuf : Space → Nat
  | .hbm => 114
  | .vmem => 15
  | .smem => 0
  | _ => 0

abbrev bufTy : (tb : Table) → Fin (tcTables nBuf tb) → BufTy
  | .hbm, ⟨0, _⟩ => ⟨S16384x5120, .bf16⟩
  | .hbm, ⟨1, _⟩ => ⟨S1x4x256x256, .f32⟩
  | .hbm, ⟨2, _⟩ => ⟨S1x1024, .f32⟩
  | .hbm, ⟨3, _⟩ => ⟨S1x1024, .f32⟩
  | .hbm, ⟨4, _⟩ => ⟨S4, .i32⟩
  | .hbm, ⟨5, _⟩ => ⟨S4x256x256, .f32⟩
  | .hbm, ⟨6, _⟩ => ⟨S4x256x256, .bf16⟩
  | .hbm, ⟨7, _⟩ => ⟨S2048, .f32⟩
  | .hbm, ⟨8, _⟩ => ⟨S64, .f32⟩
  | .hbm, ⟨9, _⟩ => ⟨S_, .f32⟩
  | .hbm, ⟨10, _⟩ => ⟨S64, .f32⟩
  | .hbm, ⟨11, _⟩ => ⟨S64, .f32⟩
  | .hbm, ⟨12, _⟩ => ⟨S_, .f32⟩
  | .hbm, ⟨13, _⟩ => ⟨S64, .f32⟩
  | .hbm, ⟨14, _⟩ => ⟨S64, .f32⟩
  | .hbm, ⟨15, _⟩ => ⟨S_, .f32⟩
  | .hbm, ⟨16, _⟩ => ⟨S64, .f32⟩
  | .hbm, ⟨17, _⟩ => ⟨S64, .f32⟩
  | .hbm, ⟨18, _⟩ => ⟨S_, .f32⟩
  | .hbm, ⟨19, _⟩ => ⟨S64, .f32⟩
  | .hbm, ⟨20, _⟩ => ⟨S64, .f32⟩
  | .hbm, ⟨21, _⟩ => ⟨S_, .f32⟩
  | .hbm, ⟨22, _⟩ => ⟨S64, .f32⟩
  | .hbm, ⟨23, _⟩ => ⟨S64, .f32⟩
  | .hbm, ⟨24, _⟩ => ⟨S2048x1, .f32⟩
  | .hbm, ⟨25, _⟩ => ⟨S1x64, .f32⟩
  | .hbm, ⟨26, _⟩ => ⟨S2048x64, .f32⟩
  | .hbm, ⟨27, _⟩ => ⟨S2048x64, .f32⟩
  | .hbm, ⟨28, _⟩ => ⟨S2048x64, .f32⟩
  | .hbm, ⟨29, _⟩ => ⟨S2048x64, .f32⟩
  | .hbm, ⟨30, _⟩ => ⟨S2048x64, .f32⟩
  | .hbm, ⟨31, _⟩ => ⟨S2048x128, .f32⟩
  | .hbm, ⟨32, _⟩ => ⟨S2048x64, .f32⟩
  | .hbm, ⟨33, _⟩ => ⟨S2048x128, .f32⟩
  | .hbm, ⟨34, _⟩ => ⟨S_, .f32⟩
  | .hbm, ⟨35, _⟩ => ⟨S2048x128, .f32⟩
  | .hbm, ⟨36, _⟩ => ⟨S2048x128, .f32⟩
  | .hbm, ⟨37, _⟩ => ⟨S_, .f32⟩
  | .hbm, ⟨38, _⟩ => ⟨S2048x128, .f32⟩
  | .hbm, ⟨39, _⟩ => ⟨S2048x128, .f32⟩
  | .hbm, ⟨40, _⟩ => ⟨S2048x512, .f32⟩
  | .hbm, ⟨41, _⟩ => ⟨S8, .f32⟩
  | .hbm, ⟨42, _⟩ => ⟨S_, .f32⟩
  | .hbm, ⟨43, _⟩ => ⟨S8, .f32⟩
  | .hbm, ⟨44, _⟩ => ⟨S8, .f32⟩
  | .hbm, ⟨45, _⟩ => ⟨S_, .f32⟩
  | .hbm, ⟨46, _⟩ => ⟨S8, .f32⟩
  | .hbm, ⟨47, _⟩ => ⟨S8, .f32⟩
  | .hbm, ⟨48, _⟩ => ⟨S_, .f32⟩
  | .hbm, ⟨49, _⟩ => ⟨S8, .f32⟩
  | .hbm, ⟨50, _⟩ => ⟨S8, .f32⟩
  | .hbm, ⟨51, _⟩ => ⟨S128, .f32⟩
  | .hbm, ⟨52, _⟩ => ⟨S128x1, .f32⟩
  | .hbm, ⟨53, _⟩ => ⟨S1x128, .f32⟩
  | .hbm, ⟨54, _⟩ => ⟨S128x128, .f32⟩
  | .hbm, ⟨55, _⟩ => ⟨S128x128, .f32⟩
  | .hbm, ⟨56, _⟩ => ⟨S128x128, .f32⟩
  | .hbm, ⟨57, _⟩ => ⟨S1x128x128, .f32⟩
  | .hbm, ⟨58, _⟩ => ⟨S_, .f32⟩
  | .hbm, ⟨59, _⟩ => ⟨S1x128x128, .f32⟩
  | .hbm, ⟨60, _⟩ => ⟨S1x128x128, .i1⟩
  | .hbm, ⟨61, _⟩ => ⟨S8x1x1, .f32⟩
  | .hbm, ⟨62, _⟩ => ⟨S_, .f32⟩
  | .hbm, ⟨63, _⟩ => ⟨S128x128, .f32⟩
  | .hbm, ⟨64, _⟩ => ⟨S128x128, .f32⟩
  | .hbm, ⟨65, _⟩ => ⟨S1x128x128, .f32⟩
  | .hbm, ⟨66, _⟩ => ⟨S8x128x128, .f32⟩
  | .hbm, ⟨67, _⟩ => ⟨S8x128x128, .f32⟩
  | .hbm, ⟨68, _⟩ => ⟨S8x128x128, .f32⟩
  | .hbm, ⟨69, _⟩ => ⟨S_, .f32⟩
  | .hbm, ⟨70, _⟩ => ⟨S_, .f32⟩
  | .hbm, ⟨71, _⟩ => ⟨S8x128x128, .i1⟩
  | .hbm, ⟨72, _⟩ => ⟨S8x128x128, .f32⟩
  | .hbm, ⟨73, _⟩ => ⟨S8x128x128, .f32⟩
  | .hbm, ⟨74, _⟩ => ⟨S1x8, .f32⟩
  | .hbm, ⟨75, _⟩ => ⟨S128x1, .f32⟩
  | .hbm, ⟨76, _⟩ => ⟨S_, .f32⟩
  | .hbm, ⟨77, _⟩ => ⟨S128x1, .f32⟩
  | .hbm, ⟨78, _⟩ => ⟨S128x1, .f32⟩
  | .hbm, ⟨79, _⟩ => ⟨S128x8, .f32⟩
  | .hbm, ⟨80, _⟩ => ⟨S128x8, .f32⟩
  | .hbm, ⟨81, _⟩ => ⟨S128x8, .f32⟩
  | .hbm, ⟨82, _⟩ => ⟨S1x8, .f32⟩
  | .hbm, ⟨83, _⟩ => ⟨S128x1, .f32⟩
  | .hbm, ⟨84, _⟩ => ⟨S_, .f32⟩
  | .hbm, ⟨85, _⟩ => ⟨S128x1, .f32⟩
  | .hbm, ⟨86, _⟩ => ⟨S128x1, .f32⟩
  | .hbm, ⟨87, _⟩ => ⟨S128x8, .f32⟩
  | .hbm, ⟨88, _⟩ => ⟨S128x8, .f32⟩
  | .hbm, ⟨89, _⟩ => ⟨S128x8, .f32⟩
  | .hbm, ⟨90, _⟩ => ⟨S128x8x128, .f32⟩
  | .hbm, ⟨91, _⟩ => ⟨S128x1024, .f32⟩
  | .hbm, ⟨92, _⟩ => ⟨S128x8x128, .f32⟩
  | .hbm, ⟨93, _⟩ => ⟨S128x1024, .f32⟩
  | .hbm, ⟨94, _⟩ => ⟨S4x128x256, .i32⟩
  | .hbm, ⟨95, _⟩ => ⟨S_, .i32⟩
  | .hbm, ⟨96, _⟩ => ⟨S4x128x256, .i32⟩
  | .hbm, ⟨97, _⟩ => ⟨S4x128x256, .i32⟩
  | .hbm, ⟨98, _⟩ => ⟨S4x128x256, .i32⟩
  | .hbm, ⟨99, _⟩ => ⟨S4x128x256, .i32⟩
  | .hbm, ⟨100, _⟩ => ⟨S4x1x1, .i32⟩
  | .hbm, ⟨101, _⟩ => ⟨S_, .i32⟩
  | .hbm, ⟨102, _⟩ => ⟨S4x128x256, .i32⟩
  | .hbm, ⟨103, _⟩ => ⟨S4x128x256, .i1⟩
  | .hbm, ⟨104, _⟩ => ⟨S4x128x256, .i32⟩
  | .hbm, ⟨105, _⟩ => ⟨S4x128x256, .i1⟩
  | .hbm, ⟨106, _⟩ => ⟨S4x128x256, .i1⟩
  | .hbm, ⟨107, _⟩ => ⟨S_, .f32⟩
  | .hbm, ⟨108, _⟩ => ⟨S_, .f32⟩
  | .hbm, ⟨109, _⟩ => ⟨S4x128x256, .f32⟩
  | .hbm, ⟨110, _⟩ => ⟨S4x128x256, .f32⟩
  | .hbm, ⟨111, _⟩ => ⟨S4x128x256, .f32⟩
  | .hbm, ⟨112, _⟩ => ⟨S4x128x256, .bf16⟩
  | .hbm, ⟨113, _⟩ => ⟨S16384x2048, .bf16⟩
  | .local _ .vmem, ⟨0, _⟩ => ⟨S128x5120, .bf16⟩
  | .local _ .vmem, ⟨1, _⟩ => ⟨S128x5120, .bf16⟩
  | .local _ .vmem, ⟨2, _⟩ => ⟨S128x512, .f32⟩
  | .local _ .vmem, ⟨3, _⟩ => ⟨S128x512, .f32⟩
  | .local _ .vmem, ⟨4, _⟩ => ⟨S8x128x128, .f32⟩
  | .local _ .vmem, ⟨5, _⟩ => ⟨S128x1024, .f32⟩
  | .local _ .vmem, ⟨6, _⟩ => ⟨S128x1024, .f32⟩
  | .local _ .vmem, ⟨7, _⟩ => ⟨S4x128x256, .bf16⟩
  | .local _ .vmem, ⟨8, _⟩ => ⟨S4x256x256, .bf16⟩
  | .local _ .vmem, ⟨9, _⟩ => ⟨S1x1024, .f32⟩
  | .local _ .vmem, ⟨10, _⟩ => ⟨S1x1024, .f32⟩
  | .local _ .vmem, ⟨11, _⟩ => ⟨S128x2048, .bf16⟩
  | .local _ .vmem, ⟨12, _⟩ => ⟨S128x2048, .bf16⟩
  | .local _ .vmem, ⟨13, _⟩ => ⟨S256x1024, .bf16⟩
  | .local _ .vmem, ⟨14, _⟩ => ⟨S8x128x128, .f32⟩
  | _, _ => ⟨S16384x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_6 : Ref sig .tc := ⟨.hbm, 42, rfl⟩
abbrev main_v30 : Ref sig .tc := ⟨.hbm, 43, rfl⟩
abbrev main_v31 : Ref sig .tc := ⟨.hbm, 44, rfl⟩
abbrev main_cst_7 : Ref sig .tc := ⟨.hbm, 45, rfl⟩
abbrev main_v32 : Ref sig .tc := ⟨.hbm, 46, rfl⟩
abbrev main_v33 : Ref sig .tc := ⟨.hbm, 47, rfl⟩
abbrev main_cst_8 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_9 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_10 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_11 : Ref sig .tc := ⟨.hbm, 69, rfl⟩
abbrev main_call0_v0 : Ref sig .tc := ⟨.hbm, 70, rfl⟩
abbrev main_call0_v1 : Ref sig .tc := ⟨.hbm, 71, rfl⟩
abbrev main_call0_v2 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_12 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_cst_13 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_c_14 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_c_15 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_cst_16 : Ref sig .tc := ⟨.hbm, 107, rfl⟩
abbrev main_cst_17 : Ref sig .tc := ⟨.hbm, 108, rfl⟩
abbrev main_call1_v0 : Ref sig .tc := ⟨.hbm, 109, rfl⟩
abbrev main_call1_v1 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S128x5120 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S8x128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S4x128x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S4x256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S128x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== KernelIdeal.lean ====
variable {F : FTy → Type} [FloatOps F] [Named F]
def κ : String → Option EReal := fun
  | "g0" => some ((78396524673059168935135267129777069613296345595630703725521524943634535507969383755197623356051954795321353669855221370862828507625207993636119503453243704432660074542086103959358842624471041 / 4562440617622195218641171605700291324893228507248559930579192517899275167208677386505912811317371399778642309573594407310688704721375437998252661319722214188251994674360264950082874192246603776 : ℝ) : EReal)
  | "g1" => some ((206818950539439974611426494768646509052450548467862700447621795740222426769977288960977743464810862855020740953892191788741654107464722037227942902092362014238569158361477328071348684792194146041516068394618902177421160615463608321 / 1552518092300708935148979488462502555256886017116696611139052038026050952686376886330878408828646477950487730697131073206171580044114814391444287275041181139204454976020849905550265285631598444825262999193716468750892846853816057856 : ℝ) : EReal)
  | "g2" => some ((193587041323456767073378744577144446238302802122755626265377701497888780029664683420821685794909561110112747584183810952248255320179325448240268888426074358932225073573129703527667374571068332710586954198407984961320402885440313498999562662298934347135846335745400750081 / 528294531135665246352339784916516606518847326036121522127960709026673902556724859474417255887657187894674394993257128678882347559502685537250538978462939576908386683999005084168731517676426441053024232908211188404148028292751561738838396898767036476489538580897737998336 : ℝ) : EReal)
  | "g3" => some ((108928894366787909538482854136354399894027807047938726384754988597771177118744824750036685260233948099017113922415252234011703451806056104642801051378500851854629730635169211674367174308372494347446246524392175556695189741637351359098122801357656299133935250096489309214187191088285544537939131259918212890625 / 179769313486231590772930519078902473361797697894230657273430081157732675805500963132708477322407536021120113879871393357658789768814416622492847430639474124377767893424865485276302219601246094119453082952085005768838150682342462881473913110540827237163350510684586298239947245938479716304835356329624224137216 : ℝ) : EReal)
  | "g4" => some ((47629411692907116618449907612943127113503058551675946475726046321068673767448309433604978842042244727950808621043443846226460652335771338586632158945163132521668959777554552621550652820578661694876446670852176498616800683992861587538664151446101098738528916217395117383283261069385353239390029990732456890130741979784965471495112669402908501934081 / 61172327492847069472032393719205726809135813743440799050195397570919697796091958321786863938157971792315844506873509046544459008355036150650333616890210625686064472971480622053109783197015954399612052812141827922088117778074833698589048132156300022844899841969874763871624802603515651998113045708569927237462546233168834543264678118409417047146496 : ℝ) : EReal)
  | "g5" => some ((18368813940068701121309471031748546166409385177907889681567909204907843101356355113621789948457578423950951357861201635378353901841502083551214518705094576000801881609357528370927695345999771540811130220701806311437704123410191713207648461265752321556704891384575009631286846774765075276410443802620990291581417820693201927792904733968311586634391883874777008525219926635061949132308481 / 20815864389328798163850480654728171077230524494533409610638224700807216119346720596024478883464648369684843227908562015582767132496646929816279813211354641525848259018778440691546366699323167100945918841095379622423387354295096957733925002768876520583464697770622321657076833170056511209332449663781837603694136444406281042053396870977465916057756101739472373801429441421111406337458176 : ℝ) : EReal)
  | "g6" => some ((6654016306095794578375805711706083627451106248621586707412028597044408595312882379735073979112908018757447922758800571158845448981108241366532934936903543922134307313033151462922936471521739184867036790102713388902849653985362444399390130211558444266640229528797001241261265790623485036884367437026101609929603420057467875778203261521955819753306746817495538758501232080385332001279585751237624806311955763606715255754588161 / 7083271603906078757501937199839970337237042072752024044272935252133021449487672037753077279976540494138725768234495819230178699615482523444525217326451885295083794903354995236859949814158861106339793498427520403285563504697437506153794873484561573759163876734171825622767620957924878367969185009358384129424236514293956457858505582263102570156257796764049361854053114869322098725721757629614488965634874516982012228724064256 : ℝ) : EReal)
  | "g7" => some ((2336145996485715011108153785615776499858733148743538919007787240374300769161677364451330588546379393934710767297948693750212977182432144756693222913694201351415707587213845469885411951467421009026364398236912296974770937803354917816344076178184271938993357862007940537484988845481851311787727821040804576004627517636545830787600741566109129512685857776895668995836668969820089659981854127844078976793816477847952302188670216376298327531912946142256259918212890625 / 2410312426921032588580116606028314112912093247945688951359675039065257391591803200669085024107346049663448766280888004787862416978794958324969612987890774651455213339381625224770782077917681499676845543137387820057597345857904599109461387122099507964997815641342300677629473355281617428411794163967785870370368969109221591943054232011562758450080579587850900993714892283476646631181515063804873375182260506246992837898705971012525843324401232986857004760339316736 : ℝ) : EReal)
  | _ => none
-- ==== ReferenceIdeal.lean ====
abbrev S16384x5120 : Shape := ⟨2, ![16384, 5120]⟩
abbrev S1x4x256x256 : Shape := ⟨4, ![1, 4, 256, 256]⟩
abbrev S1x1024 : Shape := ⟨2, ![1, 1024]⟩
abbrev S8x2048x5120 : Shape := ⟨3, ![8, 2048, 5120]⟩
abbrev S2048 : Shape := ⟨1, ![2048]⟩
abbrev S64 : Shape := ⟨1, ![64]⟩
abbrev S_ : Shape := ⟨0, ![]⟩
abbrev S2048x1 : Shape := ⟨2, ![2048, 1]⟩
abbrev S1x64 : Shape := ⟨2, ![1, 64]⟩
abbrev S2048x64 : Shape := ⟨2, ![2048, 64]⟩
abbrev S8x2048x1024 : Shape := ⟨3, ![8, 2048, 1024]⟩
abbrev S4x256x256 : Shape := ⟨3, ![4, 256, 256]⟩
abbrev S1024 : Shape := ⟨1, ![1024]⟩
abbrev S8x2048x4x256 : Shape := ⟨4, ![8, 2048, 4, 256]⟩
abbrev S8x2048x1x256 : Shape := ⟨4, ![8, 2048, 1, 256]⟩
abbrev S8x2048x256 : Shape := ⟨3, ![8, 2048, 256]⟩
abbrev S8x2049x256 : Shape := ⟨3, ![8, 2049, 256]⟩
abbrev S1x2048x1 : Shape := ⟨3, ![1, 2048, 1]⟩
abbrev S8x2051x256 : Shape := ⟨3, ![8, 2051, 256]⟩
abbrev S8x2055x256 : Shape := ⟨3, ![8, 2055, 256]⟩
abbrev S8x2063x256 : Shape := ⟨3, ![8, 2063, 256]⟩
abbrev S4x256x8x2048 : Shape := ⟨4, ![4, 256, 8, 2048]⟩
abbrev S1x1x1024 : Shape := ⟨3, ![1, 1, 1024]⟩
abbrev S8x2048x8x128 : Shape := ⟨4, ![8, 2048, 8, 128]⟩
abbrev S8x2048x8x64 : Shape := ⟨4, ![8, 2048, 8, 64]⟩
abbrev S1x2048x1x64 : Shape := ⟨4, ![1, 2048, 1, 64]⟩
abbrev S8x16x128x8x128 : Shape := ⟨5, ![8, 16, 128, 8, 128]⟩
abbrev S8 : Shape := ⟨1, ![8]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S8x1x1 : Shape := ⟨3, ![8, 1, 1]⟩
abbrev S8x128x128 : Shape := ⟨3, ![8, 128, 128]⟩
abbrev S8x16x8x128x128 : Shape := ⟨5, ![8, 16, 8, 128, 128]⟩
abbrev S1x1x8x128x128 : Shape := ⟨5, ![1, 1, 8, 128, 128]⟩
abbrev S8x1 : Shape := ⟨2, ![8, 1]⟩
abbrev S8x128 : Shape := ⟨2, ![8, 128]⟩
abbrev S128x8 : Shape := ⟨2, ![128, 8]⟩
abbrev S1x1x128x8x1 : Shape := ⟨5, ![1, 1, 128, 8, 1]⟩
abbrev S16x8x8x128x128 : Shape := ⟨5, ![16, 8, 8, 128, 128]⟩
abbrev S8x8x128x128 : Shape := ⟨4, ![8, 8, 128, 128]⟩
abbrev S1x8x1x1 : Shape := ⟨4, ![1, 8, 1, 1]⟩
abbrev S1x8x8x128x128 : Shape := ⟨5, ![1, 8, 8, 128, 128]⟩
abbrev S8x2048x8 : Shape := ⟨3, ![8, 2048, 8]⟩
abbrev S8x2048x8x1 : Shape := ⟨4, ![8, 2048, 8, 1]⟩
abbrev S1x1x8x128 : Shape := ⟨4, ![1, 1, 8, 128]⟩
abbrev S8x2048x2048 : Shape := ⟨3, ![8, 2048, 2048]⟩
abbrev S16384x2048 : Shape := ⟨2, ![16384, 2048]⟩

abbrev nBuf : Space → Nat
  | .hbm => 480
  | .vmem => 0
  | .smem => 0
  | _ => 0

abbrev hbmTy0_0 (i : Nat) : BufTy := match i % 128 with
  | 0 => ⟨S16384x5120, .bf16⟩
  | 1 => ⟨S1x4x256x256, .f32⟩
  | 2 => ⟨S1x1024, .f32⟩
  | 3 => ⟨S1x1024, .f32⟩
  | 4 => ⟨S16384x5120, .f32⟩
  | 5 => ⟨S8x2048x5120, .f32⟩
  | 6 => ⟨S2048, .f32⟩
  | 7 => ⟨S64, .f32⟩
  | 8 => ⟨S_, .f32⟩
  | 9 => ⟨S64, .f32⟩
  | 10 => ⟨S64, .f32⟩
  | 11 => ⟨S_, .f32⟩
  | 12 => ⟨S64, .f32⟩
  | 13 => ⟨S64, .f32⟩
  | 14 => ⟨S_, .f32⟩
  | 15 => ⟨S64, .f32⟩
  | 16 => ⟨S64, .f32⟩
  | 17 => ⟨S_, .f32⟩
  | 18 => ⟨S64, .f32⟩
  | 19 => ⟨S64, .f32⟩
  | 20 => ⟨S_, .f32⟩
  | 21 => ⟨S64, .f32⟩
  | 22 => ⟨S64, .f32⟩
  | 23 => ⟨S2048x1, .f32⟩
  | 24 => ⟨S1x64, .f32⟩
  | 25 => ⟨S2048x64, .f32⟩
  | 26 => ⟨S2048x64, .f32⟩
  | 27 => ⟨S2048x64, .f32⟩
  | 28 => ⟨S2048x64, .f32⟩
  | 29 => ⟨S2048x64, .f32⟩
  | 30 => ⟨S8x2048x1024, .f32⟩
  | 31 => ⟨S8x2048x1024, .f32⟩
  | 32 => ⟨S8x2048x1024, .f32⟩
  | 33 => ⟨S8x2048x1024, .f32⟩
  | 34 => ⟨S8x2048x1024, .f32⟩
  | 35 => ⟨S4x256x256, .f32⟩
  | 36 => ⟨S1024, .f32⟩
  | 37 => ⟨S8x2048x4x256, .f32⟩
  | 38 => ⟨S2048, .i32⟩
  | 39 => ⟨S_, .i32⟩
  | 40 => ⟨S2048, .i32⟩
  | 41 => ⟨S2048, .i32⟩
  | 42 => ⟨S_, .i32⟩
  | 43 => ⟨S2048, .i32⟩
  | 44 => ⟨S2048, .i32⟩
  | 45 => ⟨S_, .i32⟩
  | 46 => ⟨S2048, .i32⟩
  | 47 => ⟨S2048, .i32⟩
  | 48 => ⟨S_, .i32⟩
  | 49 => ⟨S2048, .i32⟩
  | 50 => ⟨S2048, .i32⟩
  | 51 => ⟨S2048, .i32⟩
  | 52 => ⟨S2048, .f32⟩
  | 53 => ⟨S8x2048x1x256, .f32⟩
  | 54 => ⟨S8x2048x256, .f32⟩
  | 55 => ⟨S_, .i32⟩
  | 56 => ⟨S_, .f32⟩
  | 57 => ⟨S8x2049x256, .f32⟩
  | 58 => ⟨S8x2048x256, .f32⟩
  | 59 => ⟨S_, .f32⟩
  | 60 => ⟨S8x2048x256, .f32⟩
  | 61 => ⟨S8x2048x256, .f32⟩
  | 62 => ⟨S8x2048x256, .f32⟩
  | 63 => ⟨S8x2048x256, .f32⟩
  | 64 => ⟨S1x2048x1, .f32⟩
  | 65 => ⟨S8x2048x256, .f32⟩
  | 66 => ⟨S8x2048x256, .f32⟩
  | 67 => ⟨S_, .i32⟩
  | 68 => ⟨S2048, .i32⟩
  | 69 => ⟨S2048, .i32⟩
  | 70 => ⟨S_, .i32⟩
  | 71 => ⟨S2048, .i32⟩
  | 72 => ⟨S2048, .i32⟩
  | 73 => ⟨S_, .i32⟩
  | 74 => ⟨S2048, .i32⟩
  | 75 => ⟨S2048, .i32⟩
  | 76 => ⟨S_, .i32⟩
  | 77 => ⟨S2048, .i32⟩
  | 78 => ⟨S2048, .i32⟩
  | 79 => ⟨S2048, .i32⟩
  | 80 => ⟨S2048, .f32⟩
  | 81 => ⟨S8x2048x1x256, .f32⟩
  | 82 => ⟨S8x2048x256, .f32⟩
  | 83 => ⟨S_, .i32⟩
  | 84 => ⟨S_, .f32⟩
  | 85 => ⟨S8x2051x256, .f32⟩
  | 86 => ⟨S8x2048x256, .f32⟩
  | 87 => ⟨S_, .f32⟩
  | 88 => ⟨S8x2048x256, .f32⟩
  | 89 => ⟨S8x2048x256, .f32⟩
  | 90 => ⟨S8x2048x256, .f32⟩
  | 91 => ⟨S8x2048x256, .f32⟩
  | 92 => ⟨S8x2048x256, .f32⟩
  | 93 => ⟨S8x2048x256, .f32⟩
  | 94 => ⟨S8x2048x256, .f32⟩
  | 95 => ⟨S8x2048x256, .f32⟩
  | 96 => ⟨S1x2048x1, .f32⟩
  | 97 => ⟨S8x2048x256, .f32⟩
  | 98 => ⟨S8x2048x256, .f32⟩
  | 99 => ⟨S_, .i32⟩
  | 100 => ⟨S2048, .i32⟩
  | 101 => ⟨S2048, .i32⟩
  | 102 => ⟨S_, .i32⟩
  | 103 => ⟨S2048, .i32⟩
  | 104 => ⟨S2048, .i32⟩
  | 105 => ⟨S_, .i32⟩
  | 106 => ⟨S2048, .i32⟩
  | 107 => ⟨S2048, .i32⟩
  | 108 => ⟨S_, .i32⟩
  | 109 => ⟨S2048, .i32⟩
  | 110 => ⟨S2048, .i32⟩
  | 111 => ⟨S2048, .i32⟩
  | 112 => ⟨S2048, .f32⟩
  | 113 => ⟨S8x2048x1x256, .f32⟩
  | 114 => ⟨S8x2048x256, .f32⟩
  | 115 => ⟨S_, .i32⟩
  | 116 => ⟨S_, .f32⟩
  | 117 => ⟨S8x2055x256, .f32⟩
  | 118 => ⟨S8x2048x256, .f32⟩
  | 119 => ⟨S_, .f32⟩
  | 120 => ⟨S8x2048x256, .f32⟩
  | 121 => ⟨S8x2048x256, .f32⟩
  | 122 => ⟨S8x2048x256, .f32⟩
  | 123 => ⟨S8x2048x256, .f32⟩
  | 124 => ⟨S8x2048x256, .f32⟩
  | 125 => ⟨S8x2048x256, .f32⟩
  | 126 => ⟨S8x2048x256, .f32⟩
  | 127 => ⟨S8x2048x256, .f32⟩
  | _ => ⟨S16384x5120, .bf16⟩

abbrev hbmTy0_1 (i : Nat) : BufTy := match i % 128 with
  | 0 => ⟨S8x2048x256, .f32⟩
  | 1 => ⟨S8x2048x256, .f32⟩
  | 2 => ⟨S8x2048x256, .f32⟩
  | 3 => ⟨S8x2048x256, .f32⟩
  | 4 => ⟨S8x2048x256, .f32⟩
  | 5 => ⟨S8x2048x256, .f32⟩
  | 6 => ⟨S8x2048x256, .f32⟩
  | 7 => ⟨S8x2048x256, .f32⟩
  | 8 => ⟨S1x2048x1, .f32⟩
  | 9 => ⟨S8x2048x256, .f32⟩
  | 10 => ⟨S8x2048x256, .f32⟩
  | 11 => ⟨S_, .i32⟩
  | 12 => ⟨S2048, .i32⟩
  | 13 => ⟨S2048, .i32⟩
  | 14 => ⟨S_, .i32⟩
  | 15 => ⟨S2048, .i32⟩
  | 16 => ⟨S2048, .i32⟩
  | 17 => ⟨S_, .i32⟩
  | 18 => ⟨S2048, .i32⟩
  | 19 => ⟨S2048, .i32⟩
  | 20 => ⟨S_, .i32⟩
  | 21 => ⟨S2048, .i32⟩
  | 22 => ⟨S2048, .i32⟩
  | 23 => ⟨S2048, .i32⟩
  | 24 => ⟨S2048, .f32⟩
  | 25 => ⟨S8x2048x1x256, .f32⟩
  | 26 => ⟨S8x2048x256, .f32⟩
  | 27 => ⟨S_, .i32⟩
  | 28 => ⟨S_, .f32⟩
  | 29 => ⟨S8x2063x256, .f32⟩
  | 30 => ⟨S8x2048x256, .f32⟩
  | 31 => ⟨S_, .f32⟩
  | 32 => ⟨S8x2048x256, .f32⟩
  | 33 => ⟨S8x2048x256, .f32⟩
  | 34 => ⟨S8x2048x256, .f32⟩
  | 35 => ⟨S8x2048x256, .f32⟩
  | 36 => ⟨S8x2048x256, .f32⟩
  | 37 => ⟨S8x2048x256, .f32⟩
  | 38 => ⟨S8x2048x256, .f32⟩
  | 39 => ⟨S8x2048x256, .f32⟩
  | 40 => ⟨S8x2048x256, .f32⟩
  | 41 => ⟨S8x2048x256, .f32⟩
  | 42 => ⟨S8x2048x256, .f32⟩
  | 43 => ⟨S8x2048x256, .f32⟩
  | 44 => ⟨S8x2048x256, .f32⟩
  | 45 => ⟨S8x2048x256, .f32⟩
  | 46 => ⟨S8x2048x256, .f32⟩
  | 47 => ⟨S8x2048x256, .f32⟩
  | 48 => ⟨S8x2048x256, .f32⟩
  | 49 => ⟨S8x2048x256, .f32⟩
  | 50 => ⟨S8x2048x256, .f32⟩
  | 51 => ⟨S8x2048x256, .f32⟩
  | 52 => ⟨S8x2048x256, .f32⟩
  | 53 => ⟨S8x2048x256, .f32⟩
  | 54 => ⟨S8x2048x256, .f32⟩
  | 55 => ⟨S8x2048x256, .f32⟩
  | 56 => ⟨S8x2048x256, .f32⟩
  | 57 => ⟨S8x2048x256, .f32⟩
  | 58 => ⟨S8x2048x256, .f32⟩
  | 59 => ⟨S8x2048x256, .f32⟩
  | 60 => ⟨S8x2048x256, .f32⟩
  | 61 => ⟨S8x2048x256, .f32⟩
  | 62 => ⟨S8x2048x256, .f32⟩
  | 63 => ⟨S8x2048x256, .f32⟩
  | 64 => ⟨S1x2048x1, .f32⟩
  | 65 => ⟨S8x2048x256, .f32⟩
  | 66 => ⟨S8x2048x256, .f32⟩
  | 67 => ⟨S8x2048x1x256, .f32⟩
  | 68 => ⟨S8x2048x1x256, .f32⟩
  | 69 => ⟨S8x2048x1x256, .f32⟩
  | 70 => ⟨S8x2048x1x256, .f32⟩
  | 71 => ⟨S8x2048x4x256, .f32⟩
  | 72 => ⟨S8x2048x4x256, .f32⟩
  | 73 => ⟨S4x256x8x2048, .f32⟩
  | 74 => ⟨S8x2048x4x256, .f32⟩
  | 75 => ⟨S8x2048x1024, .f32⟩
  | 76 => ⟨S1x1x1024, .f32⟩
  | 77 => ⟨S8x2048x1024, .f32⟩
  | 78 => ⟨S8x2048x1024, .f32⟩
  | 79 => ⟨S8x2048x8x128, .f32⟩
  | 80 => ⟨S8x2048x8x64, .f32⟩
  | 81 => ⟨S8x2048x8x64, .f32⟩
  | 82 => ⟨S1x2048x1x64, .f32⟩
  | 83 => ⟨S1x2048x1x64, .f32⟩
  | 84 => ⟨S8x2048x8x64, .f32⟩
  | 85 => ⟨S8x2048x8x64, .f32⟩
  | 86 => ⟨S8x2048x8x64, .f32⟩
  | 87 => ⟨S8x2048x8x64, .f32⟩
  | 88 => ⟨S8x2048x8x64, .f32⟩
  | 89 => ⟨S8x2048x8x64, .f32⟩
  | 90 => ⟨S8x2048x8x64, .f32⟩
  | 91 => ⟨S8x2048x8x64, .f32⟩
  | 92 => ⟨S8x2048x8x64, .f32⟩
  | 93 => ⟨S8x2048x8x64, .f32⟩
  | 94 => ⟨S8x2048x8x128, .f32⟩
  | 95 => ⟨S8x2048x8x128, .f32⟩
  | 96 => ⟨S8x2048x8x64, .f32⟩
  | 97 => ⟨S8x2048x8x64, .f32⟩
  | 98 => ⟨S1x2048x1x64, .f32⟩
  | 99 => ⟨S1x2048x1x64, .f32⟩
  | 100 => ⟨S8x2048x8x64, .f32⟩
  | 101 => ⟨S8x2048x8x64, .f32⟩
  | 102 => ⟨S8x2048x8x64, .f32⟩
  | 103 => ⟨S8x2048x8x64, .f32⟩
  | 104 => ⟨S8x2048x8x64, .f32⟩
  | 105 => ⟨S8x2048x8x64, .f32⟩
  | 106 => ⟨S8x2048x8x64, .f32⟩
  | 107 => ⟨S8x2048x8x64, .f32⟩
  | 108 => ⟨S8x2048x8x64, .f32⟩
  | 109 => ⟨S8x2048x8x64, .f32⟩
  | 110 => ⟨S8x2048x8x128, .f32⟩
  | 111 => ⟨S_, .f32⟩
  | 112 => ⟨S8x2048x8x128, .f32⟩
  | 113 => ⟨S8x2048x8x128, .f32⟩
  | 114 => ⟨S8x2048x8x128, .f32⟩
  | 115 => ⟨S8x16x128x8x128, .f32⟩
  | 116 => ⟨S8x16x128x8x128, .f32⟩
  | 117 => ⟨S8x16x128x8x128, .f32⟩
  | 118 => ⟨S8, .f32⟩
  | 119 => ⟨S_, .f32⟩
  | 120 => ⟨S8, .f32⟩
  | 121 => ⟨S8, .f32⟩
  | 122 => ⟨S_, .f32⟩
  | 123 => ⟨S8, .f32⟩
  | 124 => ⟨S8, .f32⟩
  | 125 => ⟨S_, .f32⟩
  | 126 => ⟨S8, .f32⟩
  | 127 => ⟨S8, .f32⟩
  | _ => ⟨S16384x5120, .bf16⟩

abbrev hbmTy0_2 (i : Nat) : BufTy := match i % 128 with
  | 0 => ⟨S8, .f32⟩
  | 1 => ⟨S128, .f32⟩
  | 2 => ⟨S128x1, .f32⟩
  | 3 => ⟨S1x128, .f32⟩
  | 4 => ⟨S128x128, .f32⟩
  | 5 => ⟨S128x128, .f32⟩
  | 6 => ⟨S128x128, .f32⟩
  | 7 => ⟨S1x128x128, .f32⟩
  | 8 => ⟨S_, .f32⟩
  | 9 => ⟨S1x128x128, .f32⟩
  | 10 => ⟨S1x128x128, .i1⟩
  | 11 => ⟨S_, .f32⟩
  | 12 => ⟨S128x128, .f32⟩
  | 13 => ⟨S128x128, .f32⟩
  | 14 => ⟨S1x128x128, .f32⟩
  | 15 => ⟨S8x1x1, .f32⟩
  | 16 => ⟨S8x128x128, .f32⟩
  | 17 => ⟨S8x128x128, .f32⟩
  | 18 => ⟨S8x128x128, .f32⟩
  | 19 => ⟨S8x128x128, .f32⟩
  | 20 => ⟨S_, .f32⟩
  | 21 => ⟨S_, .f32⟩
  | 22 => ⟨S8x128x128, .i1⟩
  | 23 => ⟨S8x128x128, .f32⟩
  | 24 => ⟨S8x128x128, .f32⟩
  | 25 => ⟨S8x16x8x128x128, .f32⟩
  | 26 => ⟨S1x1x8x128x128, .f32⟩
  | 27 => ⟨S8x16x8x128x128, .f32⟩
  | 28 => ⟨S8x16x8x128x128, .f32⟩
  | 29 => ⟨S8x16x8x128x128, .f32⟩
  | 30 => ⟨S8x16x128x8x128, .f32⟩
  | 31 => ⟨S_, .f32⟩
  | 32 => ⟨S128, .f32⟩
  | 33 => ⟨S128, .f32⟩
  | 34 => ⟨S1x128, .f32⟩
  | 35 => ⟨S8x1, .f32⟩
  | 36 => ⟨S8x128, .f32⟩
  | 37 => ⟨S8x128, .f32⟩
  | 38 => ⟨S8x128, .f32⟩
  | 39 => ⟨S8x128, .f32⟩
  | 40 => ⟨S128x8, .f32⟩
  | 41 => ⟨S1x1x128x8x1, .f32⟩
  | 42 => ⟨S8x16x128x8x128, .f32⟩
  | 43 => ⟨S8x16x128x8x128, .f32⟩
  | 44 => ⟨S16x8x8x128x128, .f32⟩
  | 45 => ⟨S_, .f32⟩
  | 46 => ⟨S8, .f32⟩
  | 47 => ⟨S8, .f32⟩
  | 48 => ⟨S8, .f32⟩
  | 49 => ⟨S8x1x1, .f32⟩
  | 50 => ⟨S_, .f32⟩
  | 51 => ⟨S8x8x128x128, .f32⟩
  | 52 => ⟨S1x8x1x1, .f32⟩
  | 53 => ⟨S8x8x128x128, .f32⟩
  | 54 => ⟨S8x8x128x128, .f32⟩
  | 55 => ⟨S1x8x8x128x128, .f32⟩
  | 56 => ⟨S8x8x128x128, .f32⟩
  | 57 => ⟨S8x8x128x128, .f32⟩
  | 58 => ⟨S1x8x1x1, .f32⟩
  | 59 => ⟨S8x8x128x128, .f32⟩
  | 60 => ⟨S8x8x128x128, .f32⟩
  | 61 => ⟨S1x8x8x128x128, .f32⟩
  | 62 => ⟨S8x8x128x128, .f32⟩
  | 63 => ⟨S8x8x128x128, .f32⟩
  | 64 => ⟨S1x8x1x1, .f32⟩
  | 65 => ⟨S8x8x128x128, .f32⟩
  | 66 => ⟨S8x8x128x128, .f32⟩
  | 67 => ⟨S1x8x8x128x128, .f32⟩
  | 68 => ⟨S8x8x128x128, .f32⟩
  | 69 => ⟨S8x8x128x128, .f32⟩
  | 70 => ⟨S1x8x1x1, .f32⟩
  | 71 => ⟨S8x8x128x128, .f32⟩
  | 72 => ⟨S8x8x128x128, .f32⟩
  | 73 => ⟨S1x8x8x128x128, .f32⟩
  | 74 => ⟨S8x8x128x128, .f32⟩
  | 75 => ⟨S8x8x128x128, .f32⟩
  | 76 => ⟨S1x8x1x1, .f32⟩
  | 77 => ⟨S8x8x128x128, .f32⟩
  | 78 => ⟨S8x8x128x128, .f32⟩
  | 79 => ⟨S1x8x8x128x128, .f32⟩
  | 80 => ⟨S8x8x128x128, .f32⟩
  | 81 => ⟨S8x8x128x128, .f32⟩
  | 82 => ⟨S1x8x1x1, .f32⟩
  | 83 => ⟨S8x8x128x128, .f32⟩
  | 84 => ⟨S8x8x128x128, .f32⟩
  | 85 => ⟨S1x8x8x128x128, .f32⟩
  | 86 => ⟨S8x8x128x128, .f32⟩
  | 87 => ⟨S8x8x128x128, .f32⟩
  | 88 => ⟨S1x8x1x1, .f32⟩
  | 89 => ⟨S8x8x128x128, .f32⟩
  | 90 => ⟨S8x8x128x128, .f32⟩
  | 91 => ⟨S1x8x8x128x128, .f32⟩
  | 92 => ⟨S8x8x128x128, .f32⟩
  | 93 => ⟨S8x8x128x128, .f32⟩
  | 94 => ⟨S1x8x1x1, .f32⟩
  | 95 => ⟨S8x8x128x128, .f32⟩
  | 96 => ⟨S8x8x128x128, .f32⟩
  | 97 => ⟨S1x8x8x128x128, .f32⟩
  | 98 => ⟨S8x8x128x128, .f32⟩
  | 99 => ⟨S8x8x128x128, .f32⟩
  | 100 => ⟨S1x8x1x1, .f32⟩
  | 101 => ⟨S8x8x128x128, .f32⟩
  | 102 => ⟨S8x8x128x128, .f32⟩
  | 103 => ⟨S1x8x8x128x128, .f32⟩
  | 104 => ⟨S8x8x128x128, .f32⟩
  | 105 => ⟨S8x8x128x128, .f32⟩
  | 106 => ⟨S1x8x1x1, .f32⟩
  | 107 => ⟨S8x8x128x128, .f32⟩
  | 108 => ⟨S8x8x128x128, .f32⟩
  | 109 => ⟨S1x8x8x128x128, .f32⟩
  | 110 => ⟨S8x8x128x128, .f32⟩
  | 111 => ⟨S8x8x128x128, .f32⟩
  | 112 => ⟨S1x8x1x1, .f32⟩
  | 113 => ⟨S8x8x128x128, .f32⟩
  | 114 => ⟨S8x8x128x128, .f32⟩
  | 115 => ⟨S1x8x8x128x128, .f32⟩
  | 116 => ⟨S8x8x128x128, .f32⟩
  | 117 => ⟨S8x8x128x128, .f32⟩
  | 118 => ⟨S1x8x1x1, .f32⟩
  | 119 => ⟨S8x8x128x128, .f32⟩
  | 120 => ⟨S8x8x128x128, .f32⟩
  | 121 => ⟨S1x8x8x128x128, .f32⟩
  | 122 => ⟨S8x8x128x128, .f32⟩
  | 123 => ⟨S8x8x128x128, .f32⟩
  | 124 => ⟨S1x8x1x1, .f32⟩
  | 125 => ⟨S8x8x128x128, .f32⟩
  | 126 => ⟨S8x8x128x128, .f32⟩
  | 127 => ⟨S1x8x8x128x128, .f32⟩
  | _ => ⟨S16384x5120, .bf16⟩

abbrev hbmTy0_3 (i : Nat) : BufTy := match i % 128 with
  | 0 => ⟨S8x8x128x128, .f32⟩
  | 1 => ⟨S8x8x128x128, .f32⟩
  | 2 => ⟨S1x8x1x1, .f32⟩
  | 3 => ⟨S8x8x128x128, .f32⟩
  | 4 => ⟨S8x8x128x128, .f32⟩
  | 5 => ⟨S1x8x8x128x128, .f32⟩
  | 6 => ⟨S8x8x128x128, .f32⟩
  | 7 => ⟨S8x8x128x128, .f32⟩
  | 8 => ⟨S1x8x1x1, .f32⟩
  | 9 => ⟨S8x8x128x128, .f32⟩
  | 10 => ⟨S8x8x128x128, .f32⟩
  | 11 => ⟨S1x8x8x128x128, .f32⟩
  | 12 => ⟨S8x8x128x128, .f32⟩
  | 13 => ⟨S8x8x128x128, .f32⟩
  | 14 => ⟨S1x8x1x1, .f32⟩
  | 15 => ⟨S8x8x128x128, .f32⟩
  | 16 => ⟨S8x8x128x128, .f32⟩
  | 17 => ⟨S1x8x8x128x128, .f32⟩
  | 18 => ⟨S8x8x128x128, .f32⟩
  | 19 => ⟨S8x8x128x128, .f32⟩
  | 20 => ⟨S1x8x8x128x128, .f32⟩
  | 21 => ⟨S1x8x8x128x128, .f32⟩
  | 22 => ⟨S1x8x8x128x128, .f32⟩
  | 23 => ⟨S1x8x8x128x128, .f32⟩
  | 24 => ⟨S1x8x8x128x128, .f32⟩
  | 25 => ⟨S1x8x8x128x128, .f32⟩
  | 26 => ⟨S1x8x8x128x128, .f32⟩
  | 27 => ⟨S1x8x8x128x128, .f32⟩
  | 28 => ⟨S1x8x8x128x128, .f32⟩
  | 29 => ⟨S1x8x8x128x128, .f32⟩
  | 30 => ⟨S1x8x8x128x128, .f32⟩
  | 31 => ⟨S1x8x8x128x128, .f32⟩
  | 32 => ⟨S1x8x8x128x128, .f32⟩
  | 33 => ⟨S1x8x8x128x128, .f32⟩
  | 34 => ⟨S1x8x8x128x128, .f32⟩
  | 35 => ⟨S1x8x8x128x128, .f32⟩
  | 36 => ⟨S16x8x8x128x128, .f32⟩
  | 37 => ⟨S_, .f32⟩
  | 38 => ⟨S128, .f32⟩
  | 39 => ⟨S128, .f32⟩
  | 40 => ⟨S1x128, .f32⟩
  | 41 => ⟨S8x1, .f32⟩
  | 42 => ⟨S8x128, .f32⟩
  | 43 => ⟨S8x128, .f32⟩
  | 44 => ⟨S8x128, .f32⟩
  | 45 => ⟨S8x128, .f32⟩
  | 46 => ⟨S8x16x8x128x128, .f32⟩
  | 47 => ⟨S8x16x128x8x128, .f32⟩
  | 48 => ⟨S128x8, .f32⟩
  | 49 => ⟨S1x1x128x8x1, .f32⟩
  | 50 => ⟨S8x16x128x8x128, .f32⟩
  | 51 => ⟨S8x16x128x8x128, .f32⟩
  | 52 => ⟨S8x16x128x8x128, .f32⟩
  | 53 => ⟨S8x2048x8x128, .f32⟩
  | 54 => ⟨S1024, .f32⟩
  | 55 => ⟨S8x128, .f32⟩
  | 56 => ⟨S_, .f32⟩
  | 57 => ⟨S8x2048x8, .f32⟩
  | 58 => ⟨S8x2048x8x1, .f32⟩
  | 59 => ⟨S_, .f32⟩
  | 60 => ⟨S8x2048x8x1, .f32⟩
  | 61 => ⟨S8x2048x8x1, .f32⟩
  | 62 => ⟨S8x2048x8x128, .f32⟩
  | 63 => ⟨S8x2048x8x128, .f32⟩
  | 64 => ⟨S8x2048x8x128, .f32⟩
  | 65 => ⟨S_, .f32⟩
  | 66 => ⟨S8x2048x8, .f32⟩
  | 67 => ⟨S8x2048x8x1, .f32⟩
  | 68 => ⟨S_, .f32⟩
  | 69 => ⟨S8x2048x8x1, .f32⟩
  | 70 => ⟨S8x2048x8x1, .f32⟩
  | 71 => ⟨S8x2048x8x128, .f32⟩
  | 72 => ⟨S8x2048x8x128, .f32⟩
  | 73 => ⟨S_, .f32⟩
  | 74 => ⟨S8x2048x8x1, .f32⟩
  | 75 => ⟨S8x2048x8x1, .f32⟩
  | 76 => ⟨S8x2048x8x1, .f32⟩
  | 77 => ⟨S8x2048x8x128, .f32⟩
  | 78 => ⟨S8x2048x8x128, .f32⟩
  | 79 => ⟨S1x1x8x128, .f32⟩
  | 80 => ⟨S8x2048x8x128, .f32⟩
  | 81 => ⟨S8x2048x8x128, .f32⟩
  | 82 => ⟨S8x2048x1024, .f32⟩
  | 83 => ⟨S8x2048x1024, .f32⟩
  | 84 => ⟨S8x2048x1024, .f32⟩
  | 85 => ⟨S_, .f32⟩
  | 86 => ⟨S8x2048x1024, .f32⟩
  | 87 => ⟨S8x2048x1024, .f32⟩
  | 88 => ⟨S_, .f32⟩
  | 89 => ⟨S8x2048x1024, .f32⟩
  | 90 => ⟨S8x2048x1024, .f32⟩
  | 91 => ⟨S8x2048x1024, .f32⟩
  | 92 => ⟨S8x2048x1024, .f32⟩
  | 93 => ⟨S8x2048x2048, .f32⟩
  | 94 => ⟨S16384x2048, .f32⟩
  | 95 => ⟨S16384x2048, .bf16⟩
  | _ => ⟨S16384x5120, .bf16⟩

abbrev hbmTy (i : Nat) : BufTy := match i / 128 with
  | 0 => hbmTy0_0 i
  | 1 => hbmTy0_1 i
  | 2 => hbmTy0_2 i
  | 3 => hbmTy0_3 i
  | _ => ⟨S16384x5120, .bf16⟩

abbrev bufTy : (tb : Table) → Fin (tcTables nBuf tb) → BufTy
  | .hbm, ⟨i, _⟩ => hbmTy i
  | _, _ => ⟨S16384x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_c : Ref sig .tc := ⟨.hbm, 39, rfl⟩
abbrev main_v30 : Ref sig .tc := ⟨.hbm, 40, rfl⟩
abbrev main_v31 : Ref sig .tc := ⟨.hbm, 41, rfl⟩
abbrev main_c_4 : Ref sig .tc := ⟨.hbm, 42, rfl⟩
abbrev main_v32 : Ref sig .tc := ⟨.hbm, 43, rfl⟩
abbrev main_v33 : Ref sig .tc := ⟨.hbm, 44, rfl⟩
abbrev main_c_5 : Ref sig .tc := ⟨.hbm, 45, rfl⟩
abbrev main_v34 : Ref sig .tc := ⟨.hbm, 46, rfl⟩
abbrev main_v35 : Ref sig .tc := ⟨.hbm, 47, rfl⟩
abbrev main_c_6 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_c_7 : Ref sig .tc := ⟨.hbm, 55, rfl⟩
abbrev main_call0_v0 : Ref sig .tc := ⟨.hbm, 56, rfl⟩
abbrev main_v42 : Ref sig .tc := ⟨.hbm, 57, rfl⟩
abbrev main_v43 : Ref sig .tc := ⟨.hbm, 58, rfl⟩
abbrev main_cst_8 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_c_9 : Ref sig .tc := ⟨.hbm, 67, rfl⟩
abbrev main_v51 : Ref sig .tc := ⟨.hbm, 68, rfl⟩
abbrev main_v52 : Ref sig .tc := ⟨.hbm, 69, rfl⟩
abbrev main_c_10 : Ref sig .tc := ⟨.hbm, 70, rfl⟩
abbrev main_v53 : Ref sig .tc := ⟨.hbm, 71, rfl⟩
abbrev main_v54 : Ref sig .tc := ⟨.hbm, 72, rfl⟩
abbrev main_c_11 : Ref sig .tc := ⟨.hbm, 73, rfl⟩
abbrev main_v55 : Ref sig .tc := ⟨.hbm, 74, rfl⟩
abbrev main_v56 : Ref sig .tc := ⟨.hbm, 75, rfl⟩
abbrev main_c_12 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_c_13 : Ref sig .tc := ⟨.hbm, 83, rfl⟩
abbrev main_call1_v0 : Ref sig .tc := ⟨.hbm, 84, rfl⟩
abbrev main_v63 : Ref sig .tc := ⟨.hbm, 85, rfl⟩
abbrev main_v64 : Ref sig .tc := ⟨.hbm, 86, rfl⟩
abbrev main_cst_14 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_c_15 : Ref sig .tc := ⟨.hbm, 99, rfl⟩
abbrev main_v76 : Ref sig .tc := ⟨.hbm, 100, rfl⟩
abbrev main_v77 : Ref sig .tc := ⟨.hbm, 101, rfl⟩
abbrev main_c_16 : Ref sig .tc := ⟨.hbm, 102, rfl⟩
abbrev main_v78 : Ref sig .tc := ⟨.hbm, 103, rfl⟩
abbrev main_v79 : Ref sig .tc := ⟨.hbm, 104, rfl⟩
abbrev main_c_17 : Ref sig .tc := ⟨.hbm, 105, rfl⟩
abbrev main_v80 : Ref sig .tc := ⟨.hbm, 106, rfl⟩
abbrev main_v81 : Ref sig .tc := ⟨.hbm, 107, rfl⟩
abbrev main_c_18 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_c_19 : Ref sig .tc := ⟨.hbm, 115, rfl⟩
abbrev main_call2_v0 : Ref sig .tc := ⟨.hbm, 116, rfl⟩
abbrev main_v88 : Ref sig .tc := ⟨.hbm, 117, rfl⟩
abbrev main_v89 : Ref sig .tc := ⟨.hbm, 118, rfl⟩
abbrev main_cst_20 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_c_21 : Ref sig .tc := ⟨.hbm, 139, rfl⟩
abbrev main_v109 : Ref sig .tc := ⟨.hbm, 140, rfl⟩
abbrev main_v110 : Ref sig .tc := ⟨.hbm, 141, rfl⟩
abbrev main_c_22 : Ref sig .tc := ⟨.hbm, 142, rfl⟩
abbrev main_v111 : Ref sig .tc := ⟨.hbm, 143, rfl⟩
abbrev main_v112 : Ref sig .tc := ⟨.hbm, 144, rfl⟩
abbrev main_c_23 : Ref sig .tc := ⟨.hbm, 145, rfl⟩
abbrev main_v113 : Ref sig .tc := ⟨.hbm, 146, rfl⟩
abbrev main_v114 : Ref sig .tc := ⟨.hbm, 147, rfl⟩
abbrev main_c_24 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_c_25 : Ref sig .tc := ⟨.hbm, 155, rfl⟩
abbrev main_call3_v0 : Ref sig .tc := ⟨.hbm, 156, rfl⟩
abbrev main_v121 : Ref sig .tc := ⟨.hbm, 157, rfl⟩
abbrev main_v122 : Ref sig .tc := ⟨.hbm, 158, rfl⟩
abbrev main_cst_26 : Ref sig .tc := ⟨.hbm, 159, rfl⟩
abbrev main_v123 : Ref sig .tc := ⟨.hbm, 160, rfl⟩
abbrev main_v124 : Ref sig .tc := ⟨.hbm, 161, rfl⟩
abbrev main_v125 : Ref sig .tc := ⟨.hbm, 162, rfl⟩
abbrev main_v126 : Ref sig .tc := ⟨.hbm, 163, rfl⟩
abbrev main_v127 : Ref sig .tc := ⟨.hbm, 164, rfl⟩
abbrev main_v128 : Ref sig .tc := ⟨.hbm, 165, rfl⟩
abbrev main_v129 : Ref sig .tc := ⟨.hbm, 166, rfl⟩
abbrev main_v130 : Ref sig .tc := ⟨.hbm, 167, rfl⟩
abbrev main_v131 : Ref sig .tc := ⟨.hbm, 168, rfl⟩
abbrev main_v132 : Ref sig .tc := ⟨.hbm, 169, rfl⟩
abbrev main_v133 : Ref sig .tc := ⟨.hbm, 170, rfl⟩
abbrev main_v134 : Ref sig .tc := ⟨.hbm, 171, rfl⟩
abbrev main_v135 : Ref sig .tc := ⟨.hbm, 172, rfl⟩
abbrev main_v136 : Ref sig .tc := ⟨.hbm, 173, rfl⟩
abbrev main_v137 : Ref sig .tc := ⟨.hbm, 174, rfl⟩
abbrev main_v138 : Ref sig .tc := ⟨.hbm, 175, rfl⟩
abbrev main_v139 : Ref sig .tc := ⟨.hbm, 176, rfl⟩
abbrev main_v140 : Ref sig .tc := ⟨.hbm, 177, rfl⟩
abbrev main_v141 : Ref sig .tc := ⟨.hbm, 178, rfl⟩
abbrev main_v142 : Ref sig .tc := ⟨.hbm, 179, rfl⟩
abbrev main_v143 : Ref sig .tc := ⟨.hbm, 180, rfl⟩
abbrev main_v144 : Ref sig .tc := ⟨.hbm, 181, rfl⟩
abbrev main_v145 : Ref sig .tc := ⟨.hbm, 182, rfl⟩
abbrev main_v146 : Ref sig .tc := ⟨.hbm, 183, rfl⟩
abbrev main_v147 : Ref sig .tc := ⟨.hbm, 184, rfl⟩
abbrev main_v148 : Ref sig .tc := ⟨.hbm, 185, rfl⟩
abbrev main_v149 : Ref sig .tc := ⟨.hbm, 186, rfl⟩
abbrev main_v150 : Ref sig .tc := ⟨.hbm, 187, rfl⟩
abbrev main_v151 : Ref sig .tc := ⟨.hbm, 188, rfl⟩
abbrev main_v152 : Ref sig .tc := ⟨.hbm, 189, rfl⟩
abbrev main_v153 : Ref sig .tc := ⟨.hbm, 190, rfl⟩
abbrev main_v154 : Ref sig .tc := ⟨.hbm, 191, rfl⟩
abbrev main_v155 : Ref sig .tc := ⟨.hbm, 192, rfl⟩
abbrev main_v156 : Ref sig .tc := ⟨.hbm, 193, rfl⟩
abbrev main_v157 : Ref sig .tc := ⟨.hbm, 194, rfl⟩
abbrev main_v158 : Ref sig .tc := ⟨.hbm, 195, rfl⟩
abbrev main_v159 : Ref sig .tc := ⟨.hbm, 196, rfl⟩
abbrev main_v160 : Ref sig .tc := ⟨.hbm, 197, rfl⟩
abbrev main_v161 : Ref sig .tc := ⟨.hbm, 198, rfl⟩
abbrev main_v162 : Ref sig .tc := ⟨.hbm, 199, rfl⟩
abbrev main_v163 : Ref sig .tc := ⟨.hbm, 200, rfl⟩
abbrev main_v164 : Ref sig .tc := ⟨.hbm, 201, rfl⟩
abbrev main_v165 : Ref sig .tc := ⟨.hbm, 202, rfl⟩
abbrev main_v166 : Ref sig .tc := ⟨.hbm, 203, rfl⟩
abbrev main_v167 : Ref sig .tc := ⟨.hbm, 204, rfl⟩
abbrev main_v168 : Ref sig .tc := ⟨.hbm, 205, rfl⟩
abbrev main_v169 : Ref sig .tc := ⟨.hbm, 206, rfl⟩
abbrev main_v170 : Ref sig .tc := ⟨.hbm, 207, rfl⟩
abbrev main_v171 : Ref sig .tc := ⟨.hbm, 208, rfl⟩
abbrev main_v172 : Ref sig .tc := ⟨.hbm, 209, rfl⟩
abbrev main_v173 : Ref sig .tc := ⟨.hbm, 210, rfl⟩
abbrev main_v174 : Ref sig .tc := ⟨.hbm, 211, rfl⟩
abbrev main_v175 : Ref sig .tc := ⟨.hbm, 212, rfl⟩
abbrev main_v176 : Ref sig .tc := ⟨.hbm, 213, rfl⟩
abbrev main_v177 : Ref sig .tc := ⟨.hbm, 214, rfl⟩
abbrev main_v178 : Ref sig .tc := ⟨.hbm, 215, rfl⟩
abbrev main_v179 : Ref sig .tc := ⟨.hbm, 216, rfl⟩
abbrev main_v180 : Ref sig .tc := ⟨.hbm, 217, rfl⟩
abbrev main_v181 : Ref sig .tc := ⟨.hbm, 218, rfl⟩
abbrev main_v182 : Ref sig .tc := ⟨.hbm, 219, rfl⟩
abbrev main_v183 : Ref sig .tc := ⟨.hbm, 220, rfl⟩
abbrev main_v184 : Ref sig .tc := ⟨.hbm, 221, rfl⟩
abbrev main_v185 : Ref sig .tc := ⟨.hbm, 222, rfl⟩
abbrev main_v186 : Ref sig .tc := ⟨.hbm, 223, rfl⟩
abbrev main_v187 : Ref sig .tc := ⟨.hbm, 224, rfl⟩
abbrev main_v188 : Ref sig .tc := ⟨.hbm, 225, rfl⟩
abbrev main_v189 : Ref sig .tc := ⟨.hbm, 226, rfl⟩
abbrev main_v190 : Ref sig .tc := ⟨.hbm, 227, rfl⟩
abbrev main_v191 : Ref sig .tc := ⟨.hbm, 228, rfl⟩
abbrev main_v192 : Ref sig .tc := ⟨.hbm, 229, rfl⟩
abbrev main_v193 : Ref sig .tc := ⟨.hbm, 230, rfl⟩
abbrev main_v194 : Ref sig .tc := ⟨.hbm, 231, rfl⟩
abbrev main_v195 : Ref sig .tc := ⟨.hbm, 232, rfl⟩
abbrev main_v196 : Ref sig .tc := ⟨.hbm, 233, rfl⟩
abbrev main_v197 : Ref sig .tc := ⟨.hbm, 234, rfl⟩
abbrev main_v198 : Ref sig .tc := ⟨.hbm, 235, rfl⟩
abbrev main_v199 : Ref sig .tc := ⟨.hbm, 236, rfl⟩
abbrev main_v200 : Ref sig .tc := ⟨.hbm, 237, rfl⟩
abbrev main_v201 : Ref sig .tc := ⟨.hbm, 238, rfl⟩
abbrev main_cst_27 : Ref sig .tc := ⟨.hbm, 239, rfl⟩
abbrev main_v202 : Ref sig .tc := ⟨.hbm, 240, rfl⟩
abbrev main_v203 : Ref sig .tc := ⟨.hbm, 241, rfl⟩
abbrev main_v204 : Ref sig .tc := ⟨.hbm, 242, rfl⟩
abbrev main_v205 : Ref sig .tc := ⟨.hbm, 243, rfl⟩
abbrev main_v206 : Ref sig .tc := ⟨.hbm, 244, rfl⟩
abbrev main_v207 : Ref sig .tc := ⟨.hbm, 245, rfl⟩
abbrev main_v208 : Ref sig .tc := ⟨.hbm, 246, rfl⟩
abbrev main_cst_28 : Ref sig .tc := ⟨.hbm, 247, rfl⟩
abbrev main_v209 : Ref sig .tc := ⟨.hbm, 248, rfl⟩
abbrev main_v210 : Ref sig .tc := ⟨.hbm, 249, rfl⟩
abbrev main_cst_29 : Ref sig .tc := ⟨.hbm, 250, rfl⟩
abbrev main_v211 : Ref sig .tc := ⟨.hbm, 251, rfl⟩
abbrev main_v212 : Ref sig .tc := ⟨.hbm, 252, rfl⟩
abbrev main_cst_30 : Ref sig .tc := ⟨.hbm, 253, rfl⟩
abbrev main_v213 : Ref sig .tc := ⟨.hbm, 254, rfl⟩
abbrev main_v214 : Ref sig .tc := ⟨.hbm, 255, rfl⟩
abbrev main_v215 : Ref sig .tc := ⟨.hbm, 256, rfl⟩
abbrev main_v216 : Ref sig .tc := ⟨.hbm, 257, rfl⟩
abbrev main_v217 : Ref sig .tc := ⟨.hbm, 258, rfl⟩
abbrev main_v218 : Ref sig .tc := ⟨.hbm, 259, rfl⟩
abbrev main_v219 : Ref sig .tc := ⟨.hbm, 260, rfl⟩
abbrev main_v220 : Ref sig .tc := ⟨.hbm, 261, rfl⟩
abbrev main_v221 : Ref sig .tc := ⟨.hbm, 262, rfl⟩
abbrev main_v222 : Ref sig .tc := ⟨.hbm, 263, rfl⟩
abbrev main_cst_31 : Ref sig .tc := ⟨.hbm, 264, rfl⟩
abbrev main_v223 : Ref sig .tc := ⟨.hbm, 265, rfl⟩
abbrev main_v224 : Ref sig .tc := ⟨.hbm, 266, rfl⟩
abbrev main_cst_32 : Ref sig .tc := ⟨.hbm, 267, rfl⟩
abbrev main_v225 : Ref sig .tc := ⟨.hbm, 268, rfl⟩
abbrev main_v226 : Ref sig .tc := ⟨.hbm, 269, rfl⟩
abbrev main_v227 : Ref sig .tc := ⟨.hbm, 270, rfl⟩
abbrev main_v228 : Ref sig .tc := ⟨.hbm, 271, rfl⟩
abbrev main_v229 : Ref sig .tc := ⟨.hbm, 272, rfl⟩
abbrev main_v230 : Ref sig .tc := ⟨.hbm, 273, rfl⟩
abbrev main_v231 : Ref sig .tc := ⟨.hbm, 274, rfl⟩
abbrev main_v232 : Ref sig .tc := ⟨.hbm, 275, rfl⟩
abbrev main_cst_33 : Ref sig .tc := ⟨.hbm, 276, rfl⟩
abbrev main_call4_v0 : Ref sig .tc := ⟨.hbm, 277, rfl⟩
abbrev main_call4_v1 : Ref sig .tc := ⟨.hbm, 278, rfl⟩
abbrev main_call4_v2 : Ref sig .tc := ⟨.hbm, 279, rfl⟩
abbrev main_v233 : Ref sig .tc := ⟨.hbm, 280, rfl⟩
abbrev main_v234 : Ref sig .tc := ⟨.hbm, 281, rfl⟩
abbrev main_v235 : Ref sig .tc := ⟨.hbm, 282, rfl⟩
abbrev main_v236 : Ref sig .tc := ⟨.hbm, 283, rfl⟩
abbrev main_v237 : Ref sig .tc := ⟨.hbm, 284, rfl⟩
abbrev main_v238 : Ref sig .tc := ⟨.hbm, 285, rfl⟩
abbrev main_v239 : Ref sig .tc := ⟨.hbm, 286, rfl⟩
abbrev main_cst_34 : Ref sig .tc := ⟨.hbm, 287, rfl⟩
abbrev main_v240 : Ref sig .tc := ⟨.hbm, 288, rfl⟩
abbrev main_v241 : Ref sig .tc := ⟨.hbm, 289, rfl⟩
abbrev main_v242 : Ref sig .tc := ⟨.hbm, 290, rfl⟩
abbrev main_v243 : Ref sig .tc := ⟨.hbm, 291, rfl⟩
abbrev main_v244 : Ref sig .tc := ⟨.hbm, 292, rfl⟩
abbrev main_v245 : Ref sig .tc := ⟨.hbm, 293, rfl⟩
abbrev main_v246 : Ref sig .tc := ⟨.hbm, 294, rfl⟩
abbrev main_v247 : Ref sig .tc := ⟨.hbm, 295, rfl⟩
abbrev main_v248 : Ref sig .tc := ⟨.hbm, 296, rfl⟩
abbrev main_v249 : Ref sig .tc := ⟨.hbm, 297, rfl⟩
abbrev main_v250 : Ref sig .tc := ⟨.hbm, 298, rfl⟩
abbrev main_v251 : Ref sig .tc := ⟨.hbm, 299, rfl⟩
abbrev main_v252 : Ref sig .tc := ⟨.hbm, 300, rfl⟩
abbrev main_cst_35 : Ref sig .tc := ⟨.hbm, 301, rfl⟩
abbrev main_v253 : Ref sig .tc := ⟨.hbm, 302, rfl⟩
abbrev main_v254 : Ref sig .tc := ⟨.hbm, 303, rfl⟩
abbrev main_v255 : Ref sig .tc := ⟨.hbm, 304, rfl⟩
abbrev main_v256 : Ref sig .tc := ⟨.hbm, 305, rfl⟩
abbrev main_cst_36 : Ref sig .tc := ⟨.hbm, 306, rfl⟩
abbrev main_v257 : Ref sig .tc := ⟨.hbm, 307, rfl⟩
abbrev main_v258 : Ref sig .tc := ⟨.hbm, 308, rfl⟩
abbrev main_v259 : Ref sig .tc := ⟨.hbm, 309, rfl⟩
abbrev main_v260 : Ref sig .tc := ⟨.hbm, 310, rfl⟩
abbrev main_v261 : Ref sig .tc := ⟨.hbm, 311, rfl⟩
abbrev main_v262 : Ref sig .tc := ⟨.hbm, 312, rfl⟩
abbrev main_v263 : Ref sig .tc := ⟨.hbm, 313, rfl⟩
abbrev main_v264 : Ref sig .tc := ⟨.hbm, 314, rfl⟩
abbrev main_v265 : Ref sig .tc := ⟨.hbm, 315, rfl⟩
abbrev main_v266 : Ref sig .tc := ⟨.hbm, 316, rfl⟩
abbrev main_v267 : Ref sig .tc := ⟨.hbm, 317, rfl⟩
abbrev main_v268 : Ref sig .tc := ⟨.hbm, 318, rfl⟩
abbrev main_v269 : Ref sig .tc := ⟨.hbm, 319, rfl⟩
abbrev main_v270 : Ref sig .tc := ⟨.hbm, 320, rfl⟩
abbrev main_v271 : Ref sig .tc := ⟨.hbm, 321, rfl⟩
abbrev main_v272 : Ref sig .tc := ⟨.hbm, 322, rfl⟩
abbrev main_v273 : Ref sig .tc := ⟨.hbm, 323, rfl⟩
abbrev main_v274 : Ref sig .tc := ⟨.hbm, 324, rfl⟩
abbrev main_v275 : Ref sig .tc := ⟨.hbm, 325, rfl⟩
abbrev main_v276 : Ref sig .tc := ⟨.hbm, 326, rfl⟩
abbrev main_v277 : Ref sig .tc := ⟨.hbm, 327, rfl⟩
abbrev main_v278 : Ref sig .tc := ⟨.hbm, 328, rfl⟩
abbrev main_v279 : Ref sig .tc := ⟨.hbm, 329, rfl⟩
abbrev main_v280 : Ref sig .tc := ⟨.hbm, 330, rfl⟩
abbrev main_v281 : Ref sig .tc := ⟨.hbm, 331, rfl⟩
abbrev main_v282 : Ref sig .tc := ⟨.hbm, 332, rfl⟩
abbrev main_v283 : Ref sig .tc := ⟨.hbm, 333, rfl⟩
abbrev main_v284 : Ref sig .tc := ⟨.hbm, 334, rfl⟩
abbrev main_v285 : Ref sig .tc := ⟨.hbm, 335, rfl⟩
abbrev main_v286 : Ref sig .tc := ⟨.hbm, 336, rfl⟩
abbrev main_v287 : Ref sig .tc := ⟨.hbm, 337, rfl⟩
abbrev main_v288 : Ref sig .tc := ⟨.hbm, 338, rfl⟩
abbrev main_v289 : Ref sig .tc := ⟨.hbm, 339, rfl⟩
abbrev main_v290 : Ref sig .tc := ⟨.hbm, 340, rfl⟩
abbrev main_v291 : Ref sig .tc := ⟨.hbm, 341, rfl⟩
abbrev main_v292 : Ref sig .tc := ⟨.hbm, 342, rfl⟩
abbrev main_v293 : Ref sig .tc := ⟨.hbm, 343, rfl⟩
abbrev main_v294 : Ref sig .tc := ⟨.hbm, 344, rfl⟩
abbrev main_v295 : Ref sig .tc := ⟨.hbm, 345, rfl⟩
abbrev main_v296 : Ref sig .tc := ⟨.hbm, 346, rfl⟩
abbrev main_v297 : Ref sig .tc := ⟨.hbm, 347, rfl⟩
abbrev main_v298 : Ref sig .tc := ⟨.hbm, 348, rfl⟩
abbrev main_v299 : Ref sig .tc := ⟨.hbm, 349, rfl⟩
abbrev main_v300 : Ref sig .tc := ⟨.hbm, 350, rfl⟩
abbrev main_v301 : Ref sig .tc := ⟨.hbm, 351, rfl⟩
abbrev main_v302 : Ref sig .tc := ⟨.hbm, 352, rfl⟩
abbrev main_v303 : Ref sig .tc := ⟨.hbm, 353, rfl⟩
abbrev main_v304 : Ref sig .tc := ⟨.hbm, 354, rfl⟩
abbrev main_v305 : Ref sig .tc := ⟨.hbm, 355, rfl⟩
abbrev main_v306 : Ref sig .tc := ⟨.hbm, 356, rfl⟩
abbrev main_v307 : Ref sig .tc := ⟨.hbm, 357, rfl⟩
abbrev main_v308 : Ref sig .tc := ⟨.hbm, 358, rfl⟩
abbrev main_v309 : Ref sig .tc := ⟨.hbm, 359, rfl⟩
abbrev main_v310 : Ref sig .tc := ⟨.hbm, 360, rfl⟩
abbrev main_v311 : Ref sig .tc := ⟨.hbm, 361, rfl⟩
abbrev main_v312 : Ref sig .tc := ⟨.hbm, 362, rfl⟩
abbrev main_v313 : Ref sig .tc := ⟨.hbm, 363, rfl⟩
abbrev main_v314 : Ref sig .tc := ⟨.hbm, 364, rfl⟩
abbrev main_v315 : Ref sig .tc := ⟨.hbm, 365, rfl⟩
abbrev main_v316 : Ref sig .tc := ⟨.hbm, 366, rfl⟩
abbrev main_v317 : Ref sig .tc := ⟨.hbm, 367, rfl⟩
abbrev main_v318 : Ref sig .tc := ⟨.hbm, 368, rfl⟩
abbrev main_v319 : Ref sig .tc := ⟨.hbm, 369, rfl⟩
abbrev main_v320 : Ref sig .tc := ⟨.hbm, 370, rfl⟩
abbrev main_v321 : Ref sig .tc := ⟨.hbm, 371, rfl⟩
abbrev main_v322 : Ref sig .tc := ⟨.hbm, 372, rfl⟩
abbrev main_v323 : Ref sig .tc := ⟨.hbm, 373, rfl⟩
abbrev main_v324 : Ref sig .tc := ⟨.hbm, 374, rfl⟩
abbrev main_v325 : Ref sig .tc := ⟨.hbm, 375, rfl⟩
abbrev main_v326 : Ref sig .tc := ⟨.hbm, 376, rfl⟩
abbrev main_v327 : Ref sig .tc := ⟨.hbm, 377, rfl⟩
abbrev main_v328 : Ref sig .tc := ⟨.hbm, 378, rfl⟩
abbrev main_v329 : Ref sig .tc := ⟨.hbm, 379, rfl⟩
abbrev main_v330 : Ref sig .tc := ⟨.hbm, 380, rfl⟩
abbrev main_v331 : Ref sig .tc := ⟨.hbm, 381, rfl⟩
abbrev main_v332 : Ref sig .tc := ⟨.hbm, 382, rfl⟩
abbrev main_v333 : Ref sig .tc := ⟨.hbm, 383, rfl⟩
abbrev main_v334 : Ref sig .tc := ⟨.hbm, 384, rfl⟩
abbrev main_v335 : Ref sig .tc := ⟨.hbm, 385, rfl⟩
abbrev main_v336 : Ref sig .tc := ⟨.hbm, 386, rfl⟩
abbrev main_v337 : Ref sig .tc := ⟨.hbm, 387, rfl⟩
abbrev main_v338 : Ref sig .tc := ⟨.hbm, 388, rfl⟩
abbrev main_v339 : Ref sig .tc := ⟨.hbm, 389, rfl⟩
abbrev main_v340 : Ref sig .tc := ⟨.hbm, 390, rfl⟩
abbrev main_v341 : Ref sig .tc := ⟨.hbm, 391, rfl⟩
abbrev main_v342 : Ref sig .tc := ⟨.hbm, 392, rfl⟩
abbrev main_v343 : Ref sig .tc := ⟨.hbm, 393, rfl⟩
abbrev main_v344 : Ref sig .tc := ⟨.hbm, 394, rfl⟩
abbrev main_v345 : Ref sig .tc := ⟨.hbm, 395, rfl⟩
abbrev main_v346 : Ref sig .tc := ⟨.hbm, 396, rfl⟩
abbrev main_v347 : Ref sig .tc := ⟨.hbm, 397, rfl⟩
abbrev main_v348 : Ref sig .tc := ⟨.hbm, 398, rfl⟩
abbrev main_v349 : Ref sig .tc := ⟨.hbm, 399, rfl⟩
abbrev main_v350 : Ref sig .tc := ⟨.hbm, 400, rfl⟩
abbrev main_v351 : Ref sig .tc := ⟨.hbm, 401, rfl⟩
abbrev main_v352 : Ref sig .tc := ⟨.hbm, 402, rfl⟩
abbrev main_v353 : Ref sig .tc := ⟨.hbm, 403, rfl⟩
abbrev main_v354 : Ref sig .tc := ⟨.hbm, 404, rfl⟩
abbrev main_v355 : Ref sig .tc := ⟨.hbm, 405, rfl⟩
abbrev main_v356 : Ref sig .tc := ⟨.hbm, 406, rfl⟩
abbrev main_v357 : Ref sig .tc := ⟨.hbm, 407, rfl⟩
abbrev main_v358 : Ref sig .tc := ⟨.hbm, 408, rfl⟩
abbrev main_v359 : Ref sig .tc := ⟨.hbm, 409, rfl⟩
abbrev main_v360 : Ref sig .tc := ⟨.hbm, 410, rfl⟩
abbrev main_v361 : Ref sig .tc := ⟨.hbm, 411, rfl⟩
abbrev main_v362 : Ref sig .tc := ⟨.hbm, 412, rfl⟩
abbrev main_v363 : Ref sig .tc := ⟨.hbm, 413, rfl⟩
abbrev main_v364 : Ref sig .tc := ⟨.hbm, 414, rfl⟩
abbrev main_v365 : Ref sig .tc := ⟨.hbm, 415, rfl⟩
abbrev main_v366 : Ref sig .tc := ⟨.hbm, 416, rfl⟩
abbrev main_v367 : Ref sig .tc := ⟨.hbm, 417, rfl⟩
abbrev main_v368 : Ref sig .tc := ⟨.hbm, 418, rfl⟩
abbrev main_v369 : Ref sig .tc := ⟨.hbm, 419, rfl⟩
abbrev main_v370 : Ref sig .tc := ⟨.hbm, 420, rfl⟩
abbrev main_cst_37 : Ref sig .tc := ⟨.hbm, 421, rfl⟩
abbrev main_v371 : Ref sig .tc := ⟨.hbm, 422, rfl⟩
abbrev main_v372 : Ref sig .tc := ⟨.hbm, 423, rfl⟩
abbrev main_v373 : Ref sig .tc := ⟨.hbm, 424, rfl⟩
abbrev main_v374 : Ref sig .tc := ⟨.hbm, 425, rfl⟩
abbrev main_v375 : Ref sig .tc := ⟨.hbm, 426, rfl⟩
abbrev main_v376 : Ref sig .tc := ⟨.hbm, 427, rfl⟩
abbrev main_v377 : Ref sig .tc := ⟨.hbm, 428, rfl⟩
abbrev main_v378 : Ref sig .tc := ⟨.hbm, 429, rfl⟩
abbrev main_v379 : Ref sig .tc := ⟨.hbm, 430, rfl⟩
abbrev main_v380 : Ref sig .tc := ⟨.hbm, 431, rfl⟩
abbrev main_v381 : Ref sig .tc := ⟨.hbm, 432, rfl⟩
abbrev main_v382 : Ref sig .tc := ⟨.hbm, 433, rfl⟩
abbrev main_v383 : Ref sig .tc := ⟨.hbm, 434, rfl⟩
abbrev main_v384 : Ref sig .tc := ⟨.hbm, 435, rfl⟩
abbrev main_v385 : Ref sig .tc := ⟨.hbm, 436, rfl⟩
abbrev main_v386 : Ref sig .tc := ⟨.hbm, 437, rfl⟩
abbrev main_v387 : Ref sig .tc := ⟨.hbm, 438, rfl⟩
abbrev main_v388 : Ref sig .tc := ⟨.hbm, 439, rfl⟩
abbrev main_cst_38 : Ref sig .tc := ⟨.hbm, 440, rfl⟩
abbrev main_v389 : Ref sig .tc := ⟨.hbm, 441, rfl⟩
abbrev main_v390 : Ref sig .tc := ⟨.hbm, 442, rfl⟩
abbrev main_cst_39 : Ref sig .tc := ⟨.hbm, 443, rfl⟩
abbrev main_v391 : Ref sig .tc := ⟨.hbm, 444, rfl⟩
abbrev main_v392 : Ref sig .tc := ⟨.hbm, 445, rfl⟩
abbrev main_v393 : Ref sig .tc := ⟨.hbm, 446, rfl⟩
abbrev main_v394 : Ref sig .tc := ⟨.hbm, 447, rfl⟩
abbrev main_v395 : Ref sig .tc := ⟨.hbm, 448, rfl⟩
abbrev main_cst_40 : Ref sig .tc := ⟨.hbm, 449, rfl⟩
abbrev main_v396 : Ref sig .tc := ⟨.hbm, 450, rfl⟩
abbrev main_v397 : Ref sig .tc := ⟨.hbm, 451, rfl⟩
abbrev main_cst_41 : Ref sig .tc := ⟨.hbm, 452, rfl⟩
abbrev main_v398 : Ref sig .tc := ⟨.hbm, 453, rfl⟩
abbrev main_v399 : Ref sig .tc := ⟨.hbm, 454, rfl⟩
abbrev main_v400 : Ref sig .tc := ⟨.hbm, 455, rfl⟩
abbrev main_v401 : Ref sig .tc := ⟨.hbm, 456, rfl⟩
abbrev main_cst_42 : Ref sig .tc := ⟨.hbm, 457, rfl⟩
abbrev main_v402 : Ref sig .tc := ⟨.hbm, 458, rfl⟩
abbrev main_v403 : Ref sig .tc := ⟨.hbm, 459, rfl⟩
abbrev main_v404 : Ref sig .tc := ⟨.hbm, 460, rfl⟩
abbrev main_v405 : Ref sig .tc := ⟨.hbm, 461, rfl⟩
abbrev main_v406 : Ref sig .tc := ⟨.hbm, 462, rfl⟩
abbrev main_v407 : Ref sig .tc := ⟨.hbm, 463, rfl⟩
abbrev main_v408 : Ref sig .tc := ⟨.hbm, 464, rfl⟩
abbrev main_v409 : Ref sig .tc := ⟨.hbm, 465, rfl⟩
abbrev main_v410 : Ref sig .tc := ⟨.hbm, 466, rfl⟩
abbrev main_call5_v0 : Ref sig .tc := ⟨.hbm, 467, rfl⟩
abbrev main_call5_v1 : Ref sig .tc := ⟨.hbm, 468, rfl⟩
abbrev main_call5_cst : Ref sig .tc := ⟨.hbm, 469, rfl⟩
abbrev main_call5_v2 : Ref sig .tc := ⟨.hbm, 470, rfl⟩
abbrev main_call5_v3 : Ref sig .tc := ⟨.hbm, 471, rfl⟩
abbrev main_call5_cst_0 : Ref sig .tc := ⟨.hbm, 472, rfl⟩
abbrev main_call5_v4 : Ref sig .tc := ⟨.hbm, 473, rfl⟩
abbrev main_call5_v5 : Ref sig .tc := ⟨.hbm, 474, rfl⟩
abbrev main_v411 : Ref sig .tc := ⟨.hbm, 475, rfl⟩
abbrev main_v412 : Ref sig .tc := ⟨.hbm, 476, rfl⟩
abbrev main_v413 : Ref sig .tc := ⟨.hbm, 477, rfl⟩
abbrev main_v414 : Ref sig .tc := ⟨.hbm, 478, rfl⟩
abbrev main_v415 : Ref sig .tc := ⟨.hbm, 479, rfl⟩

abbrev nD : Nat := 1
abbrev τ : Topo := Topo.v7x

variable {F : FTy → Type} [FloatOps F]
-- ==== Kernel2.lean ====
abbrev S16384x2048 : Shape := ⟨2, ![16384, 2048]⟩
abbrev S1x2048 : Shape := ⟨2, ![1, 2048]⟩
abbrev S1x2048x11008 : Shape := ⟨3, ![1, 2048, 11008]⟩
abbrev S1x3x11008 : Shape := ⟨3, ![1, 3, 11008]⟩
abbrev S1x11008 : Shape := ⟨2, ![1, 11008]⟩
abbrev S1x5504x2048 : Shape := ⟨3, ![1, 5504, 2048]⟩
abbrev S2048x11008 : Shape := ⟨2, ![2048, 11008]⟩
abbrev S2048x5504 : Shape := ⟨2, ![2048, 5504]⟩
abbrev S_ : Shape := ⟨0, ![]⟩
abbrev S2048x5632 : Shape := ⟨2, ![2048, 5632]⟩
abbrev S2048x11264 : Shape := ⟨2, ![2048, 11264]⟩
abbrev S3x11008 : Shape := ⟨2, ![3, 11008]⟩
abbrev S3x5504 : Shape := ⟨2, ![3, 5504]⟩
abbrev S3x5632 : Shape := ⟨2, ![3, 5632]⟩
abbrev S3x11264 : Shape := ⟨2, ![3, 11264]⟩
abbrev S11008 : Shape := ⟨1, ![11008]⟩
abbrev S5504 : Shape := ⟨1, ![5504]⟩
abbrev S5632 : Shape := ⟨1, ![5632]⟩
abbrev S11264 : Shape := ⟨1, ![11264]⟩
abbrev S1x11264 : Shape := ⟨2, ![1, 11264]⟩
abbrev S5504x2048 : Shape := ⟨2, ![5504, 2048]⟩
abbrev S5632x2048 : Shape := ⟨2, ![5632, 2048]⟩
abbrev S2048 : Shape := ⟨1, ![2048]⟩
abbrev S512x2048 : Shape := ⟨2, ![512, 2048]⟩
abbrev S2048x512 : Shape := ⟨2, ![2048, 512]⟩
abbrev S3x512 : Shape := ⟨2, ![3, 512]⟩
abbrev S1x512 : Shape := ⟨2, ![1, 512]⟩
abbrev S11x8x512 : Shape := ⟨3, ![11, 8, 512]⟩
abbrev S128x2048 : Shape := ⟨2, ![128, 2048]⟩
abbrev S128 : Shape := ⟨1, ![128]⟩
abbrev S128x1 : Shape := ⟨2, ![128, 1]⟩
abbrev S512x512 : Shape := ⟨2, ![512, 512]⟩
abbrev S1x8x512 : Shape := ⟨3, ![1, 8, 512]⟩
abbrev S8x512 : Shape := ⟨2, ![8, 512]⟩
abbrev S504x512 : Shape := ⟨2, ![504, 512]⟩

abbrev nBuf : Space → Nat
  | .hbm => 49
  | .vmem => 22
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S1x2048x11008, .f32⟩
  | .hbm, ⟨3, _⟩ => ⟨S1x3x11008, .f32⟩
  | .hbm, ⟨4, _⟩ => ⟨S1x11008, .f32⟩
  | .hbm, ⟨5, _⟩ => ⟨S1x5504x2048, .f32⟩
  | .hbm, ⟨6, _⟩ => ⟨S2048x11008, .f32⟩
  | .hbm, ⟨7, _⟩ => ⟨S2048x5504, .f32⟩
  | .hbm, ⟨8, _⟩ => ⟨S_, .i32⟩
  | .hbm, ⟨9, _⟩ => ⟨S_, .f32⟩
  | .hbm, ⟨10, _⟩ => ⟨S2048x5632, .f32⟩
  | .hbm, ⟨11, _⟩ => ⟨S2048x11008, .f32⟩
  | .hbm, ⟨12, _⟩ => ⟨S2048x5504, .f32⟩
  | .hbm, ⟨13, _⟩ => ⟨S_, .i32⟩
  | .hbm, ⟨14, _⟩ => ⟨S_, .f32⟩
  | .hbm, ⟨15, _⟩ => ⟨S2048x5632, .f32⟩
  | .hbm, ⟨16, _⟩ => ⟨S2048x11264, .f32⟩
  | .hbm, ⟨17, _⟩ => ⟨S2048x11264, .bf16⟩
  | .hbm, ⟨18, _⟩ => ⟨S3x11008, .f32⟩
  | .hbm, ⟨19, _⟩ => ⟨S3x5504, .f32⟩
  | .hbm, ⟨20, _⟩ => ⟨S_, .i32⟩
  | .hbm, ⟨21, _⟩ => ⟨S_, .f32⟩
  | .hbm, ⟨22, _⟩ => ⟨S3x5632, .f32⟩
  | .hbm, ⟨23, _⟩ => ⟨S3x11008, .f32⟩
  | .hbm, ⟨24, _⟩ => ⟨S3x5504, .f32⟩
  | .hbm, ⟨25, _⟩ => ⟨S_, .i32⟩
  | .hbm, ⟨26, _⟩ => ⟨S_, .f32⟩
  | .hbm, ⟨27, _⟩ => ⟨S3x5632, .f32⟩
  | .hbm, ⟨28, _⟩ => ⟨S3x11264, .f32⟩
  | .hbm, ⟨29, _⟩ => ⟨S11008, .f32⟩
  | .hbm, ⟨30, _⟩ => ⟨S5504, .f32⟩
  | .hbm, ⟨31, _⟩ => ⟨S_, .i32⟩
  | .hbm, ⟨32, _⟩ => ⟨S_, .f32⟩
  | .hbm, ⟨33, _⟩ => ⟨S5632, .f32⟩
  | .hbm, ⟨34, _⟩ => ⟨S11008, .f32⟩
  | .hbm, ⟨35, _⟩ => ⟨S5504, .f32⟩
  | .hbm, ⟨36, _⟩ => ⟨S_, .i32⟩
  | .hbm, ⟨37, _⟩ => ⟨S_, .f32⟩
  | .hbm, ⟨38, _⟩ => ⟨S5632, .f32⟩
  | .hbm, ⟨39, _⟩ => ⟨S11264, .f32⟩
  | .hbm, ⟨40, _⟩ => ⟨S1x11264, .f32⟩
  | .hbm, ⟨41, _⟩ => ⟨S5504x2048, .f32⟩
  | .hbm, ⟨42, _⟩ => ⟨S_, .i32⟩
  | .hbm, ⟨43, _⟩ => ⟨S_, .f32⟩
  | .hbm, ⟨44, _⟩ => ⟨S5632x2048, .f32⟩
  | .hbm, ⟨45, _⟩ => ⟨S5632x2048, .bf16⟩
  | .hbm, ⟨46, _⟩ => ⟨S2048, .f32⟩
  | .hbm, ⟨47, _⟩ => ⟨S1x2048, .f32⟩
  | .hbm, ⟨48, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S3x512, .f32⟩
  | .local _ .vmem, ⟨8, _⟩ => ⟨S3x512, .f32⟩
  | .local _ .vmem, ⟨9, _⟩ => ⟨S3x512, .f32⟩
  | .local _ .vmem, ⟨10, _⟩ => ⟨S3x512, .f32⟩
  | .local _ .vmem, ⟨11, _⟩ => ⟨S1x512, .f32⟩
  | .local _ .vmem, ⟨12, _⟩ => ⟨S1x512, .f32⟩
  | .local _ .vmem, ⟨13, _⟩ => ⟨S1x512, .f32⟩
  | .local _ .vmem, ⟨14, _⟩ => ⟨S1x512, .f32⟩
  | .local _ .vmem, ⟨15, _⟩ => ⟨S512x2048, .bf16⟩
  | .local _ .vmem, ⟨16, _⟩ => ⟨S512x2048, .bf16⟩
  | .local _ .vmem, ⟨17, _⟩ => ⟨S512x2048, .f32⟩
  | .local _ .vmem, ⟨18, _⟩ => ⟨S512x2048, .f32⟩
  | .local _ .vmem, ⟨19, _⟩ => ⟨S512x2048, .bf16⟩
  | .local _ .vmem, ⟨20, _⟩ => ⟨S11x8x512, .f32⟩
  | .local _ .vmem, ⟨21, _⟩ => ⟨S11x8x512, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_call0_v0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c_0 : Ref sig .tc := ⟨.hbm, 13, rfl⟩
abbrev main_call1_v0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_c_1 : Ref sig .tc := ⟨.hbm, 20, rfl⟩
abbrev main_call2_v0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c_2 : Ref sig .tc := ⟨.hbm, 25, rfl⟩
abbrev main_call3_v0 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_c_3 : Ref sig .tc := ⟨.hbm, 31, rfl⟩
abbrev main_call4_v0 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_c_4 : Ref sig .tc := ⟨.hbm, 36, rfl⟩
abbrev main_call5_v0 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_call6_v0 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨2, ![32, 11], ![false, false]⟩

def k0_cond2 (i : grid0.Coords) : BitVec 1 :=
  let arg1 : BitVec 32 := BitVec.ofNat 32 (i 1).val
  let c0_i32_2 : BitVec 32 := 0#32
  let v5 : BitVec 1 := Scalar.cmpi .eq arg1 c0_i32_2
  let v6 : BitVec 32 := Scalar.extui v5
  let c0_i32_3 : BitVec 32 := 0#32
  let v7 : BitVec 1 := Scalar.cmpi .ne v6 c0_i32_3
  v7

@[reducible] def k0_t1_loop : Scf.Loop 32 :=
  let c0_i32_60 : BitVec 32 := 0#32
  let c4_i32_61 : BitVec 32 := 4#32
  let v132 : BitVec 32 := Scalar.addi c0_i32_60 c4_i32_61
  let c1_i32_62 : BitVec 32 := 1#32
  ⟨c0_i32_60, v132, c1_i32_62⟩
def k0_mult1 (k0_t1 : Fin k0_t1_loop.trips) : BitVec 32 :=
  let c0_i32_60 : BitVec 32 := 0#32
  let c1_i32_62 : BitVec 32 := 1#32
  let arg15 : BitVec 32 := Scf.iv c0_i32_60 c1_i32_62 k0_t1
  let c128_i32 : BitVec 32 := 128#32
  let v133 : BitVec 32 := Scalar.muli arg15 c128_i32
  v133
def k0_off1 (k0_t1 : Fin k0_t1_loop.trips) : Fin 2 → Nat :=
  let c0_i32_60 : BitVec 32 := 0#32
  let c1_i32_62 : BitVec 32 := 1#32
  let arg15 : BitVec 32 := Scf.iv c0_i32_60 c1_i32_62 k0_t1
  let c128_i32 : BitVec 32 := 128#32
  let v133 : BitVec 32 := Scalar.muli arg15 c128_i32
  let v134 : BitVec 32 := v133
  let v135 : Index := Scalar.indexCast v134
  let c0_64 : Index := 0#32
  ![v135.toNat, 0]
def k0_off2 (i : grid0.Coords) : Fin 3 → Nat :=
  let arg1 : BitVec 32 := BitVec.ofNat 32 (i 1).val
  let v15 : Index := Scalar.indexCast arg1
  let c0_10 : Index := 0#32
  let c0_11 : Index := 0#32
  ![v15.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S3x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S3x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== Reference2Ideal.lean ====
abbrev S16384x2048 : Shape := ⟨2, ![16384, 2048]⟩
abbrev S1x2048 : Shape := ⟨2, ![1, 2048]⟩
abbrev S1x2048x11008 : Shape := ⟨3, ![1, 2048, 11008]⟩
abbrev S1x3x11008 : Shape := ⟨3, ![1, 3, 11008]⟩
abbrev S1x11008 : Shape := ⟨2, ![1, 11008]⟩
abbrev S1x5504x2048 : Shape := ⟨3, ![1, 5504, 2048]⟩
abbrev S8x2048x2048 : Shape := ⟨3, ![8, 2048, 2048]⟩
abbrev S2048 : Shape := ⟨1, ![2048]⟩
abbrev S_ : Shape := ⟨0, ![]⟩
abbrev S8x2048 : Shape := ⟨2, ![8, 2048]⟩
abbrev S8x2048x1 : Shape := ⟨3, ![8, 2048, 1]⟩
abbrev S1x1x2048 : Shape := ⟨3, ![1, 1, 2048]⟩
abbrev S2048x11008 : Shape := ⟨2, ![2048, 11008]⟩
abbrev S8x2048x11008 : Shape := ⟨3, ![8, 2048, 11008]⟩
abbrev S3x11008 : Shape := ⟨2, ![3, 11008]⟩
abbrev S11008 : Shape := ⟨1, ![11008]⟩
abbrev S8x2050x11008 : Shape := ⟨3, ![8, 2050, 11008]⟩
abbrev S1x1x11008 : Shape := ⟨3, ![1, 1, 11008]⟩
abbrev S8x2048x5504 : Shape := ⟨3, ![8, 2048, 5504]⟩
abbrev S5504x2048 : Shape := ⟨2, ![5504, 2048]⟩

abbrev nBuf : Space → Nat
  | .hbm => 70
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S1x2048x11008, .f32⟩
  | .hbm, ⟨3, _⟩ => ⟨S1x3x11008, .f32⟩
  | .hbm, ⟨4, _⟩ => ⟨S1x11008, .f32⟩
  | .hbm, ⟨5, _⟩ => ⟨S1x5504x2048, .f32⟩
  | .hbm, ⟨6, _⟩ => ⟨S8x2048x2048, .f32⟩
  | .hbm, ⟨7, _⟩ => ⟨S2048, .f32⟩
  | .hbm, ⟨8, _⟩ => ⟨S8x2048x2048, .f32⟩
  | .hbm, ⟨9, _⟩ => ⟨S_, .f32⟩
  | .hbm, ⟨10, _⟩ => ⟨S8x2048, .f32⟩
  | .hbm, ⟨11, _⟩ => ⟨S8x2048x1, .f32⟩
  | .hbm, ⟨12, _⟩ => ⟨S_, .f32⟩
  | .hbm, ⟨13, _⟩ => ⟨S8x2048x1, .f32⟩
  | .hbm, ⟨14, _⟩ => ⟨S8x2048x1, .f32⟩
  | .hbm, ⟨15, _⟩ => ⟨S_, .f32⟩
  | .hbm, ⟨16, _⟩ => ⟨S8x2048x1, .f32⟩
  | .hbm, ⟨17, _⟩ => ⟨S8x2048x1, .f32⟩
  | .hbm, ⟨18, _⟩ => ⟨S8x2048x1, .f32⟩
  | .hbm, ⟨19, _⟩ => ⟨S8x2048x2048, .f32⟩
  | .hbm, ⟨20, _⟩ => ⟨S8x2048x2048, .f32⟩
  | .hbm, ⟨21, _⟩ => ⟨S1x1x2048, .f32⟩
  | .hbm, ⟨22, _⟩ => ⟨S8x2048x2048, .f32⟩
  | .hbm, ⟨23, _⟩ => ⟨S8x2048x2048, .f32⟩
  | .hbm, ⟨24, _⟩ => ⟨S2048x11008, .f32⟩
  | .hbm, ⟨25, _⟩ => ⟨S8x2048x11008, .f32⟩
  | .hbm, ⟨26, _⟩ => ⟨S3x11008, .f32⟩
  | .hbm, ⟨27, _⟩ => ⟨S11008, .f32⟩
  | .hbm, ⟨28, _⟩ => ⟨S_, .i32⟩
  | .hbm, ⟨29, _⟩ => ⟨S_, .f32⟩
  | .hbm, ⟨30, _⟩ => ⟨S8x2050x11008, .f32⟩
  | .hbm, ⟨31, _⟩ => ⟨S8x2048x11008, .f32⟩
  | .hbm, ⟨32, _⟩ => ⟨S1x11008, .f32⟩
  | .hbm, ⟨33, _⟩ => ⟨S11008, .f32⟩
  | .hbm, ⟨34, _⟩ => ⟨S1x1x11008, .f32⟩
  | .hbm, ⟨35, _⟩ => ⟨S8x2048x11008, .f32⟩
  | .hbm, ⟨36, _⟩ => ⟨S8x2048x11008, .f32⟩
  | .hbm, ⟨37, _⟩ => ⟨S1x1x11008, .f32⟩
  | .hbm, ⟨38, _⟩ => ⟨S8x2048x11008, .f32⟩
  | .hbm, ⟨39, _⟩ => ⟨S8x2048x11008, .f32⟩
  | .hbm, ⟨40, _⟩ => ⟨S8x2048x11008, .f32⟩
  | .hbm, ⟨41, _⟩ => ⟨S1x11008, .f32⟩
  | .hbm, ⟨42, _⟩ => ⟨S11008, .f32⟩
  | .hbm, ⟨43, _⟩ => ⟨S1x1x11008, .f32⟩
  | .hbm, ⟨44, _⟩ => ⟨S8x2048x11008, .f32⟩
  | .hbm, ⟨45, _⟩ => ⟨S8x2048x11008, .f32⟩
  | .hbm, ⟨46, _⟩ => ⟨S8x2048x11008, .f32⟩
  | .hbm, ⟨47, _⟩ => ⟨S8x2048x11008, .f32⟩
  | .hbm, ⟨48, _⟩ => ⟨S1x11008, .f32⟩
  | .hbm, ⟨49, _⟩ => ⟨S11008, .f32⟩
  | .hbm, ⟨50, _⟩ => ⟨S1x1x11008, .f32⟩
  | .hbm, ⟨51, _⟩ => ⟨S8x2048x11008, .f32⟩
  | .hbm, ⟨52, _⟩ => ⟨S8x2048x11008, .f32⟩
  | .hbm, ⟨53, _⟩ => ⟨S8x2048x11008, .f32⟩
  | .hbm, ⟨54, _⟩ => ⟨S8x2048x5504, .f32⟩
  | .hbm, ⟨55, _⟩ => ⟨S8x2048x5504, .f32⟩
  | .hbm, ⟨56, _⟩ => ⟨S8x2048x5504, .f32⟩
  | .hbm, ⟨57, _⟩ => ⟨S8x2048x5504, .f32⟩
  | .hbm, ⟨58, _⟩ => ⟨S_, .f32⟩
  | .hbm, ⟨59, _⟩ => ⟨S8x2048x5504, .f32⟩
  | .hbm, ⟨60, _⟩ => ⟨S8x2048x5504, .f32⟩
  | .hbm, ⟨61, _⟩ => ⟨S_, .f32⟩
  | .hbm, ⟨62, _⟩ => ⟨S8x2048x5504, .f32⟩
  | .hbm, ⟨63, _⟩ => ⟨S8x2048x5504, .f32⟩
  | .hbm, ⟨64, _⟩ => ⟨S8x2048x5504, .f32⟩
  | .hbm, ⟨65, _⟩ => ⟨S8x2048x5504, .f32⟩
  | .hbm, ⟨66, _⟩ => ⟨S5504x2048, .f32⟩
  | .hbm, ⟨67, _⟩ => ⟨S8x2048x2048, .f32⟩
  | .hbm, ⟨68, _⟩ => ⟨S8x2048x2048, .f32⟩
  | .hbm, ⟨69, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_c : Ref sig .tc := ⟨.hbm, 28, rfl⟩
abbrev main_call0_v0 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_call1_v0 : Ref sig .tc := ⟨.hbm, 56, rfl⟩
abbrev main_call1_v1 : Ref sig .tc := ⟨.hbm, 57, rfl⟩
abbrev main_call1_cst : Ref sig .tc := ⟨.hbm, 58, rfl⟩
abbrev main_call1_v2 : Ref sig .tc := ⟨.hbm, 59, rfl⟩
abbrev main_call1_v3 : Ref sig .tc := ⟨.hbm, 60, rfl⟩
abbrev main_call1_cst_0 : Ref sig .tc := ⟨.hbm, 61, rfl⟩
abbrev main_call1_v4 : Ref sig .tc := ⟨.hbm, 62, rfl⟩
abbrev main_call1_v5 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩

abbrev nD : Nat := 1
abbrev τ : Topo := Topo.v7x

variable {F : FTy → Type} [FloatOps F]
-- ==== Kernel3.lean ====
abbrev S8x2048x2048 : Shape := ⟨3, ![8, 2048, 2048]⟩
abbrev S1x2048 : Shape := ⟨2, ![1, 2048]⟩
abbrev S1x2048x5120 : Shape := ⟨3, ![1, 2048, 5120]⟩
abbrev S16384x2048 : Shape := ⟨2, ![16384, 2048]⟩
abbrev S2048 : Shape := ⟨1, ![2048]⟩
abbrev S2048x5120 : Shape := ⟨2, ![2048, 5120]⟩
abbrev S16384x5120 : Shape := ⟨2, ![16384, 5120]⟩
abbrev S1024x2048 : Shape := ⟨2, ![1024, 2048]⟩
abbrev S2048x1024 : Shape := ⟨2, ![2048, 1024]⟩
abbrev S1024x1024 : Shape := ⟨2, ![1024, 1024]⟩
abbrev S128x2048 : Shape := ⟨2, ![128, 2048]⟩
abbrev S128 : Shape := ⟨1, ![128]⟩
abbrev S128x1 : Shape := ⟨2, ![128, 1]⟩

abbrev nBuf : Space → Nat
  | .hbm => 9
  | .vmem => 8
  | .smem => 0
  | _ => 0

abbrev bufTy : (tb : Table) → Fin (tcTables nBuf tb) → BufTy
  | .hbm, ⟨0, _⟩ => ⟨S8x2048x2048, .f32⟩
  | .hbm, ⟨1, _⟩ => ⟨S1x2048, .f32⟩
  | .hbm, ⟨2, _⟩ => ⟨S1x2048x5120, .f32⟩
  | .hbm, ⟨3, _⟩ => ⟨S16384x2048, .f32⟩
  | .hbm, ⟨4, _⟩ => ⟨S2048, .f32⟩
  | .hbm, ⟨5, _⟩ => ⟨S1x2048, .f32⟩
  | .hbm, ⟨6, _⟩ => ⟨S2048x5120, .f32⟩
  | .hbm, ⟨7, _⟩ => ⟨S2048x5120, .bf16⟩
  | .hbm, ⟨8, _⟩ => ⟨S16384x5120, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x2048, .bf16⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 5], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_6 : BitVec 32 := 0#32
  let c8_i32 : BitVec 32 := 8#32
  let v9 : BitVec 32 := Scalar.addi c0_i32_6 c8_i32
  let c1_i32 : BitVec 32 := 1#32
  ⟨c0_i32_6, v9, c1_i32⟩
def k0_mult1 (k0_t1 : Fin k0_t1_loop.trips) : BitVec 32 :=
  let c0_i32_6 : BitVec 32 := 0#32
  let c1_i32 : BitVec 32 := 1#32
  let arg7 : BitVec 32 := Scf.iv c0_i32_6 c1_i32 k0_t1
  let c128_i32 : BitVec 32 := 128#32
  let v10 : BitVec 32 := Scalar.muli arg7 c128_i32
  v10
def k0_off1 (k0_t1 : Fin k0_t1_loop.trips) : Fin 2 → Nat :=
  let c0_i32_6 : BitVec 32 := 0#32
  let c1_i32 : BitVec 32 := 1#32
  let arg7 : BitVec 32 := Scf.iv c0_i32_6 c1_i32 k0_t1
  let c128_i32 : BitVec 32 := 128#32
  let v10 : BitVec 32 := Scalar.muli arg7 c128_i32
  let v11 : BitVec 32 := v10
  let v12 : Index := Scalar.indexCast v11
  let c0_8 : Index := 0#32
  ![v12.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference3Ideal.lean ====
abbrev S8x2048x2048 : Shape := ⟨3, ![8, 2048, 2048]⟩
abbrev S1x2048 : Shape := ⟨2, ![1, 2048]⟩
abbrev S1x2048x5120 : Shape := ⟨3, ![1, 2048, 5120]⟩
abbrev S2048 : Shape := ⟨1, ![2048]⟩
abbrev S_ : Shape := ⟨0, ![]⟩
abbrev S8x2048 : Shape := ⟨2, ![8, 2048]⟩
abbrev S8x2048x1 : Shape := ⟨3, ![8, 2048, 1]⟩
abbrev S1x1x2048 : Shape := ⟨3, ![1, 1, 2048]⟩
abbrev S2048x5120 : Shape := ⟨2, ![2048, 5120]⟩
abbrev S8x2048x5120 : Shape := ⟨3, ![8, 2048, 5120]⟩
abbrev S16384x5120 : Shape := ⟨2, ![16384, 5120]⟩

abbrev nBuf : Space → Nat
  | .hbm => 24
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S1x2048, .f32⟩
  | .hbm, ⟨2, _⟩ => ⟨S1x2048x5120, .f32⟩
  | .hbm, ⟨3, _⟩ => ⟨S2048, .f32⟩
  | .hbm, ⟨4, _⟩ => ⟨S8x2048x2048, .f32⟩
  | .hbm, ⟨5, _⟩ => ⟨S_, .f32⟩
  | .hbm, ⟨6, _⟩ => ⟨S8x2048, .f32⟩
  | .hbm, ⟨7, _⟩ => ⟨S8x2048x1, .f32⟩
  | .hbm, ⟨8, _⟩ => ⟨S_, .f32⟩
  | .hbm, ⟨9, _⟩ => ⟨S8x2048x1, .f32⟩
  | .hbm, ⟨10, _⟩ => ⟨S8x2048x1, .f32⟩
  | .hbm, ⟨11, _⟩ => ⟨S_, .f32⟩
  | .hbm, ⟨12, _⟩ => ⟨S8x2048x1, .f32⟩
  | .hbm, ⟨13, _⟩ => ⟨S8x2048x1, .f32⟩
  | .hbm, ⟨14, _⟩ => ⟨S8x2048x1, .f32⟩
  | .hbm, ⟨15, _⟩ => ⟨S8x2048x2048, .f32⟩
  | .hbm, ⟨16, _⟩ => ⟨S8x2048x2048, .f32⟩
  | .hbm, ⟨17, _⟩ => ⟨S1x1x2048, .f32⟩
  | .hbm, ⟨18, _⟩ => ⟨S8x2048x2048, .f32⟩
  | .hbm, ⟨19, _⟩ => ⟨S8x2048x2048, .f32⟩
  | .hbm, ⟨20, _⟩ => ⟨S2048x5120, .f32⟩
  | .hbm, ⟨21, _⟩ => ⟨S8x2048x5120, .f32⟩
  | .hbm, ⟨22, _⟩ => ⟨S16384x5120, .f32⟩
  | .hbm, ⟨23, _⟩ => ⟨S16384x5120, .bf16⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== Kernel4.lean ====
abbrev S16384x2048 : Shape := ⟨2, ![16384, 2048]⟩
abbrev S1x2048x2048 : Shape := ⟨3, ![1, 2048, 2048]⟩
abbrev S8x2048x2048 : Shape := ⟨3, ![8, 2048, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 7
  | .vmem => 8
  | .smem => 0
  | _ => 0

abbrev bufTy : (tb : Table) → Fin (tcTables nBuf tb) → BufTy
  | .hbm, ⟨0, _⟩ => ⟨S16384x2048, .bf16⟩
  | .hbm, ⟨1, _⟩ => ⟨S1x2048x2048, .f32⟩
  | .hbm, ⟨2, _⟩ => ⟨S8x2048x2048, .f32⟩
  | .hbm, ⟨3, _⟩ => ⟨S16384x2048, .f32⟩
  | .hbm, ⟨4, _⟩ => ⟨S2048x2048, .f32⟩
  | .hbm, ⟨5, _⟩ => ⟨S2048x2048, .bf16⟩
  | .hbm, ⟨6, _⟩ => ⟨S16384x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference4Ideal.lean ====
abbrev S16384x2048 : Shape := ⟨2, ![16384, 2048]⟩
abbrev S1x2048x2048 : Shape := ⟨3, ![1, 2048, 2048]⟩
abbrev S8x2048x2048 : Shape := ⟨3, ![8, 2048, 2048]⟩
abbrev S2048x2048 : Shape := ⟨2, ![2048, 2048]⟩

abbrev nBuf : Space → Nat
  | .hbm => 9
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S1x2048x2048, .f32⟩
  | .hbm, ⟨2, _⟩ => ⟨S8x2048x2048, .f32⟩
  | .hbm, ⟨3, _⟩ => ⟨S16384x2048, .f32⟩
  | .hbm, ⟨4, _⟩ => ⟨S8x2048x2048, .f32⟩
  | .hbm, ⟨5, _⟩ => ⟨S2048x2048, .f32⟩
  | .hbm, ⟨6, _⟩ => ⟨S8x2048x2048, .f32⟩
  | .hbm, ⟨7, _⟩ => ⟨S8x2048x2048, .f32⟩
  | .hbm, ⟨8, _⟩ => ⟨S16384x2048, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel5.lean ====
abbrev S16384x2048 : Shape := ⟨2, ![16384, 2048]⟩
abbrev S1x8x2048x256 : Shape := ⟨4, ![1, 8, 2048, 256]⟩
abbrev S1x2048 : Shape := ⟨2, ![1, 2048]⟩
abbrev S1x2048x2048 : Shape := ⟨3, ![1, 2048, 2048]⟩
abbrev S1x256x2048 : Shape := ⟨3, ![1, 256, 2048]⟩
abbrev S2048 : Shape := ⟨1, ![2048]⟩
abbrev S2048x2048 : Shape := ⟨2, ![2048, 2048]⟩
abbrev S256x2048 : Shape := ⟨2, ![256, 2048]⟩
abbrev S8x2048x256 : Shape := ⟨3, ![8, 2048, 256]⟩
abbrev S16384x256 : Shape := ⟨2, ![16384, 256]⟩
abbrev S512x2048 : Shape := ⟨2, ![512, 2048]⟩
abbrev S512x256 : Shape := ⟨2, ![512, 256]⟩
abbrev S128x2048 : Shape := ⟨2, ![128, 2048]⟩
abbrev S128 : Shape := ⟨1, ![128]⟩
abbrev S128x1 : Shape := ⟨2, ![128, 1]⟩
abbrev S128x256 : Shape := ⟨2, ![128, 256]⟩
abbrev S2048x512 : Shape := ⟨2, ![2048, 512]⟩
abbrev S512x512 : Shape := ⟨2, ![512, 512]⟩
abbrev S256x512 : Shape := ⟨2, ![256, 512]⟩

abbrev nBuf : Space → Nat
  | .hbm => 16
  | .vmem => 12
  | .smem => 0
  | _ => 0

abbrev bufTy : (tb : Table) → Fin (tcTables nBuf tb) → BufTy
  | .hbm, ⟨0, _⟩ => ⟨S16384x2048, .f32⟩
  | .hbm, ⟨1, _⟩ => ⟨S1x8x2048x256, .f32⟩
  | .hbm, ⟨2, _⟩ => ⟨S1x2048, .f32⟩
  | .hbm, ⟨3, _⟩ => ⟨S1x2048x2048, .f32⟩
  | .hbm, ⟨4, _⟩ => ⟨S1x256x2048, .f32⟩
  | .hbm, ⟨5, _⟩ => ⟨S2048, .f32⟩
  | .hbm, ⟨6, _⟩ => ⟨S2048x2048, .f32⟩
  | .hbm, ⟨7, _⟩ => ⟨S2048x2048, .bf16⟩
  | .hbm, ⟨8, _⟩ => ⟨S256x2048, .f32⟩
  | .hbm, ⟨9, _⟩ => ⟨S256x2048, .bf16⟩
  | .hbm, ⟨10, _⟩ => ⟨S8x2048x256, .f32⟩
  | .hbm, ⟨11, _⟩ => ⟨S16384x256, .f32⟩
  | .hbm, ⟨12, _⟩ => ⟨S2048, .f32⟩
  | .hbm, ⟨13, _⟩ => ⟨S1x2048, .f32⟩
  | .hbm, ⟨14, _⟩ => ⟨S1x2048, .f32⟩
  | .hbm, ⟨15, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S512x256, .f32⟩
  | .local _ .vmem, ⟨3, _⟩ => ⟨S512x256, .f32⟩
  | .local _ .vmem, ⟨4, _⟩ => ⟨S1x2048, .f32⟩
  | .local _ .vmem, ⟨5, _⟩ => ⟨S2048x2048, .bf16⟩
  | .local _ .vmem, ⟨6, _⟩ => ⟨S256x2048, .bf16⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .bf16⟩
  | .local _ .vmem, ⟨11, _⟩ => ⟨S512x256, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![32, 1], ![false, false]⟩

@[reducible] def k0_t1_loop : Scf.Loop 32 :=
  let c0_i32 : BitVec 32 := 0#32
  let c4_i32 : BitVec 32 := 4#32
  let v0 : BitVec 32 := Scalar.addi c0_i32 c4_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg11 : BitVec 32 := Scf.iv c0_i32 c1_i32 k0_t1
  let c128_i32 : BitVec 32 := 128#32
  let v64 : BitVec 32 := Scalar.muli arg11 c128_i32
  v64
def k0_off1 (k0_t1 : Fin k0_t1_loop.trips) : Fin 2 → Nat :=
  let c0_i32 : BitVec 32 := 0#32
  let c1_i32 : BitVec 32 := 1#32
  let arg11 : BitVec 32 := Scf.iv c0_i32 c1_i32 k0_t1
  let c128_i32 : BitVec 32 := 128#32
  let v64 : BitVec 32 := Scalar.muli arg11 c128_i32
  let v65 : BitVec 32 := v64
  let v66 : Index := Scalar.indexCast v65
  let c0_52 : Index := 0#32
  ![v66.toNat, 0]
def k0_off2 (k0_t1 : Fin k0_t1_loop.trips) : Fin 2 → Nat :=
  let c0_i32 : BitVec 32 := 0#32
  let c1_i32 : BitVec 32 := 1#32
  let arg11 : BitVec 32 := Scf.iv c0_i32 c1_i32 k0_t1
  let c128_i32 : BitVec 32 := 128#32
  let v64 : BitVec 32 := Scalar.muli arg11 c128_i32
  let v65 : BitVec 32 := v64
  let v87 : Index := Scalar.indexCast v65
  let c0_59 : Index := 0#32
  ![v87.toNat, 0]
@[reducible] def k0_t2_loop : Scf.Loop 32 :=
  let c0_i32_48 : BitVec 32 := 0#32
  let c4_i32_49 : BitVec 32 := 4#32
  let v63 : BitVec 32 := Scalar.addi c0_i32_48 c4_i32_49
  let c1_i32_50 : BitVec 32 := 1#32
  ⟨c0_i32_48, v63, c1_i32_50⟩
def k0_mult2 (k0_t2 : Fin k0_t2_loop.trips) : BitVec 32 :=
  let c0_i32_48 : BitVec 32 := 0#32
  let c1_i32_50 : BitVec 32 := 1#32
  let arg11 : BitVec 32 := Scf.iv c0_i32_48 c1_i32_50 k0_t2
  let c128_i32 : BitVec 32 := 128#32
  let v64 : BitVec 32 := Scalar.muli arg11 c128_i32
  v64
def k0_off3 (k0_t2 : Fin k0_t2_loop.trips) : Fin 2 → Nat :=
  let c0_i32_48 : BitVec 32 := 0#32
  let c1_i32_50 : BitVec 32 := 1#32
  let arg11 : BitVec 32 := Scf.iv c0_i32_48 c1_i32_50 k0_t2
  let c128_i32 : BitVec 32 := 128#32
  let v64 : BitVec 32 := Scalar.muli arg11 c128_i32
  let v65 : BitVec 32 := v64
  let v66 : Index := Scalar.indexCast v65
  let c0_52 : Index := 0#32
  ![v66.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference5Ideal.lean ====
abbrev S16384x2048 : Shape := ⟨2, ![16384, 2048]⟩
abbrev S1x8x2048x256 : Shape := ⟨4, ![1, 8, 2048, 256]⟩
abbrev S1x2048 : Shape := ⟨2, ![1, 2048]⟩
abbrev S1x2048x2048 : Shape := ⟨3, ![1, 2048, 2048]⟩
abbrev S1x256x2048 : Shape := ⟨3, ![1, 256, 2048]⟩
abbrev S2048 : Shape := ⟨1, ![2048]⟩
abbrev S8x2048x2048 : Shape := ⟨3, ![8, 2048, 2048]⟩
abbrev S_ : Shape := ⟨0, ![]⟩
abbrev S8x2048 : Shape := ⟨2, ![8, 2048]⟩
abbrev S8x2048x1 : Shape := ⟨3, ![8, 2048, 1]⟩
abbrev S1x1x2048 : Shape := ⟨3, ![1, 1, 2048]⟩
abbrev S2048x2048 : Shape := ⟨2, ![2048, 2048]⟩
abbrev S8x2048x256 : Shape := ⟨3, ![8, 2048, 256]⟩
abbrev S256x2048 : Shape := ⟨2, ![256, 2048]⟩

abbrev nBuf : Space → Nat
  | .hbm => 56
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S1x8x2048x256, .f32⟩
  | .hbm, ⟨2, _⟩ => ⟨S1x2048, .f32⟩
  | .hbm, ⟨3, _⟩ => ⟨S1x2048x2048, .f32⟩
  | .hbm, ⟨4, _⟩ => ⟨S1x256x2048, .f32⟩
  | .hbm, ⟨5, _⟩ => ⟨S2048, .f32⟩
  | .hbm, ⟨6, _⟩ => ⟨S8x2048x2048, .f32⟩
  | .hbm, ⟨7, _⟩ => ⟨S2048, .f32⟩
  | .hbm, ⟨8, _⟩ => ⟨S8x2048x2048, .f32⟩
  | .hbm, ⟨9, _⟩ => ⟨S_, .f32⟩
  | .hbm, ⟨10, _⟩ => ⟨S8x2048, .f32⟩
  | .hbm, ⟨11, _⟩ => ⟨S8x2048x1, .f32⟩
  | .hbm, ⟨12, _⟩ => ⟨S_, .f32⟩
  | .hbm, ⟨13, _⟩ => ⟨S8x2048x1, .f32⟩
  | .hbm, ⟨14, _⟩ => ⟨S8x2048x1, .f32⟩
  | .hbm, ⟨15, _⟩ => ⟨S_, .f32⟩
  | .hbm, ⟨16, _⟩ => ⟨S8x2048x1, .f32⟩
  | .hbm, ⟨17, _⟩ => ⟨S8x2048x1, .f32⟩
  | .hbm, ⟨18, _⟩ => ⟨S8x2048x1, .f32⟩
  | .hbm, ⟨19, _⟩ => ⟨S8x2048x2048, .f32⟩
  | .hbm, ⟨20, _⟩ => ⟨S8x2048x2048, .f32⟩
  | .hbm, ⟨21, _⟩ => ⟨S1x1x2048, .f32⟩
  | .hbm, ⟨22, _⟩ => ⟨S8x2048x2048, .f32⟩
  | .hbm, ⟨23, _⟩ => ⟨S8x2048x2048, .f32⟩
  | .hbm, ⟨24, _⟩ => ⟨S2048x2048, .f32⟩
  | .hbm, ⟨25, _⟩ => ⟨S8x2048x2048, .f32⟩
  | .hbm, ⟨26, _⟩ => ⟨S8x2048x2048, .f32⟩
  | .hbm, ⟨27, _⟩ => ⟨S8x2048x2048, .f32⟩
  | .hbm, ⟨28, _⟩ => ⟨S_, .f32⟩
  | .hbm, ⟨29, _⟩ => ⟨S8x2048x2048, .f32⟩
  | .hbm, ⟨30, _⟩ => ⟨S8x2048x2048, .f32⟩
  | .hbm, ⟨31, _⟩ => ⟨S_, .f32⟩
  | .hbm, ⟨32, _⟩ => ⟨S8x2048x2048, .f32⟩
  | .hbm, ⟨33, _⟩ => ⟨S8x2048x2048, .f32⟩
  | .hbm, ⟨34, _⟩ => ⟨S8x2048x256, .f32⟩
  | .hbm, ⟨35, _⟩ => ⟨S256x2048, .f32⟩
  | .hbm, ⟨36, _⟩ => ⟨S8x2048x2048, .f32⟩
  | .hbm, ⟨37, _⟩ => ⟨S8x2048x2048, .f32⟩
  | .hbm, ⟨38, _⟩ => ⟨S8x2048x2048, .f32⟩
  | .hbm, ⟨39, _⟩ => ⟨S8x2048x2048, .f32⟩
  | .hbm, ⟨40, _⟩ => ⟨S_, .f32⟩
  | .hbm, ⟨41, _⟩ => ⟨S8x2048, .f32⟩
  | .hbm, ⟨42, _⟩ => ⟨S8x2048x1, .f32⟩
  | .hbm, ⟨43, _⟩ => ⟨S_, .f32⟩
  | .hbm, ⟨44, _⟩ => ⟨S8x2048x1, .f32⟩
  | .hbm, ⟨45, _⟩ => ⟨S8x2048x1, .f32⟩
  | .hbm, ⟨46, _⟩ => ⟨S_, .f32⟩
  | .hbm, ⟨47, _⟩ => ⟨S8x2048x1, .f32⟩
  | .hbm, ⟨48, _⟩ => ⟨S8x2048x1, .f32⟩
  | .hbm, ⟨49, _⟩ => ⟨S8x2048x1, .f32⟩
  | .hbm, ⟨50, _⟩ => ⟨S8x2048x2048, .f32⟩
  | .hbm, ⟨51, _⟩ => ⟨S8x2048x2048, .f32⟩
  | .hbm, ⟨52, _⟩ => ⟨S1x1x2048, .f32⟩
  | .hbm, ⟨53, _⟩ => ⟨S8x2048x2048, .f32⟩
  | .hbm, ⟨54, _⟩ => ⟨S8x2048x2048, .f32⟩
  | .hbm, ⟨55, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_4 : Ref sig .tc := ⟨.hbm, 40, rfl⟩
abbrev main_v29 : Ref sig .tc := ⟨.hbm, 41, rfl⟩
abbrev main_v30 : Ref sig .tc := ⟨.hbm, 42, rfl⟩
abbrev main_cst_5 : Ref sig .tc := ⟨.hbm, 43, rfl⟩
abbrev main_v31 : Ref sig .tc := ⟨.hbm, 44, rfl⟩
abbrev main_v32 : Ref sig .tc := ⟨.hbm, 45, rfl⟩
abbrev main_cst_6 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== Proof.Spec.lean ====
/- The mathematics of one chunk of 128 positions, over plain functions into the extended reals: what both programs are read as. -/
module

public import Idealize.ShloMosaic.Lib.Pointwise

@[expose] public section

noncomputable section
namespace Cert.Proof.Spec
open Idealize.ShloMosaic

/-- A matrix of extended reals. -/
abbrev M (a b : ℕ) := Fin a → Fin b → EReal

/-- The feature half a head away: where the rotation takes its partner from. -/
def opp (d : Fin 128) : Fin 128 := ⟨(d.val + 64) % 128, Nat.mod_lt _ (by decide)⟩

/-- Rotated features: the feature times its cosine factor plus its partner times the signed sine factor. -/
def rot (x c s : M 128 128) : M 128 128 := fun i d => x i d * c i d + x i (opp d) * s i d

/-- What retention yields for one chunk of one head: the decayed scores against the values, plus the carried state. -/
def ret (q k v dec st xi : M 128 128) : M 128 128 := fun i e =>
  (∑ j, ((∑ d, q i d * k j d) * dec i j) * v j e) + (∑ d, q i d * st d e) * xi i e

/-- The state after a chunk: the state before, decayed, plus the chunk's own keys and values. -/
def stepS (g : EReal) (k v ze st : M 128 128) : M 128 128 := fun d e =>
  g * st d e + ∑ j, (k j d * ze j d) * v j e

/-- A row minus its mean over the 128 features. -/
def cen (r : Fin 128 → EReal) (e : Fin 128) : EReal := r e - Ideal.div (∑ x, r x) (Ideal.ofBits .f32 0x43000000#32)

/-- A row brought to mean zero and unit variance, times the weights. -/
def norm (r w : Fin 128 → EReal) (e : Fin 128) : EReal :=
  cen r e * Ideal.rsqrt (Ideal.div (∑ x, cen r x * cen r x) (Ideal.ofBits .f32 0x43000000#32) + Ideal.ofBits .f32 0x3727C5AC#32) * w e

/-- The gate: `g / (1 + exp (0 - g))`. -/
def silu (g : EReal) : EReal := Ideal.div g (1 + Ideal.exp (0 - g))

/-- Pooling for one group of one chunk: the window sum over its count, less the row itself, projected and scaled.
    `uc` stacks the chunk before over the chunk. -/
def pool (band : M 128 256) (uc : M 256 256) (cnt : Fin 128 → EReal) (u : M 128 256) (pw : M 256 256) (ps : Fin 256 → EReal) : M 128 256 :=
  fun i d => (∑ c, (Ideal.div (∑ x, band i x * uc x c) (cnt i) - u i c) * pw c d) * ps d

end Cert.Proof.Spec
-- ==== Proof.Head.lean ====
/- One head of one chunk: the kernel's vector operations for the first head as functions of what the body loads, each read at an index. -/
module

public import proofs.«01_k».proof.Proof.Spec
public import proofs.«01_k».proof.Proof.Gen.KernelIdeal.Skeleton

@[expose] public section

set_option maxRecDepth 16384
noncomputable section
namespace Cert.Proof
open Cert.KernelIdeal Cert.KernelIdeal.Gen Idealize.ShloMosaic

/-- A head's output tile as the body computes it from its loads. -/
def headV (qcc qss kcc kss : Vec Ideal S128x128 .f32) (q k v g : Vec Ideal S128x128 .bf16) (dec st : Vec Ideal S1x128x128 .f32)
    (xi : Vec Ideal S128x128 .f32) (gn : Vec Ideal S1x128 .f32) : FVec Ideal S128x128 .bf16 :=
  k0_pay25 (k0_pay17 g) (k0_pay24 v (k0_pay19 qcc qss q) (k0_pay21 qcc qss kcc kss q k) dec st xi gn) (Scalar.ofBits .f32 0x00000000#32)

/-- A head's next state tile as the body computes it, with the decay factor of a whole chunk an argument. -/
def stateV (γ : EReal) (kcc kss : Vec Ideal S128x128 .f32) (k v : Vec Ideal S128x128 .bf16) (ze : Vec Ideal S128x128 .f32)
    (st : Vec Ideal S1x128x128 .f32) : FVec Ideal S1x128x128 .f32 :=
  shapeCast S1x128x128 (addf (mulf (broadcast S128x128 (γ : Ideal .f32)) (k0_pay22 st))
    (matmul (φ₁ := .bf16) (φ₂ := .bf16) dot_S128x128_S128x128_S128x128_0_0_1_1_n_n none (k0_pay20 kcc kss k ze) v (constant S128x128 .f32 0x00000000#32))) shapeCasts_S128x128_S1x128x128

theorem rotq_apply (qcc qss : Vec Ideal S128x128 .f32) (q : Vec Ideal S128x128 .bf16) (i d : Fin 128) :
    k0_pay19 qcc qss q (ix2 i d) = Spec.rot (fun i d => q (ix2 i d)) (fun i d => qcc (ix2 i d)) (fun i d => qss (ix2 i d)) i d := by
  pointwise [k0_pay19, k0_pay13, k0_pay14]
  have h : (⟨(d.val + 128 - 64) % 128, Nat.mod_lt _ (by decide)⟩ : Fin 128) = Spec.opp d := Fin.ext (by unfold Spec.opp; dsimp only; omega)
  rw [h]
  rfl

theorem rotk_apply (kcc kss : Vec Ideal S128x128 .f32) (k : Vec Ideal S128x128 .bf16) (i d : Fin 128) :
    k0_pay18 kcc kss k (ix2 i d) = Spec.rot (fun i d => k (ix2 i d)) (fun i d => kcc (ix2 i d)) (fun i d => kss (ix2 i d)) i d := by
  pointwise [k0_pay18, k0_pay15, k0_pay16]
  have h : (⟨(d.val + 128 - 64) % 128, Nat.mod_lt _ (by decide)⟩ : Fin 128) = Spec.opp d := Fin.ext (by unfold Spec.opp; dsimp only; omega)
  rw [h]
  rfl

theorem score_apply (qcc qss kcc kss : Vec Ideal S128x128 .f32) (q k : Vec Ideal S128x128 .bf16) (i j : Fin 128) :
    k0_pay21 qcc qss kcc kss q k (ix2 i j) = ∑ d, k0_pay19 qcc qss q (ix2 i d) * k0_pay18 kcc kss k (ix2 j d) := by
  unfold k0_pay21
  generalize k0_pay19 qcc qss q = a
  generalize k0_pay18 kcc kss k = b
  pointwise

theorem kz_apply (kcc kss : Vec Ideal S128x128 .f32) (k : Vec Ideal S128x128 .bf16) (ze : Vec Ideal S128x128 .f32) (i d : Fin 128) :
    k0_pay20 kcc kss k ze (ix2 i d) = k0_pay18 kcc kss k (ix2 i d) * ze (ix2 i d) := by
  unfold k0_pay20
  generalize k0_pay18 kcc kss k = b
  pointwise

theorem tail_apply (v q : Vec Ideal S128x128 .bf16) (s : FVec Ideal S128x128 .f32) (dec st : Vec Ideal S1x128x128 .f32)
    (xi : Vec Ideal S128x128 .f32) (gn : Vec Ideal S1x128 .f32) (g : Vec Ideal S128x128 .bf16) (i e : Fin 128) :
    k0_pay25 (k0_pay17 g) (k0_pay24 v q s dec st xi gn) (Scalar.ofBits .f32 0x00000000#32) (ix2 i e)
      = Spec.silu (g (ix2 i e)) * Spec.norm (fun e => (∑ j, (s (ix2 i j) * dec (ix3 0 i j)) * v (ix2 j e)) + (∑ d, q (ix2 i d) * st (ix3 0 d e)) * xi (ix2 i e))
          (fun e => gn (ix2 0 e)) e := by
  pointwise [k0_pay25, k0_pay17, k0_pay24, k0_pay22]
  rfl

/-- A head's output tile at an index: the gate times the normalised retention. -/
theorem headV_apply (qcc qss kcc kss : Vec Ideal S128x128 .f32) (q k v g : Vec Ideal S128x128 .bf16) (dec st : Vec Ideal S1x128x128 .f32)
    (xi : Vec Ideal S128x128 .f32) (gn : Vec Ideal S1x128 .f32) (i e : Fin 128) :
    headV qcc qss kcc kss q k v g dec st xi gn (ix2 i e)
      = Spec.silu (g (ix2 i e)) * Spec.norm (Spec.ret (Spec.rot (fun i d => q (ix2 i d)) (fun i d => qcc (ix2 i d)) (fun i d => qss (ix2 i d)))
          (Spec.rot (fun i d => k (ix2 i d)) (fun i d => kcc (ix2 i d)) (fun i d => kss (ix2 i d))) (fun j e => v (ix2 j e))
          (fun i j => dec (ix3 0 i j)) (fun d e => st (ix3 0 d e)) (fun i e => xi (ix2 i e)) i) (fun e => gn (ix2 0 e)) e := by
  unfold headV
  rw [tail_apply]
  simp only [score_apply, rotq_apply, rotk_apply]
  rfl

/-- A head's next state at an index. -/
theorem stateV_apply (γ : EReal) (kcc kss : Vec Ideal S128x128 .f32) (k v : Vec Ideal S128x128 .bf16) (ze : Vec Ideal S128x128 .f32)
    (st : Vec Ideal S1x128x128 .f32) (o : Fin 1) (d e : Fin 128) :
    stateV γ kcc kss k v ze st (ix3 o d e)
      = Spec.stepS γ (Spec.rot (fun i d => k (ix2 i d)) (fun i d => kcc (ix2 i d)) (fun i d => kss (ix2 i d))) (fun j e => v (ix2 j e))
          (fun i d => ze (ix2 i d)) (fun d e => st (ix3 0 d e)) d e := by
  have h : stateV γ kcc kss k v ze st (ix3 o d e) = γ * st (ix3 0 d e) + ∑ j, k0_pay20 kcc kss k ze (ix2 j d) * v (ix2 j e) := by
    unfold stateV
    generalize k0_pay20 kcc kss k ze = b
    pointwise [k0_pay22]
  rw [h]
  simp only [kz_apply, rotk_apply]
  rfl

/-- One pooling group's output tile as the body computes it from its loads. -/
def poolV (cnt : IVec S128x256 32) (b : Vec Ideal S1x128x256 .bf16) (uc : Vec Ideal S256x256 .bf16) (u : Vec Ideal S128x256 .bf16)
    (pw : Vec Ideal S1x256x256 .bf16) (ps : Vec Ideal S1x256 .f32) : FVec Ideal S128x256 .bf16 :=
  k0_pay10 (divf (matmul (φ₁ := .bf16) (φ₂ := .bf16) dot_S128x256_S256x256_S128x256_1_0_0_1_n_n none (shapeCast S128x256 b shapeCasts_S1x128x256_S128x256 : FVec Ideal S128x256 .bf16) uc (constant S128x256 .f32 0x00000000#32)) (sitofp .f32 cnt))
    (k0_pay9 u) pw ps

/-- One pooling group's output tile at an index. -/
theorem poolV_apply (cnt : IVec S128x256 32) (b : Vec Ideal S1x128x256 .bf16) (uc : Vec Ideal S256x256 .bf16) (u : Vec Ideal S128x256 .bf16)
    (pw : Vec Ideal S1x256x256 .bf16) (ps : Vec Ideal S1x256 .f32) (i : Fin 128) (d : Fin 256) :
    poolV cnt b uc u pw ps (ix2 i d) = (∑ c, (Ideal.div (∑ x, b (ix3 0 i x) * uc (ix2 x c)) (((cnt (ix2 i c)).toInt : ℝ) : EReal) - u (ix2 i c)) * pw (ix3 0 c d)) * ps (ix2 0 d) := by
  pointwise [poolV, k0_pay10, k0_pay9]
  rfl

end Cert.Proof
-- ==== Proof.Heads.lean ====
/- The body writes each head and each pooling group out with its own operations; all are the one head and the one group of `Head`. -/
module

public import proofs.«01_k».proof.Proof.Head

@[expose] public section

set_option maxRecDepth 16384
noncomputable section
namespace Cert.Proof
open Cert.KernelIdeal Cert.KernelIdeal.Gen Idealize.ShloMosaic

/-- The decay of a whole chunk, head by head, as the kernel's named constants. -/
def gam : Fin 8 → EReal := ![(Named.named κ "g0" 0x3C8CC36A#32 : Ideal .f32), (Named.named κ "g1" 0x3E08698E#32 : Ideal .f32),
  (Named.named κ "g2" 0x3EBB9DB9#32 : Ideal .f32), (Named.named κ "g3" 0x3F1B1EB1#32 : Ideal .f32), (Named.named κ "g4" 0x3F475303#32 : Ideal .f32),
  (Named.named κ "g5" 0x3F61E7C9#32 : Ideal .f32), (Named.named κ "g6" 0x3F707C6F#32 : Ideal .f32), (Named.named κ "g7" 0x3F781F6D#32 : Ideal .f32)]

/-- The window lengths as the kernel's integers. -/
def winB : Fin 4 → BitVec 32 := ![2#32, 4#32, 8#32, 16#32]

/-- A group's counts: one more than the position, at most the window. -/
def cntV (c : grid0.Coords) (g : Fin 4) : IVec S128x256 32 := minsi (k0_pay5 c) (broadcast S128x256 (winB g))

section
variable (a b c d : Vec Ideal S128x128 .f32) (q k v g : Vec Ideal S128x128 .bf16) (dec st : Vec Ideal S1x128x128 .f32)
  (xi ze : Vec Ideal S128x128 .f32) (gn : Vec Ideal S1x128 .f32)

theorem head0_eq : k0_pay25 (k0_pay17 g) (k0_pay24 v (k0_pay19 a b q) (k0_pay21 a b c d q k) dec st xi gn) (FloatOps.ofBits .f32 0#32)
    = headV a b c d q k v g dec st xi gn := rfl
theorem head1_eq : k0_pay33 (k0_pay26 g) (k0_pay28 (k0_pay13 a) (k0_pay14 b) q)
      (k0_pay30 (k0_pay13 a) (k0_pay14 b) (k0_pay15 c) (k0_pay16 d) q k v dec) st xi gn
    = headV a b c d q k v g dec st xi gn := rfl
theorem head2_eq : k0_pay43 (k0_pay34 g) (k0_pay38 (k0_pay13 a) (k0_pay14 b) (k0_pay15 c) (k0_pay16 d) q k v dec)
      (k0_pay40 (k0_pay13 a) (k0_pay14 b) q st) (k0_pay41 xi) gn
    = headV a b c d q k v g dec st xi gn := rfl
theorem head3_eq : k0_pay51 (k0_pay45 g) (k0_pay48 (k0_pay13 a) (k0_pay14 b) (k0_pay15 c) (k0_pay16 d) (k0_pay44 q) k v dec st xi) gn
    = headV a b c d q k v g dec st xi gn := rfl
theorem head4_eq : k0_pay60 (k0_pay54 g) (k0_pay57 (k0_pay13 a) (k0_pay14 b) (k0_pay15 c) (k0_pay16 d) (k0_pay52 q) (k0_pay53 k) v dec st xi)
      (k0_pay59 (k0_pay13 a) (k0_pay14 b) (k0_pay15 c) (k0_pay16 d) (k0_pay52 q) (k0_pay53 k) v dec st xi) gn
    = headV a b c d q k v g dec st xi gn := rfl
theorem head5_eq : k0_pay71 (k0_pay62 g) (k0_pay69 (k0_pay16 d) v (k0_pay63 (k0_pay13 a) (k0_pay14 b) q) (k0_pay64 (k0_pay15 c) k) (k0_pay65 k) dec st xi)
      (k0_pay70 (k0_pay16 d) v (k0_pay63 (k0_pay13 a) (k0_pay14 b) q) (k0_pay64 (k0_pay15 c) k) (k0_pay65 k) dec st xi) gn
    = headV a b c d q k v g dec st xi gn := rfl
theorem head6_eq : k0_pay80 (k0_pay72 g) (k0_pay79 v (k0_pay74 (k0_pay13 a) (k0_pay14 b) q) (k0_pay75 (k0_pay15 c) (k0_pay16 d) k) dec st xi) gn
    = headV a b c d q k v g dec st xi gn := rfl
theorem head7_eq : k0_pay1 (k0_pay81 g) (k0_pay88 v (k0_pay83 (k0_pay13 a) (k0_pay14 b) q)
      (k0_pay85 (k0_pay13 a) (k0_pay14 b) (k0_pay15 c) (k0_pay16 d) q k dec) st xi gn) (k0_pay89 (k0_pay81 g))
    = headV a b c d q k v g dec st xi gn := rfl

theorem state0_eq : k0_pay23 v (k0_pay20 c d k ze) st = stateV (gam 0) c d k v ze st := rfl
theorem state1_eq : k0_pay32 v (k0_pay29 (k0_pay15 c) (k0_pay16 d) k ze) st = stateV (gam 1) c d k v ze st := rfl
theorem state2_eq : k0_pay42 v (k0_pay37 (k0_pay15 c) (k0_pay16 d) k ze) (k0_pay39 st) = stateV (gam 2) c d k v ze st := rfl
theorem state3_eq : k0_pay50 (k0_pay49 (k0_pay15 c) (k0_pay16 d) k v ze st) = stateV (gam 3) c d k v ze st := rfl
theorem state4_eq : k0_pay58 (k0_pay15 c) (k0_pay16 d) (k0_pay53 k) v ze st = stateV (gam 4) c d k v ze st := rfl
theorem state5_eq : k0_pay68 (k0_pay16 d) v (k0_pay64 (k0_pay15 c) k) (k0_pay65 k) ze st = stateV (gam 5) c d k v ze st := rfl
theorem state6_eq : k0_pay78 v (k0_pay76 (k0_pay15 c) (k0_pay16 d) k ze) st = stateV (gam 6) c d k v ze st := rfl
theorem state7_eq : k0_pay87 v (k0_pay84 (k0_pay15 c) (k0_pay16 d) k ze) st = stateV (gam 7) c d k v ze st := rfl
end

section
variable (co : grid0.Coords) (b : Vec Ideal S1x128x256 .bf16) (uc : Vec Ideal S256x256 .bf16) (u : Vec Ideal S128x256 .bf16)
  (pw : Vec Ideal S1x256x256 .bf16) (ps : Vec Ideal S1x256 .f32)

theorem pool0_eq : k0_pay6 co b uc u pw ps = poolV (cntV co 0) b uc u pw ps := rfl
theorem pool1_eq : k0_pay7 (k0_pay5 co) b uc u pw ps = poolV (cntV co 1) b uc u pw ps := rfl
theorem pool2_eq : k0_pay10 (k0_pay8 (k0_pay5 co) b uc) (k0_pay9 u) pw ps = poolV (cntV co 2) b uc u pw ps := rfl
theorem pool3_eq : k0_pay11 (k0_pay5 co) b uc u pw ps = poolV (cntV co 3) b uc u pw ps := rfl
end

/-- The window lengths. -/
def win : Fin 4 → ℕ := ![2, 4, 8, 16]

/-- A group's count at a row, as a number. -/
theorem cntV_apply (c : grid0.Coords) (g : Fin 4) (i : Fin 128) (x : Fin 256) :
    (cntV c g (ix2 i x)).toInt = (min (128 * (c 1).val + i.val + 1) (win g) : ℕ) := by
  have hc : (c 1).val < 16 := (c 1).isLt
  have hi := i.isLt
  have h5 : k0_pay5 c (ix2 i x) = BitVec.ofNat 32 (128 * (c 1).val + i.val + 1) := by
    pointwise [k0_pay5]
    apply BitVec.eq_of_toNat_eq
    simp only [IntOp.addi, Scalar.muli, IntOp.muli, BitVec.toNat_add, BitVec.toNat_mul, BitVec.toNat_ofNat]
    omega
  have hw : (winB g).toNat = win g ∧ win g ≤ 16 := by fin_cases g <;> decide
  have hn : (k0_pay5 c (ix2 i x)).toInt = (128 * (c 1).val + i.val + 1 : ℕ) := by
    rw [h5, BitVec.toInt_eq_toNat_of_lt (by rw [BitVec.toNat_ofNat]; omega), BitVec.toNat_ofNat]; omega
  have hwi : (winB g).toInt = (win g : ℕ) := by
    rw [BitVec.toInt_eq_toNat_of_lt (by omega), hw.1]
  show (if (k0_pay5 c (ix2 i x)).slt (winB g) then k0_pay5 c (ix2 i x) else winB g).toInt = _
  simp only [BitVec.slt, hn, hwi, decide_eq_true_eq]
  split <;> [rw [hn]; rw [hwi]] <;> omega

end Cert.Proof
-- ==== Proof.Block.lean ====
/- One grid point of the kernel as a function of its blocks and of what the point before left: the output block, the carried pool rows and the carried state, each at an index. -/
module

public import proofs.«01_k».proof.Proof.Heads
public import Idealize.ShloMosaic.Lib.Pipeline.ValueKit
public import Idealize.ShloMosaic.Lib.Pipeline.ReadBack
public import Idealize.ShloMosaic.Lib.WritesUnit

@[expose] public section

set_option maxRecDepth 16384
noncomputable section
namespace Cert.Proof
open Cert.KernelIdeal Cert.KernelIdeal.Gen Idealize.ShloMosaic Idealize.ShloMosaic.TcCoe

/-- Column `d` of head `h` in section `s` (queries, keys, values, gates) of the projected input. -/
def zc (s : Fin 4) (h : Fin 8) (d : Fin 128) : Fin 5120 := ⟨1024 * (s.val + 1) + 128 * h.val + d.val, by omega⟩
/-- Column `d` of head `h` among the heads' columns. -/
def hc (h : Fin 8) (d : Fin 128) : Fin 1024 := ⟨128 * h.val + d.val, by omega⟩
/-- Column `d` of the rotation table's part `j`. -/
def rc (j : Fin 4) (d : Fin 128) : Fin 512 := ⟨128 * j.val + d.val, by omega⟩
/-- Column `c` of group `g` among the pool's columns. -/
def gc (g : Fin 4) (c : Fin 256) : Fin 1024 := ⟨256 * g.val + c.val, by omega⟩
/-- Column `c` of group `g` in the projected input. -/
def zg (g : Fin 4) (c : Fin 256) : Fin 5120 := ⟨256 * g.val + c.val, by omega⟩

section
variable (x0 : Vec Ideal S128x5120 .bf16) (x1 : Vec Ideal S128x512 .f32) (x2 : Vec Ideal S8x128x128 .f32) (x3 x4 : Vec Ideal S128x1024 .f32)
  (x5 : Vec Ideal S4x128x256 .bf16) (x6 : Vec Ideal S4x256x256 .bf16) (x7 x8 : Vec Ideal S1x1024 .f32)
  (U : Vec Ideal S256x1024 .bf16) (S : Vec Ideal S8x128x128 .f32)

/-- A head's rotated keys. -/
def keys (h : Fin 8) : Spec.M 128 128 := Spec.rot (fun i d => x0 (ix2 i (zc 1 h d))) (fun i d => x1 (ix2 i (rc 2 d))) (fun i d => x1 (ix2 i (rc 3 d)))

/-- A head's output at a row and a feature. -/
def headAt (h : Fin 8) (i e : Fin 128) : EReal :=
  Spec.silu (x0 (ix2 i (zc 3 h e))) * Spec.norm (Spec.ret
    (Spec.rot (fun i d => x0 (ix2 i (zc 0 h d))) (fun i d => x1 (ix2 i (rc 0 d))) (fun i d => x1 (ix2 i (rc 1 d))))
    (keys x0 x1 h) (fun j e => x0 (ix2 j (zc 2 h e))) (fun i j => x2 (ix3 h i j)) (fun d e => S (ix3 h d e)) (fun i e => x3 (ix2 i (hc h e))) i)
    (fun e => x8 (ix2 0 (hc h e))) e

/-- A head's next state at two features. -/
def stateAt (h : Fin 8) (d e : Fin 128) : EReal :=
  Spec.stepS (gam h) (keys x0 x1 h) (fun j e => x0 (ix2 j (zc 2 h e))) (fun i d => x4 (ix2 i (hc h d))) (fun d e => S (ix3 h d e)) d e

/-- The pool rows of the chunk before (the upper half of what the scratch held) over the chunk's own. -/
def ucF (Z : Vec Ideal S128x1024 .bf16) : Vec Ideal S256x1024 .bf16 := fun y =>
  if h : (y (0 : Fin 2)).val < 128 then U y
  else Z (ix2 ⟨(y (0 : Fin 2)).val - 128, by have : (y (0 : Fin 2)).val < 256 := (y (0 : Fin 2)).isLt; omega⟩ (y (1 : Fin 2)))

/-- A pooling group's output at a row and a column of chunk `n`. -/
def poolAt (n : ℕ) (g : Fin 4) (i : Fin 128) (d : Fin 256) : EReal :=
  Spec.pool (fun i x => x5 (ix3 g i x))
    (fun x c => if h : x.val < 128 then U (ix2 x (gc g c)) else x0 (ix2 ⟨x.val - 128, by omega⟩ (zg g c)))
    (fun i => (((min (128 * n + i.val + 1) (win g) : ℕ) : ℝ) : EReal)) (fun i c => x0 (ix2 i (zg g c)))
    (fun c d => x6 (ix3 g c d)) (fun d => x7 (ix2 0 (gc g d))) i d

/-- The output block at a row and a column: the four groups, then the eight heads. -/
def outAt (n : ℕ) (i : Fin 128) (j : Fin 2048) : EReal :=
  if h : j.val < 1024 then poolAt x0 x5 x6 x7 U n ⟨j.val / 256, by omega⟩ i ⟨j.val % 256, Nat.mod_lt _ (by decide)⟩
  else headAt x0 x1 x2 x3 x8 S ⟨(j.val - 1024) / 128, by omega⟩ i ⟨j.val % 128, Nat.mod_lt _ (by decide)⟩

end

section
variable {α : Type}

theorem ld2 {a b m n : ℕ} (o : ℕ) (X : (⟨2, ![m, n]⟩ : Shape).Idx → α) (inb) (i : Fin a) (d : Fin b) (i' : Fin m) (d' : Fin n)
    (hi : i'.val = i.val) (hd : d'.val = o + d.val) :
    View.ld (e' := .f32) (Val := fun _ => α) X (Rect.unit (s := ⟨2, ![m, n]⟩) ![0, o] ![a, b] inb) (ix2 i d) = X (ix2 i' d') := by
  refine congrArg X (funext fun x => Fin.ext ?_)
  fin_cases x
  · show 0 + 1 * i.val = i'.val; omega
  · show o + 1 * d.val = d'.val; omega

theorem ld3 {k m n : ℕ} (o : Fin k) (X : (⟨3, ![k, m, n]⟩ : Shape).Idx → α) (inb) (i : Fin m) (d : Fin n) :
    View.ld (e' := .f32) (Val := fun _ => α) X (Rect.unit (s := ⟨3, ![k, m, n]⟩) ![o.val, 0, 0] ![1, m, n] inb) (ix3 (0 : Fin 1) i d) = X (ix3 o i d) := by
  refine congrArg X (funext fun x => Fin.ext ?_)
  fin_cases x
  · show o.val + 1 * 0 = o.val; omega
  · show 0 + 1 * i.val = i.val; omega
  · show 0 + 1 * d.val = d.val; omega
end

theorem headV_of {qcc qss kcc kss : Vec Ideal S128x128 .f32} {q k v g : Vec Ideal S128x128 .bf16} {dec st : Vec Ideal S1x128x128 .f32}
    {xi : Vec Ideal S128x128 .f32} {gn : Vec Ideal S1x128 .f32} {qc qs kc ks q' k' v' g' dec' st' xi' : Spec.M 128 128} {gn' : Fin 128 → EReal}
    (h1 : ∀ i d, qcc (ix2 i d) = qc i d) (h2 : ∀ i d, qss (ix2 i d) = qs i d) (h3 : ∀ i d, kcc (ix2 i d) = kc i d) (h4 : ∀ i d, kss (ix2 i d) = ks i d)
    (h5 : ∀ i d, q (ix2 i d) = q' i d) (h6 : ∀ i d, k (ix2 i d) = k' i d) (h7 : ∀ i d, v (ix2 i d) = v' i d) (h8 : ∀ i d, g (ix2 i d) = g' i d)
    (h9 : ∀ i d, dec (ix3 0 i d) = dec' i d) (h10 : ∀ i d, st (ix3 0 i d) = st' i d) (h11 : ∀ i d, xi (ix2 i d) = xi' i d)
    (h12 : ∀ d, gn (ix2 0 d) = gn' d) (i e : Fin 128) :
    headV qcc qss kcc kss q k v g dec st xi gn (ix2 i e)
      = Spec.silu (g' i e) * Spec.norm (Spec.ret (Spec.rot q' qc qs) (Spec.rot k' kc ks) v' dec' st' xi' i) gn' e := by
  rw [headV_apply]
  simp only [h1, h2, h3, h4, h5, h6, h7, h8, h9, h10, h11, h12]

theorem stateV_of {γ : EReal} {kcc kss : Vec Ideal S128x128 .f32} {k v : Vec Ideal S128x128 .bf16} {ze : Vec Ideal S128x128 .f32}
    {st : Vec Ideal S1x128x128 .f32} {kc ks k' v' ze' st' : Spec.M 128 128}
    (h3 : ∀ i d, kcc (ix2 i d) = kc i d) (h4 : ∀ i d, kss (ix2 i d) = ks i d) (h6 : ∀ i d, k (ix2 i d) = k' i d) (h7 : ∀ i d, v (ix2 i d) = v' i d)
    (h9 : ∀ i d, ze (ix2 i d) = ze' i d) (h10 : ∀ i d, st (ix3 0 i d) = st' i d) (o : Fin 1) (d e : Fin 128) :
    stateV γ kcc kss k v ze st (ix3 o d e) = Spec.stepS γ (Spec.rot k' kc ks) v' ze' st' d e := by
  rw [stateV_apply]
  simp only [h3, h4, h6, h7, h9, h10]

theorem poolV_of {cnt : IVec S128x256 32} {b : Vec Ideal S1x128x256 .bf16} {uc : Vec Ideal S256x256 .bf16} {u : Vec Ideal S128x256 .bf16}
    {pw : Vec Ideal S1x256x256 .bf16} {ps : Vec Ideal S1x256 .f32} {b' : Spec.M 128 256} {uc' : Spec.M 256 256} {u' : Spec.M 128 256} {pw' : Spec.M 256 256}
    {ps' : Fin 256 → EReal} {cnt' : Fin 128 → ℕ} (h1 : ∀ i x, b (ix3 0 i x) = b' i x) (h2 : ∀ i x, uc (ix2 i x) = uc' i x)
    (h3 : ∀ i x, u (ix2 i x) = u' i x) (h4 : ∀ i x, pw (ix3 0 i x) = pw' i x) (h5 : ∀ x, ps (ix2 0 x) = ps' x)
    (h6 : ∀ i x, (cnt (ix2 i x)).toInt = (cnt' i : ℤ)) (i : Fin 128) (d : Fin 256) :
    poolV cnt b uc u pw ps (ix2 i d) = Spec.pool b' uc' (fun i => ((cnt' i : ℝ) : EReal)) u' pw' ps' i d := by
  rw [poolV_apply]
  simp only [h1, h2, h3, h4, h5, h6, Int.cast_natCast]
  rfl

section
variable (x0 : Vec Ideal S128x5120 .bf16) (x1 : Vec Ideal S128x512 .f32) (x2 : Vec Ideal S8x128x128 .f32) (x3 x4 : Vec Ideal S128x1024 .f32)
  (x5 : Vec Ideal S4x128x256 .bf16) (x6 : Vec Ideal S4x256x256 .bf16) (x7 x8 : Vec Ideal S1x1024 .f32)
  (U : Vec Ideal S256x1024 .bf16) (S : Vec Ideal S8x128x128 .f32)

/-- A head's tile, from the loads of its columns, is the block function on those columns. -/
theorem head_piece (n : ℕ) (h : Fin 8) (i0 i1 i2 i3 iq ik iv ig id is ix ign) (y : S128x2048.Idx) (x : S128x128.Idx)
    (h0 : (y (0 : Fin 2)).val = (x (0 : Fin 2)).val) (h1 : (y (1 : Fin 2)).val = 1024 + 128 * h.val + (x (1 : Fin 2)).val) :
    headV (View.ld x1 (Rect.unit ![0, 0] ![128, 128] i0)) (View.ld x1 (Rect.unit ![0, 128] ![128, 128] i1))
      (View.ld x1 (Rect.unit ![0, 256] ![128, 128] i2)) (View.ld x1 (Rect.unit ![0, 384] ![128, 128] i3))
      (View.ld x0 (Rect.unit ![0, 1024 + 128 * h.val] ![128, 128] iq)) (View.ld x0 (Rect.unit ![0, 2048 + 128 * h.val] ![128, 128] ik))
      (View.ld x0 (Rect.unit ![0, 3072 + 128 * h.val] ![128, 128] iv)) (View.ld x0 (Rect.unit ![0, 4096 + 128 * h.val] ![128, 128] ig))
      (View.ld x2 (Rect.unit ![h.val, 0, 0] ![1, 128, 128] id)) (View.ld S (Rect.unit ![h.val, 0, 0] ![1, 128, 128] is))
      (View.ld x3 (Rect.unit ![0, 128 * h.val] ![128, 128] ix)) (View.ld x8 (Rect.unit ![0, 128 * h.val] ![1, 128] ign)) x
    = outAt x0 x1 x2 x3 x5 x6 x7 x8 U S n (y (0 : Fin 2)) (y (1 : Fin 2)) := by
  obtain ⟨i, e, rfl⟩ : ∃ i e, x = ix2 i e := ⟨x 0, x 1, eq_ix2 x⟩
  have e0 : y (0 : Fin 2) = i := Fin.ext h0
  have e1 : (y (1 : Fin 2)).val = 1024 + 128 * h.val + e.val := h1
  rw [e0]
  unfold outAt
  rw [dif_neg (by omega)]
  have eh : (⟨((y (1 : Fin 2)).val - 1024) / 128, by have := e.isLt; omega⟩ : Fin 8) = h := Fin.ext (by show _ / 128 = _; have := e.isLt; omega)
  have ee : (⟨(y (1 : Fin 2)).val % 128, Nat.mod_lt _ (by decide)⟩ : Fin 128) = e := Fin.ext (by show _ % 128 = _; have := e.isLt; omega)
  rw [eh, ee]
  unfold headAt keys
  refine headV_of (qc := fun i d => x1 (ix2 i (rc 0 d))) (qs := fun i d => x1 (ix2 i (rc 1 d))) (kc := fun i d => x1 (ix2 i (rc 2 d)))
    (ks := fun i d => x1 (ix2 i (rc 3 d))) (q' := fun i d => x0 (ix2 i (zc 0 h d))) (k' := fun i d => x0 (ix2 i (zc 1 h d)))
    (v' := fun i d => x0 (ix2 i (zc 2 h d))) (g' := fun i d => x0 (ix2 i (zc 3 h d))) (dec' := fun i d => x2 (ix3 h i d)) (st' := fun i d => S (ix3 h i d))
    (xi' := fun i d => x3 (ix2 i (hc h d))) (gn' := fun d => x8 (ix2 0 (hc h d))) (fun i d => ?_) (fun i d => ?_) (fun i d => ?_) (fun i d => ?_) (fun i d => ?_) (fun i d => ?_) (fun i d => ?_) (fun i d => ?_)
    (fun i d => ld3 h x2 _ i d) (fun i d => ld3 h S _ i d) (fun i d => ?_) (fun d => ?_) i e
  · exact ld2 0 x1 _ i d i (rc 0 d) rfl (by simp [rc])
  · exact ld2 128 x1 _ i d i (rc 1 d) rfl (by simp [rc])
  · exact ld2 256 x1 _ i d i (rc 2 d) rfl (by simp [rc])
  · exact ld2 384 x1 _ i d i (rc 3 d) rfl (by simp [rc])
  · exact ld2 _ x0 _ i d i (zc 0 h d) rfl (by simp [zc])
  · exact ld2 _ x0 _ i d i (zc 1 h d) rfl (by simp [zc])
  · exact ld2 _ x0 _ i d i (zc 2 h d) rfl (by simp [zc])
  · exact ld2 _ x0 _ i d i (zc 3 h d) rfl (by simp [zc])
  · exact ld2 _ x3 _ i d i (hc h d) rfl rfl
  · exact ld2 _ x8 _ (0 : Fin 1) d 0 (hc h d) rfl rfl

/-- A head's next state tile likewise. -/
theorem state_piece (h : Fin 8) (i2 i3 ik iv ize is) (y : S8x128x128.Idx) (x : S1x128x128.Idx)
    (h0 : (y (0 : Fin 3)).val = h.val + (x (0 : Fin 3)).val) (h1 : (y (1 : Fin 3)).val = (x (1 : Fin 3)).val) (h2 : (y (2 : Fin 3)).val = (x (2 : Fin 3)).val) :
    stateV (gam h) (View.ld x1 (Rect.unit ![0, 256] ![128, 128] i2)) (View.ld x1 (Rect.unit ![0, 384] ![128, 128] i3))
      (View.ld x0 (Rect.unit ![0, 2048 + 128 * h.val] ![128, 128] ik)) (View.ld x0 (Rect.unit ![0, 3072 + 128 * h.val] ![128, 128] iv))
      (View.ld x4 (Rect.unit ![0, 128 * h.val] ![128, 128] ize)) (View.ld S (Rect.unit ![h.val, 0, 0] ![1, 128, 128] is)) x
    = stateAt x0 x1 x4 S (y (0 : Fin 3)) (y (1 : Fin 3)) (y (2 : Fin 3)) := by
  obtain ⟨o, d, e, rfl⟩ : ∃ o d e, x = ix3 o d e := ⟨x 0, x 1, x 2, eq_ix3 x⟩
  have e0 : y (0 : Fin 3) = h := Fin.ext (by have : (y (0 : Fin 3)).val = h.val + o.val := h0; have := o.isLt; omega)
  have e1 : y (1 : Fin 3) = d := Fin.ext h1
  have e2 : y (2 : Fin 3) = e := Fin.ext h2
  rw [e0, e1, e2]
  refine stateV_of (fun i d => ?_) (fun i d => ?_) (fun i d => ?_) (fun i d => ?_) (fun i d => ?_) (fun i d => ld3 h S _ i d) o d e
  · exact ld2 256 x1 _ i d i (rc 2 d) rfl (by simp [rc])
  · exact ld2 384 x1 _ i d i (rc 3 d) rfl (by simp [rc])
  · exact ld2 _ x0 _ i d i (zc 1 h d) rfl (by simp [zc])
  · exact ld2 _ x0 _ i d i (zc 2 h d) rfl (by simp [zc])
  · exact ld2 _ x4 _ i d i (hc h d) rfl rfl

/-- The scratch after the chunk's pool rows are stored below what it held. -/
theorem canon_uc (Z : Vec Ideal S128x1024 .bf16) (ia ib) :
    View.canon (Val := Elt Ideal) (s := S256x1024) (e := .bf16) [⟨Rect.unit ![128, 0] ![128, 1024] ia, Z⟩, ⟨Rect.unit ![0, 0] ![256, 1024] ib, U⟩] = ucF U Z := by
  rw [← View.read_writes_junk_eq_canon (View.whole cc0_scratch0)]
  funext y
  rw [View.read_writes_cons_rows (d := ![256, 1024]) (off := ![128, 0]) (size := ![128, 1024]) (o := 128) (W := 128) (View.whole cc0_scratch0) _ ia Z _ y rfl rfl rfl]
  have hy : (y (0 : Fin 2)).val < 256 := (y (0 : Fin 2)).isLt
  unfold ucF
  by_cases h : (y (0 : Fin 2)).val < 128
  · rw [dif_neg (by omega), dif_pos h]
    exact View.read_writes_cons_rows_of_mem _ _ ib U [] y y rfl (Nat.zero_add _).symm rfl
  · rw [dif_pos (by omega), dif_neg h]
    refine congrArg Z (funext fun a => Fin.ext ?_)
    fin_cases a <;> rfl

/-- A pooling group's tile, from the loads of its columns. -/
theorem pool_piece (co : grid0.Coords) (g : Fin 4) (ib iu iw ips) (uc : Vec Ideal S256x256 .bf16) (u : Vec Ideal S128x256 .bf16) (Z : Vec Ideal S128x1024 .bf16)
    (hZ : Z = k0_pay4 (View.ld x0 (Rect.unit ![0, 0] ![128, 1024] ib)))
    (huc : ∀ x c : Fin 256, uc (ix2 x c) = ucF U Z (ix2 x (gc g c)))
    (hu : ∀ (i : Fin 128) (d : Fin 256), u (ix2 i d) = Z (ix2 i (gc g d))) (y : S128x2048.Idx) (x : S128x256.Idx)
    (h0 : (y (0 : Fin 2)).val = (x (0 : Fin 2)).val) (h1 : (y (1 : Fin 2)).val = 256 * g.val + (x (1 : Fin 2)).val) :
    poolV (cntV co g) (View.ld x5 (Rect.unit ![g.val, 0, 0] ![1, 128, 256] iu)) uc u
      (View.ld x6 (Rect.unit ![g.val, 0, 0] ![1, 256, 256] iw)) (View.ld x7 (Rect.unit ![0, 256 * g.val] ![1, 256] ips)) x
    = outAt x0 x1 x2 x3 x5 x6 x7 x8 U S (co 1).val (y (0 : Fin 2)) (y (1 : Fin 2)) := by
  obtain ⟨i, e, rfl⟩ : ∃ i e, x = ix2 i e := ⟨x 0, x 1, eq_ix2 x⟩
  have e0 : y (0 : Fin 2) = i := Fin.ext h0
  have e1 : (y (1 : Fin 2)).val = 256 * g.val + e.val := h1
  have hz : ∀ (i : Fin 128) (c : Fin 256), Z (ix2 i (gc g c)) = x0 (ix2 i (zg g c)) := fun i c => by
    rw [hZ]
    exact (congrFun (shapeCast_self _ _) _).trans (ld2 0 x0 _ i (gc g c) i (zg g c) rfl (by simp [gc, zg]))
  rw [e0]
  unfold outAt
  rw [dif_pos (by have := e.isLt; omega)]
  have eh : (⟨(y (1 : Fin 2)).val / 256, by have := e.isLt; omega⟩ : Fin 4) = g := Fin.ext (by show _ / 256 = _; have := e.isLt; omega)
  have ee : (⟨(y (1 : Fin 2)).val % 256, Nat.mod_lt _ (by decide)⟩ : Fin 256) = e := Fin.ext (by show _ % 256 = _; have := e.isLt; omega)
  rw [eh, ee]
  refine poolV_of (fun i x => ld3 g x5 _ i x) (fun i x => ?_) (fun i x => (hu i x).trans (hz i x)) (fun i x => ld3 g x6 _ i x)
    (fun x => ?_) (fun i x => cntV_apply co g i x) i e
  · refine (huc i x).trans ?_
    show (if h : i.val < 128 then U (ix2 i (gc g x)) else Z (ix2 ⟨i.val - 128, by omega⟩ (gc g x)))
      = if h : i.val < 128 then U (ix2 i (gc g x)) else x0 (ix2 ⟨i.val - 128, by omega⟩ (zg g x))
    split
    · rfl
    · exact hz _ _
  · exact ld2 _ x7 _ (0 : Fin 1) x 0 (gc g x) rfl rfl

end
end Cert.Proof
-- ==== Proof.Points.lean ====
/- What the body leaves at each grid point, as the block functions of the point's input blocks and of what the point before left. -/
module

public import proofs.«01_k».proof.Proof.Block
public import proofs.«01_k».proof.Proof.Gen.KernelIdeal.Value

@[expose] public section

set_option maxRecDepth 16384
noncomputable section
namespace Cert.Proof
open Cert.KernelIdeal Cert.KernelIdeal.Gen Idealize.ShloMosaic Idealize.ShloMosaic.TcCoe Idealize.SL.Sem

variable (m : (ℓ : Loc nD τ sig) → Buf (Elt Ideal) ℓ)

/-- The pool rows of the point before, read after the point's own are stored below them. -/
theorem read_uc (U : Vec Ideal S256x1024 .bf16) (Z : Vec Ideal S128x1024 .bf16) (ia) (h : (Memref.whole cc0_scratch0).IsWhole) :
    View.read (Elt Ideal) (View.whole cc0_scratch0) ((View.whole cc0_scratch0).writes (Elt Ideal) (h.unread U)
      [⟨Rect.unit ![128, 0] ![128, 1024] ia, Z⟩]) = ucF U Z := by
  funext y
  rw [View.read_writes_cons_rows (d := ![256, 1024]) (off := ![128, 0]) (size := ![128, 1024]) (o := 128) (W := 128) (View.whole cc0_scratch0) _ ia Z _ y rfl rfl rfl]
  have hy : (y (0 : Fin 2)).val < 256 := (y (0 : Fin 2)).isLt
  unfold ucF
  by_cases h' : (y (0 : Fin 2)).val < 128
  · rw [dif_neg (by omega), dif_pos h']
    exact congrFun (read_unread_whole cc0_scratch0 h U) y
  · rw [dif_pos (by omega), dif_neg h']
    refine congrArg Z (funext fun a => Fin.ext ?_)
    fin_cases a <;> rfl

/-- The point's own pool rows, read back from the scratch. -/
theorem own_rows (Z : Vec Ideal S128x1024 .bf16) (L : List (View.Piece (Elt Ideal) S256x1024 .bf16)) (g : Fin 4) (ia ic) (i : Fin 128) (d : Fin 256) :
    View.readCov (Val := Elt Ideal) (s := S256x1024) (e := .bf16) (View.whole cc0_scratch0) (⟨Rect.unit ![128, 0] ![128, 1024] ia, Z⟩ :: L)
      (Rect.unit (s := S256x1024) ![128, 256 * g.val] ![128, 256] ic).toLoadRect (ix2 i d) = Z (ix2 i (gc g d)) := by
  rw [View.readCov_eq_canon', ← View.read_writes_junk_eq_canon (View.whole cc0_scratch0)]
  refine View.read_writes_cons_rows_of_mem (d := ![256, 1024]) (off := ![128, 0]) (size := ![128, 1024]) (o := 128) (View.whole cc0_scratch0) _ ia Z L _ (ix2 i (gc g d)) rfl ?_ ?_
  · show 128 + 1 * i.val = 128 + i.val; omega
  · show 256 * g.val + 1 * d.val = 256 * g.val + d.val; omega

/-- The upper half of the scratch, after the chunk's pool rows are stored there last. -/
theorem canon_top (W : Vec Ideal S128x1024 .bf16) (L : List (View.Piece (Elt Ideal) S256x1024 .bf16)) (ia) (x : Fin 256) (hx : x.val < 128) (d : Fin 1024) :
    View.canon (Val := Elt Ideal) (s := S256x1024) (e := .bf16) (⟨Rect.unit ![0, 0] ![128, 1024] ia, W⟩ :: L)
      (ix2 x d) = W (ix2 (⟨x.val, hx⟩ : Fin 128) d) := by
  rw [← View.read_writes_junk_eq_canon (View.whole cc0_scratch0)]
  refine View.read_writes_cons_rows_of_mem (d := ![256, 1024]) (off := ![0, 0]) (size := ![128, 1024]) (o := 0) (View.whole cc0_scratch0) _ ia W L _
    (ix2 (⟨x.val, hx⟩ : Fin 128) d) rfl ?_ ?_
  · show x.val = 0 + x.val; omega
  · show d.val = d.val; rfl

theorem top_val (x0 : Vec Ideal S128x5120 .bf16) (ib) (i : Fin 128) (g : Fin 4) (d : Fin 256) :
    k0_pay12 (k0_pay4 (View.ld x0 (Rect.unit ![0, 0] ![128, 1024] ib))) (ix2 i (gc g d)) = x0 (ix2 i (zg g d)) :=
  (congrFun (shapeCast_self _ _) _).trans ((congrFun (shapeCast_self _ _) _).trans (ld2 0 x0 ib _ (gc g d) _ (zg g d) rfl (Nat.zero_add _).symm))

/-- Pieces that cover the index hide what was written before them. -/
theorem canon_drop {s : Shape} {e : EltTy} (L' : List (View.Piece (Elt Ideal) s e)) (y : s.Idx) :
    ∀ L : List (View.Piece (Elt Ideal) s e), (∃ p ∈ L, y ∈ p.1.set) → View.canon (L ++ L') y = View.canon L y
  | [], h => by obtain ⟨_, hm, _⟩ := h; exact absurd hm List.not_mem_nil
  | p :: L, h => by
    by_cases hy : y ∈ p.1.set
    · obtain ⟨r, w⟩ := p
      obtain ⟨x, rfl⟩ : ∃ x, r.emb x = y := r.exists_idx_of_mem hy
      rw [List.cons_append, View.canon_cons_emb, View.canon_cons_emb]
    · obtain ⟨q, hm, hq⟩ := h
      rw [List.cons_append, View.canon_cons_of_not_mem p _ hy, View.canon_cons_of_not_mem p _ hy]
      rcases List.mem_cons.mp hm with rfl | hm
      · exact absurd hq hy
      · exact canon_drop L' y L ⟨q, hm, hq⟩

/-- All rows the window reads, at a point that carries them on. -/
theorem all_rows_B (U : Vec Ideal S256x1024 .bf16) (Z : Vec Ideal S128x1024 .bf16) (g : Fin 4) (ia ic) (h : (Memref.whole cc0_scratch0).IsWhole) (x c : Fin 256) :
    View.ld (Val := Elt Ideal) (S := S256x1024) (e' := .bf16) (View.read (Elt Ideal) (View.whole cc0_scratch0) ((View.whole cc0_scratch0).writes (Elt Ideal) (h.unread U)
      [⟨Rect.unit ![128, 0] ![128, 1024] ia, Z⟩])) (Rect.unit (s := S256x1024) ![0, 256 * g.val] ![256, 256] ic) (ix2 x c) = ucF U Z (ix2 x (gc g c)) := by
  rw [read_uc]
  exact ld2 _ (ucF U Z) _ x c x (gc g c) rfl rfl

/-- All rows the window reads, at a sequence's first point. -/
theorem all_rows_A (U : Vec Ideal S256x1024 .bf16) (Z : Vec Ideal S128x1024 .bf16) (g : Fin 4) (ia ib ic) (x c : Fin 256) :
    View.readCov (Val := Elt Ideal) (s := S256x1024) (e := .bf16) (View.whole cc0_scratch0) [⟨Rect.unit ![128, 0] ![128, 1024] ia, Z⟩, ⟨Rect.unit ![0, 0] ![256, 1024] ib, U⟩]
      (Rect.unit (s := S256x1024) ![0, 256 * g.val] ![256, 256] ic).toLoadRect (ix2 x c) = ucF U Z (ix2 x (gc g c)) := by
  rw [View.readCov_eq_canon', canon_uc]
  exact ld2 _ (ucF U Z) ic x c x (gc g c) rfl rfl

set_option maxHeartbeats 1000000 in
/-- The output block at a point that carries on. -/
theorem out_B (c : Dev nD) (t : Fin cfg0.N) (h0 : ¬ t.val % 16 = 0) (y : S128x2048.Idx) :
    (outsAt0 m c t.val t.isLt).1 y = outAt (iblk m c 0 t) (iblk m c 1 t) (iblk m c 2 t) (iblk m c 3 t) (iblk m c 5 t) (iblk m c 6 t) (iblk m c 7 t) (iblk m c 8 t)
      (outsAt0 m c (t.val - 1) (Nat.lt_of_le_of_lt (Nat.sub_le _ _) t.isLt)).2.1 (outsAt0 m c (t.val - 1) (Nat.lt_of_le_of_lt (Nat.sub_le _ _) t.isLt)).2.2
      ((grid0.coords t) 1).val (y (0 : Fin 2)) (y (1 : Fin 2)) := by
  rw [outsAt0_B m c t h0]
  dsimp only
  frame_open
  simp (disch := decide) only [↓ View.readCov_skip, ↓ View.readCov_cons_toLoadRect, ↓ View.readCov_fill]
  frame_out
  simp only [read_unread_whole]
  simp only [head0_eq, head1_eq, head2_eq, head3_eq, head4_eq, head5_eq, head6_eq, head7_eq, pool0_eq, pool1_eq, pool2_eq, pool3_eq]
  generalize hZ : k0_pay4 _ = Z
  canon_tiles x hx using View.cover_of_tiledBy _ ![128, 128] (by sl_kernel_rfl) y
  case piece0 => exact head_piece (h := 7) (h0 := hx0) (h1 := hx1) ..
  case piece1 => exact head_piece (h := 6) (h0 := hx0) (h1 := hx1) ..
  case piece2 => exact head_piece (h := 5) (h0 := hx0) (h1 := hx1) ..
  case piece3 => exact head_piece (h := 4) (h0 := hx0) (h1 := hx1) ..
  case piece4 => exact head_piece (h := 3) (h0 := hx0) (h1 := hx1) ..
  case piece5 => exact head_piece (h := 2) (h0 := hx0) (h1 := hx1) ..
  case piece6 => exact head_piece (h := 1) (h0 := hx0) (h1 := hx1) ..
  case piece7 => exact head_piece (h := 0) (h0 := hx0) (h1 := hx1) ..
  case piece8 => exact pool_piece (g := 3) (Z := Z) (hZ := hZ.symm) (huc := all_rows_B _ _ 3 _ _ _) (hu := own_rows _ _ 3 _ _) (h0 := hx0) (h1 := hx1) ..
  case piece9 => exact pool_piece (g := 2) (Z := Z) (hZ := hZ.symm) (huc := all_rows_B _ _ 2 _ _ _) (hu := own_rows _ _ 2 _ _) (h0 := hx0) (h1 := hx1) ..
  case piece10 => exact pool_piece (g := 1) (Z := Z) (hZ := hZ.symm) (huc := all_rows_B _ _ 1 _ _ _) (hu := own_rows _ _ 1 _ _) (h0 := hx0) (h1 := hx1) ..
  case piece11 => exact pool_piece (g := 0) (Z := Z) (hZ := hZ.symm) (huc := all_rows_B _ _ 0 _ _ _) (hu := own_rows _ _ 0 _ _) (h0 := hx0) (h1 := hx1.trans (Nat.zero_add _).symm) ..

set_option maxHeartbeats 1000000 in
/-- The output block at a sequence's first point. -/
theorem out_A (c : Dev nD) (t : Fin cfg0.N) (h0 : t.val % 16 = 0) (y : S128x2048.Idx) :
    (outsAt0 m c t.val t.isLt).1 y = outAt (iblk m c 0 t) (iblk m c 1 t) (iblk m c 2 t) (iblk m c 3 t) (iblk m c 5 t) (iblk m c 6 t) (iblk m c 7 t) (iblk m c 8 t)
      (k0_pay2 (F := Ideal)) (k0_pay3 (F := Ideal))
      ((grid0.coords t) 1).val (y (0 : Fin 2)) (y (1 : Fin 2)) := by
  rw [outsAt0_A m c t h0]
  dsimp only
  frame_open
  simp (disch := decide) only [↓ View.readCov_skip, ↓ View.readCov_cons_toLoadRect, ↓ View.readCov_fill]
  frame_out
  simp only [head0_eq, head1_eq, head2_eq, head3_eq, head4_eq, head5_eq, head6_eq, head7_eq, pool0_eq, pool1_eq, pool2_eq, pool3_eq]
  generalize hZ : k0_pay4 _ = Z
  canon_tiles x hx using View.cover_of_tiledBy _ ![128, 128] (by sl_kernel_rfl) y
  case piece0 => exact head_piece (h := 7) (h0 := hx0) (h1 := hx1) ..
  case piece1 => exact head_piece (h := 6) (h0 := hx0) (h1 := hx1) ..
  case piece2 => exact head_piece (h := 5) (h0 := hx0) (h1 := hx1) ..
  case piece3 => exact head_piece (h := 4) (h0 := hx0) (h1 := hx1) ..
  case piece4 => exact head_piece (h := 3) (h0 := hx0) (h1 := hx1) ..
  case piece5 => exact head_piece (h := 2) (h0 := hx0) (h1 := hx1) ..
  case piece6 => exact head_piece (h := 1) (h0 := hx0) (h1 := hx1) ..
  case piece7 => exact head_piece (h := 0) (h0 := hx0) (h1 := hx1) ..
  case piece8 => exact pool_piece (g := 3) (Z := Z) (hZ := hZ.symm) (huc := all_rows_A _ _ 3 _ _ _) (hu := own_rows _ _ 3 _ _) (h0 := hx0) (h1 := hx1) ..
  case piece9 => exact pool_piece (g := 2) (Z := Z) (hZ := hZ.symm) (huc := all_rows_A _ _ 2 _ _ _) (hu := own_rows _ _ 2 _ _) (h0 := hx0) (h1 := hx1) ..
  case piece10 => exact pool_piece (g := 1) (Z := Z) (hZ := hZ.symm) (huc := all_rows_A _ _ 1 _ _ _) (hu := own_rows _ _ 1 _ _) (h0 := hx0) (h1 := hx1) ..
  case piece11 => exact pool_piece (g := 0) (Z := Z) (hZ := hZ.symm) (huc := all_rows_A _ _ 0 _ _ _) (hu := own_rows _ _ 0 _ _) (h0 := hx0) (h1 := hx1.trans (Nat.zero_add _).symm) ..

/-- The state at a point that carries on. -/
theorem state_B (c : Dev nD) (t : Fin cfg0.N) (h0 : ¬ t.val % 16 = 0) (y : S8x128x128.Idx) :
    (outsAt0 m c t.val t.isLt).2.2 y = stateAt (iblk m c 0 t) (iblk m c 1 t) (iblk m c 4 t)
      (outsAt0 m c (t.val - 1) (Nat.lt_of_le_of_lt (Nat.sub_le _ _) t.isLt)).2.2 (y (0 : Fin 3)) (y (1 : Fin 3)) (y (2 : Fin 3)) := by
  rw [outsAt0_B m c t h0]
  dsimp only
  frame_open
  try simp (disch := decide) only [↓ View.readCov_skip, ↓ View.readCov_cons_toLoadRect, ↓ View.readCov_fill]
  frame_out
  simp only [read_unread_whole]
  simp only [state0_eq, state1_eq, state2_eq, state3_eq, state4_eq, state5_eq, state6_eq, state7_eq]
  canon_tiles x hx
  case piece0 => exact state_piece (h := 7) (h0 := hx0) (h1 := hx1) (h2 := hx2) ..
  case piece1 => exact state_piece (h := 6) (h0 := hx0) (h1 := hx1) (h2 := hx2) ..
  case piece2 => exact state_piece (h := 5) (h0 := hx0) (h1 := hx1) (h2 := hx2) ..
  case piece3 => exact state_piece (h := 4) (h0 := hx0) (h1 := hx1) (h2 := hx2) ..
  case piece4 => exact state_piece (h := 3) (h0 := hx0) (h1 := hx1) (h2 := hx2) ..
  case piece5 => exact state_piece (h := 2) (h0 := hx0) (h1 := hx1) (h2 := hx2) ..
  case piece6 => exact state_piece (h := 1) (h0 := hx0) (h1 := hx1) (h2 := hx2) ..
  case piece7 => exact state_piece (h := 0) (h0 := hx0.trans (Nat.zero_add _).symm) (h1 := hx1) (h2 := hx2) ..

/-- The state at a sequence's first point. -/
theorem state_A (c : Dev nD) (t : Fin cfg0.N) (h0 : t.val % 16 = 0) (y : S8x128x128.Idx) :
    (outsAt0 m c t.val t.isLt).2.2 y = stateAt (iblk m c 0 t) (iblk m c 1 t) (iblk m c 4 t)
      (k0_pay3 (F := Ideal)) (y (0 : Fin 3)) (y (1 : Fin 3)) (y (2 : Fin 3)) := by
  rw [outsAt0_A m c t h0]
  dsimp only
  frame_open
  simp (disch := decide) only [↓ View.readCov_skip, ↓ View.readCov_cons_toLoadRect, ↓ View.readCov_fill]
  frame_out
  simp only [state0_eq, state1_eq, state2_eq, state3_eq, state4_eq, state5_eq, state6_eq, state7_eq]
  refine (canon_drop [_] y [_, _, _, _, _, _, _, _] (View.cover_of_tiledBy _ ![1, 128, 128] (by sl_kernel_rfl) y)).trans ?_
  canon_tiles x hx
  case piece0 => exact state_piece (h := 7) (h0 := hx0) (h1 := hx1) (h2 := hx2) ..
  case piece1 => exact state_piece (h := 6) (h0 := hx0) (h1 := hx1) (h2 := hx2) ..
  case piece2 => exact state_piece (h := 5) (h0 := hx0) (h1 := hx1) (h2 := hx2) ..
  case piece3 => exact state_piece (h := 4) (h0 := hx0) (h1 := hx1) (h2 := hx2) ..
  case piece4 => exact state_piece (h := 3) (h0 := hx0) (h1 := hx1) (h2 := hx2) ..
  case piece5 => exact state_piece (h := 2) (h0 := hx0) (h1 := hx1) (h2 := hx2) ..
  case piece6 => exact state_piece (h := 1) (h0 := hx0) (h1 := hx1) (h2 := hx2) ..
  case piece7 => exact state_piece (h := 0) (h0 := hx0.trans (Nat.zero_add _).symm) (h1 := hx1) (h2 := hx2) ..

/-- The carried pool rows after a point: its own. -/
theorem carry_B (c : Dev nD) (t : Fin cfg0.N) (h0 : ¬ t.val % 16 = 0) (x : Fin 256) (hx : x.val < 128) (g : Fin 4) (d : Fin 256) :
    (outsAt0 m c t.val t.isLt).2.1 (ix2 x (gc g d)) = iblk m c 0 t (ix2 (⟨x.val, hx⟩ : Fin 128) (zg g d)) := by
  rw [outsAt0_B m c t h0]
  dsimp only
  frame_open
  try simp (disch := decide) only [↓ View.readCov_skip, ↓ View.readCov_cons_toLoadRect, ↓ View.readCov_fill]
  frame_out
  exact (canon_top _ _ _ _ hx _).trans (top_val _ _ _ _ _)

/-- The carried pool rows after a point: its own. -/
theorem carry_A (c : Dev nD) (t : Fin cfg0.N) (h0 : t.val % 16 = 0) (x : Fin 256) (hx : x.val < 128) (g : Fin 4) (d : Fin 256) :
    (outsAt0 m c t.val t.isLt).2.1 (ix2 x (gc g d)) = iblk m c 0 t (ix2 (⟨x.val, hx⟩ : Fin 128) (zg g d)) := by
  rw [outsAt0_A m c t h0]
  dsimp only
  frame_open
  try simp (disch := decide) only [↓ View.readCov_skip, ↓ View.readCov_cons_toLoadRect, ↓ View.readCov_fill]
  frame_out
  exact (canon_top _ _ _ _ hx _).trans (top_val _ _ _ _ _)

end Cert.Proof
-- ==== Proof.Chunk.lean ====
/- What both programs are read as: the outputs at a chunk, a row and a column, over the projected input as a function of row and column. -/
module

public import proofs.«01_k».proof.Proof.Block

@[expose] public section

noncomputable section
namespace Cert.Proof.Spec
open Idealize.ShloMosaic

/-- Row `i` of chunk `t` (the chunks of all sequences counted through). -/
def row (t : ℕ) (i : Fin 128) : Fin 16384 := ⟨(128 * t + i.val) % 16384, Nat.mod_lt _ (by decide)⟩

theorem row_val {t : ℕ} (ht : t < 128) (i : Fin 128) : (row t i).val = 128 * t + i.val := Nat.mod_eq_of_lt (by omega)

/-- Head `h`'s columns of section `s` (queries, keys, values, gates) in chunk `t`. -/
def sect (Z : Fin 16384 → Fin 5120 → EReal) (s : Fin 4) (h : Fin 8) (t : ℕ) : M 128 128 := fun i d => Z (row t i) (zc s h d)

/-- The state before chunk `n` of sequence `b`: from zero, one step for each chunk before. -/
def stA (g : EReal) (k v : ℕ → M 128 128) (ze : M 128 128) (b : ℕ) : ℕ → M 128 128
  | 0 => fun _ _ => 0
  | n + 1 => stepS g (k (16 * b + n)) (v (16 * b + n)) ze (stA g k v ze b n)

/-- A head's output in chunk `t`. -/
def headT (g : EReal) (q k v gt : ℕ → M 128 128) (dec xi ze : M 128 128) (gn : Fin 128 → EReal) (t : ℕ) (i e : Fin 128) : EReal :=
  silu (gt t i e) * norm (ret (q t) (k t) (v t) dec (stA g k v ze (t / 16) (t % 16)) xi i) gn e

/-- The window sum of group `g` at row `i` of chunk `t`: the row and the `w - 1` before it in its sequence. -/
def winS (Z : Fin 16384 → Fin 5120 → EReal) (g : Fin 4) (w t : ℕ) (i : Fin 128) (c : Fin 256) : EReal :=
  ∑ m : Fin w, if m.val ≤ 128 * (t % 16) + i.val then Z ⟨(128 * t + i.val - m.val) % 16384, Nat.mod_lt _ (by decide)⟩ (zg g c) else 0

/-- A group's output from its window sums, counts and rows. -/
def poolT (ws : Fin 256 → EReal) (cnt : EReal) (u : Fin 256 → EReal) (pw : M 256 256) (ps : Fin 256 → EReal) (d : Fin 256) : EReal :=
  (∑ c, (Ideal.div (ws c) cnt - u c) * pw c d) * ps d

/-- An output row: the four groups, then the eight heads. -/
def outT (po : Fin 4 → Fin 256 → EReal) (hd : Fin 8 → Fin 128 → EReal) (j : Fin 2048) : EReal :=
  if h : j.val < 1024 then po ⟨j.val / 256, by omega⟩ ⟨j.val % 256, Nat.mod_lt _ (by decide)⟩
  else hd ⟨(j.val - 1024) / 128, by omega⟩ ⟨j.val % 128, Nat.mod_lt _ (by decide)⟩

/-- The rotation's angle at position `p` for frequency `d`. -/
def ang (p d : ℕ) : EReal :=
  ((p : ℝ) : EReal) * Ideal.div 1 (Ideal.pow (Ideal.ofBits .f32 1176256512#32)
    (Ideal.div (Ideal.ofBits .f32 1073741824#32 * ((d : ℝ) : EReal)) (Ideal.ofBits .f32 1124073472#32)))

/-- The rotation's cosines for the chunk at place `n` of its sequence. -/
def cosM (n : ℕ) : M 128 128 := fun i d => Ideal.cos (ang (128 * n + i.val) (d.val % 64))
/-- The rotation's signed sines. -/
def sinM (n : ℕ) : M 128 128 := fun i d =>
  if d.val < 64 then -Ideal.sin (ang (128 * n + i.val) (d.val % 64)) else Ideal.sin (ang (128 * n + i.val) (d.val % 64))

/-- The keys' scale, `128 ^ (-1/2)` as the programs round it. -/
def ks : EReal := Ideal.ofBits .f32 0x3DB504F3#32

/-- Head `h`'s decay per position. -/
def gam (h : ℕ) : ℝ := 1 - ((2 : ℝ) ^ (5 + h))⁻¹
/-- Its power at a whole exponent, as an extended real. -/
def gp (h n : ℕ) : EReal := ((gam h ^ n : ℝ) : EReal)
/-- Decay between two positions of a chunk. -/
def decM (h : ℕ) : M 128 128 := fun i j => if j.val ≤ i.val then gp h (i.val - j.val) else 0
/-- Decay from the state before the chunk. -/
def xiM (h : ℕ) : M 128 128 := fun i _ => gp h (i.val + 1)
/-- Decay to the state after the chunk. -/
def zeM (h : ℕ) : M 128 128 := fun i _ => gp h (127 - i.val)

/-- The queries of head `h` in chunk `t`, rotated. -/
def qT (Z : Fin 16384 → Fin 5120 → EReal) (h : Fin 8) (t : ℕ) : M 128 128 := rot (sect Z 0 h t) (cosM (t % 16)) (sinM (t % 16))
/-- The keys, rotated and scaled. -/
def kT (Z : Fin 16384 → Fin 5120 → EReal) (h : Fin 8) (t : ℕ) : M 128 128 := fun i d => rot (sect Z 1 h t) (cosM (t % 16)) (sinM (t % 16)) i d * ks

/-- The mixer's output at row `i` of chunk `t` and column `j`. -/
def mixer (Z : Fin 16384 → Fin 5120 → EReal) (pw : Fin 4 → M 256 256) (ps gn : Fin 1024 → EReal) (t : ℕ) (i : Fin 128) : Fin 2048 → EReal :=
  outT (fun g => poolT (winS Z g (win g) t i) ((min (128 * (t % 16) + i.val + 1) (win g) : ℕ) : ℝ) (fun c => Z (row t i) (zg g c)) (pw g) (fun d => ps (gc g d)))
    (fun h => headT (gp h.val 128) (qT Z h) (kT Z h) (sect Z 2 h) (sect Z 3 h) (decM h.val) (xiM h.val) (zeM h.val) (fun e => gn (hc h e)) t i)

end Cert.Proof.Spec
-- ==== Proof.Powers.lean ====
/- The tables' numbers: whole powers of the decay, as a power or as the exponential of a logarithm, and the window of ones. -/
module

public import proofs.«01_k».proof.Proof.Chunk
public import Idealize.ShloMosaic.Lib.IdealHost

@[expose] public section

noncomputable section
namespace Cert.Proof.Spec
open Idealize.ShloMosaic

theorem two_f32 : Ideal.ofBits .f32 1073741824#32 = ((2 : ℝ) : EReal) := by
  simp [Ideal.ofBits, Ideal.ieee, -EReal.coe_mul]; norm_num
theorem negFive_f32 : Ideal.ofBits .f32 3231711232#32 = ((-5 : ℝ) : EReal) := by
  simp [Ideal.ofBits, Ideal.ieee, -EReal.coe_mul, -EReal.coe_neg]; norm_num
theorem n127_f32 : Ideal.ofBits .f32 1123942400#32 = ((127 : ℝ) : EReal) := by
  simp [Ideal.ofBits, Ideal.ieee, -EReal.coe_mul]; norm_num
theorem n128_f32 : Ideal.ofBits .f32 1124073472#32 = ((128 : ℝ) : EReal) := by
  simp [Ideal.ofBits, Ideal.ieee, -EReal.coe_mul]; norm_num

theorem ks_coe : ∃ r : ℝ, 0 ≤ r ∧ ks = (r : EReal) := by
  refine ⟨_, ?_, show Ideal.ofBits .f32 0x3DB504F3#32 = ((11863283 * (2 : ℝ) ^ (-27 : ℤ) : ℝ) : EReal) from ?_⟩
  · positivity
  · simp [Ideal.ofBits, Ideal.ieee, -EReal.coe_mul]

theorem toInt_small (n : ℕ) (h : n < 2 ^ 31) : (BitVec.ofNat 32 n).toInt = (n : ℤ) := by
  rw [BitVec.toInt_eq_toNat_of_lt] <;> rw [BitVec.toNat_ofNat] <;> omega

/-- A whole number below `2 ^ 31`, converted, is itself. -/
theorem sif (n : ℕ) (h : n < 2 ^ 31) : FloatOps.sitofp (F := Ideal) .f32 (BitVec.ofNat 32 n) = ((n : ℝ) : EReal) := by
  show (((BitVec.ofNat 32 n).toInt : ℝ) : EReal) = _
  rw [toInt_small n h, Int.cast_natCast]

theorem gam_pos (h : ℕ) : 0 < gam h := by
  have : ((2 : ℝ) ^ (5 + h))⁻¹ ≤ (2 : ℝ)⁻¹ := by
    apply inv_anti₀ (by norm_num)
    calc (2 : ℝ) = 2 ^ 1 := by norm_num
      _ ≤ 2 ^ (5 + h) := pow_le_pow_right₀ (by norm_num) (by omega)
  unfold gam
  norm_num at this ⊢
  linarith

theorem one_sub_pow (h : ℕ) : 1 - Ideal.pow (Ideal.ofBits .f32 1073741824#32) (Ideal.ofBits .f32 3231711232#32 - ((h : ℝ) : EReal)) = ((gam h : ℝ) : EReal) := by
  rw [two_f32, negFive_f32, ← EReal.coe_sub, Ideal.pow_coe_coe, show (1 : EReal) = ((1 : ℝ) : EReal) from rfl, ← EReal.coe_sub]
  congr 1
  unfold gam
  congr 1
  show (2 : ℝ) ^ (-5 - (h : ℝ)) = _
  rw [show (-5 - (h : ℝ)) = -((5 + h : ℕ) : ℝ) by push_cast; ring, Real.rpow_neg (by norm_num), Real.rpow_natCast]

theorem pow_gam (h n : ℕ) : Ideal.pow ((gam h : ℝ) : EReal) ((n : ℝ) : EReal) = gp h n := by
  rw [Ideal.pow_coe_coe]
  unfold gp
  congr 1
  exact Real.rpow_natCast _ _

theorem exp_gam (h n : ℕ) : Ideal.exp (((n : ℝ) : EReal) * Ideal.log ((gam h : ℝ) : EReal)) = gp h n := by
  have e : Ideal.log ((gam h : ℝ) : EReal) = ((Real.log (gam h) : ℝ) : EReal) := if_neg (not_le.mpr (gam_pos h))
  rw [e, ← EReal.coe_mul]
  show ((Real.exp _ : ℝ) : EReal) = _
  unfold gp
  congr 1
  rw [← Real.rpow_natCast, Real.rpow_def_of_pos (gam_pos h), mul_comm]

/-- The difference of two positions, capped below at zero. -/
theorem max_sub (i j : ℕ) : max (((i : ℝ) : EReal) - ((j : ℝ) : EReal)) 0 = (((i - j : ℕ) : ℝ) : EReal) := by
  rw [← EReal.coe_sub, show (0 : EReal) = ((0 : ℝ) : EReal) from rfl, ← EReal.coe_strictMono.monotone.map_max]
  congr 1
  rcases le_total j i with h | h
  · rw [Nat.cast_sub h, max_eq_left (by have : (j : ℝ) ≤ i := by exact_mod_cast h
                                        linarith)]
  · rw [Nat.sub_eq_zero_of_le h, max_eq_right (by have : (i : ℝ) ≤ j := by exact_mod_cast h
                                                  linarith)]
    simp

theorem sub_nonneg_iff (i j : ℕ) : (0 : EReal) ≤ ((i : ℝ) : EReal) - ((j : ℝ) : EReal) ↔ j ≤ i := by
  rw [← EReal.coe_sub, show (0 : EReal) = ((0 : ℝ) : EReal) from rfl, EReal.coe_le_coe_iff, sub_nonneg, Nat.cast_le]

theorem n127_sub (i : ℕ) (h : i ≤ 127) : ((127 : ℝ) : EReal) - ((i : ℝ) : EReal) = (((127 - i : ℕ) : ℝ) : EReal) := by
  rw [← EReal.coe_sub, Nat.cast_sub h]; rfl

theorem add_one (i : ℕ) : ((i : ℝ) : EReal) + 1 = (((i + 1 : ℕ) : ℝ) : EReal) := by
  rw [show (1 : EReal) = ((1 : ℝ) : EReal) from rfl, ← EReal.coe_add, Nat.cast_add, Nat.cast_one]

/-- Rotating and then scaling the result is rotating by scaled factors. -/
theorem rot_ks (x c s : M 128 128) (i d : Fin 128) : rot x (fun i d => c i d * ks) (fun i d => s i d * ks) i d = rot x c s i d * ks := by
  obtain ⟨r, hr, e⟩ := ks_coe
  unfold rot
  rw [EReal.right_distrib_of_nonneg_of_ne_top (by rw [e]; exact_mod_cast hr) (by rw [e]; exact EReal.coe_ne_top _), mul_assoc, mul_assoc]

/-- A row of ones over the last `w` places up to `128 + i` sums those places. -/
theorem band_sum (f : Fin 256 → EReal) (i : Fin 128) (w : ℕ) (hw : w ≤ 16) (hw0 : ∀ m : Fin w, 128 + i.val - m.val < 256) :
    (∑ x : Fin 256, (if x.val ≤ 128 + i.val ∧ 128 + i.val < x.val + w then (1 : EReal) else 0) * f x) = ∑ m : Fin w, f ⟨128 + i.val - m.val, hw0 m⟩ := by
  simp only [ite_mul, one_mul, zero_mul]
  rw [← Finset.sum_filter]
  symm
  refine Finset.sum_bij' (fun m _ => (⟨128 + i.val - m.val, hw0 m⟩ : Fin 256))
    (fun x hx => (⟨128 + i.val - x.val, by have := (Finset.mem_filter.mp hx).2; omega⟩ : Fin w)) ?_ ?_ ?_ ?_ ?_
  · intro m _
    have := m.isLt
    refine Finset.mem_filter.mpr ⟨Finset.mem_univ _, ?_, ?_⟩
    · show 128 + i.val - m.val ≤ _; omega
    · show 128 + i.val < 128 + i.val - m.val + w; omega
  · intro x _; exact Finset.mem_univ _
  · intro m _; have := m.isLt; apply Fin.ext; show 128 + i.val - (128 + i.val - m.val) = m.val; omega
  · intro x hx; have := (Finset.mem_filter.mp hx).2; apply Fin.ext; show 128 + i.val - (128 + i.val - x.val) = x.val; omega
  · intro m _; rfl

end Cert.Proof.Spec
-- ==== Proof.Tables.lean ====
/- The kernel's host tables at an index, as the numbers both programs share. -/
module

public import proofs.«01_k».proof.Proof.Powers
public import proofs.«01_k».proof.Proof.Gen.KernelIdeal.Value
public import Idealize.ShloMosaic.Lib.StableHlo.ReadAt

@[expose] public section

set_option maxRecDepth 16384
noncomputable section
namespace Cert.Proof
open Cert.KernelIdeal Cert.KernelIdeal.Gen Idealize.ShloMosaic Idealize.ShloMosaic.TcCoe Idealize.SL.Sem

variable (m : (ℓ : Loc nD τ sig) → Buf (Elt Ideal) ℓ)

theorem tab_decay (c : Dev nD) (h : Fin 8) (i j : Fin 128) : V m c main_v52 (ix3 h i j) = Spec.decM h.val i j := by
  unfold V
  after_reads_at
  rw [Spec.sif _ (by omega), Spec.sif _ (by omega), Spec.sif _ (by omega), Spec.max_sub, Spec.one_sub_pow, Spec.pow_gam]
  simp only [Spec.sub_nonneg_iff]
  unfold Spec.decM
  split_ifs
  · rfl
  · exact Ideal.ofBits_zero_f32

theorem hc_div (h : Fin 8) (d : Fin 128) : (hc h d).val / 128 = h.val := by show (128 * h.val + d.val) / 128 = _; omega

theorem tab_xi (c : Dev nD) (i : Fin 128) (h : Fin 8) (d : Fin 128) : V m c main_v68 (ix2 i (hc h d)) = Spec.xiM h.val i d := by
  unfold V
  after_reads_at
  rw [hc_div, Spec.sif _ (by omega), Spec.sif _ (by omega), Spec.one_sub_pow, Spec.add_one, Spec.pow_gam]
  rfl

theorem tab_zeta (c : Dev nD) (i : Fin 128) (h : Fin 8) (d : Fin 128) : V m c main_v70 (ix2 i (hc h d)) = Spec.zeM h.val i d := by
  unfold V
  after_reads_at
  rw [hc_div, Spec.sif _ (by omega), Spec.sif _ (by omega), Spec.one_sub_pow, Spec.n127_f32, Spec.n127_sub _ (by omega), Spec.pow_gam]
  rfl

theorem lit_win (g : Fin 4) : lit0 (S4.rowMajor (ix1 g)) = BitVec.ofNat 32 (win g) := by
  fin_cases g <;> rfl

theorem tab_band (c : Dev nD) (g : Fin 4) (i : Fin 128) (x : Fin 256) :
    V m c main_v83 (ix3 g i x) = if x.val ≤ 128 + i.val ∧ 128 + i.val < x.val + win g then (1 : EReal) else 0 := by
  unfold V
  after_reads_at
  rw [lit_win]
  have hw : win g ≤ 16 := by fin_cases g <;> decide
  have e : IntOp.subi (IntOp.addi (128#32) (BitVec.ofNat 32 i.val)) (BitVec.ofNat 32 x.val) = BitVec.ofInt 32 ((128 + i.val : ℤ) - x.val) := by
    show 128#32 + BitVec.ofNat 32 i.val - BitVec.ofNat 32 x.val = _
    apply BitVec.eq_of_toInt_eq
    rw [BitVec.toInt_sub, BitVec.toInt_add, BitVec.toInt_ofInt, Spec.toInt_small i.val (by omega), Spec.toInt_small x.val (by omega),
      show (128#32).toInt = 128 from rfl]
    simp only [Int.bmod_def]
    omega
  have ei : (BitVec.ofInt 32 ((128 + i.val : ℤ) - x.val)).toInt = (128 + i.val : ℤ) - x.val := by
    rw [BitVec.toInt_ofInt, Int.bmod_def]; omega
  have ew : (BitVec.ofNat 32 (win g)).toInt = (win g : ℤ) :=
    Spec.toInt_small _ (by omega)
  rw [e]
  have c1 : IntOp.cmpi CmpIPredicate.sge (BitVec.ofInt 32 ((128 + i.val : ℤ) - x.val)) 0#32 = BitVec.ofBool (decide (x.val ≤ 128 + i.val)) := by
    show BitVec.ofBool (BitVec.sle 0#32 _) = _
    rw [BitVec.sle, ei]; congr 1; rw [decide_eq_decide, show (0#32).toInt = 0 from rfl]; omega
  have c2 : IntOp.cmpi CmpIPredicate.slt (BitVec.ofInt 32 ((128 + i.val : ℤ) - x.val)) (BitVec.ofNat 32 (win g)) = BitVec.ofBool (decide (128 + i.val < x.val + win g)) := by
    show BitVec.ofBool (BitVec.slt _ _) = _
    rw [BitVec.slt, ei, ew]; congr 1; rw [decide_eq_decide]; omega
  rw [c1, c2]
  by_cases h1 : x.val ≤ 128 + i.val <;> by_cases h2 : 128 + i.val < x.val + win g <;> simp [h1, h2, IntOp.andi, Scalar.select]

theorem tab_pw (c : Dev nD) (g : Fin 4) (i x : Fin 256) : V m c main_v1 (ix3 g i x) = m ((c : Thread nD τ).loc main_arg1) (ix4 0 g i x) := by
  unfold V
  after_reads_at

theorem rc_sub (j : Fin 4) (d : Fin 128) : (rc j d).val = 128 * j.val + d.val := rfl

/-- The rotation's angle as the tables compute it. -/
theorem ang_eq {p d : ℕ} (hp : p < 2 ^ 31) (hd : d < 2 ^ 31) :
    FloatOps.sitofp (F := Ideal) FTy.f32 (BitVec.ofNat 32 p) * Ideal.div 1 (Ideal.pow (Ideal.ofBits FTy.f32 1176256512#32)
      (Ideal.div (Ideal.ofBits FTy.f32 1073741824#32 * FloatOps.sitofp (F := Ideal) FTy.f32 (BitVec.ofNat 32 d)) (Ideal.ofBits FTy.f32 1124073472#32)))
    = Spec.ang p d := by
  rw [Spec.sif _ hp, Spec.sif _ hd]; rfl

section
variable (c : Dev nD) (n : ℕ) (hn : n < 16) (i d : Fin 128) (r : Fin 2048) (hr : r.val = 128 * n + i.val)
include hn hr

theorem tab_cos : V m c main_v28 (ix2 r (rc 0 d)) = Spec.cosM n i d := by
  unfold V
  after_reads_at
  rw [dif_pos (by rw [rc_sub]; show 128 * 0 + d.val < 128; omega)]
  have e : ∀ h, (⟨(rc 0 d).val, h⟩ : Fin 128) = d := fun _ => Fin.ext (by show 128 * 0 + d.val = _; omega)
  simp only [e]
  after_reads_at
  unfold Spec.cosM
  rw [← hr]
  split_ifs with h
  · rw [ang_eq (by omega) (by omega), Nat.mod_eq_of_lt h]
  · rw [ang_eq (by omega) (by omega), show d.val % 64 = d.val - 64 by omega]

theorem tab_sin : V m c main_v28 (ix2 r (rc 1 d)) = Spec.sinM n i d := by
  unfold V
  after_reads_at
  rw [dif_neg (by rw [rc_sub]; show ¬ 128 * 1 + d.val < 128; omega), dif_pos (by rw [rc_sub]; show 128 * 1 + d.val - 128 < 128; omega)]
  have e : ∀ h, (⟨(rc 1 d).val - 128, h⟩ : Fin 128) = d := fun _ => Fin.ext (by show 128 * 1 + d.val - 128 = _; omega)
  simp only [e]
  after_reads_at
  unfold Spec.sinM
  rw [← hr]
  split_ifs with h
  · rw [ang_eq (by omega) (by omega), Nat.mod_eq_of_lt h]
  · rw [ang_eq (by omega) (by omega), show d.val % 64 = d.val - 64 by omega]

theorem tab_kcos : V m c main_v28 (ix2 r (rc 2 d)) = Spec.cosM n i d * Spec.ks := by
  unfold V
  after_reads_at
  rw [dif_neg (by rw [rc_sub]; show ¬ 128 * 2 + d.val < 128; omega), dif_neg (by rw [rc_sub]; show ¬ 128 * 2 + d.val - 128 < 128; omega),
    dif_pos (by rw [rc_sub]; show 128 * 2 + d.val - 128 - 128 < 128; omega)]
  have e : ∀ h, (⟨(rc 2 d).val - 128 - 128, h⟩ : Fin 128) = d := fun _ => Fin.ext (by show 128 * 2 + d.val - 128 - 128 = _; omega)
  simp only [e]
  after_reads_at
  unfold Spec.cosM
  rw [← hr]
  by_cases h : d.val < 64
  · try rw [dif_pos h]
    try rw [if_pos h]
    after_reads_at
    rw [ang_eq (by omega) (by omega), Nat.mod_eq_of_lt h]; rfl
  · try rw [dif_neg h]
    try rw [if_neg h]
    after_reads_at
    rw [ang_eq (by omega) (by omega), show d.val % 64 = d.val - 64 by omega]; rfl

theorem tab_ksin : V m c main_v28 (ix2 r (rc 3 d)) = Spec.sinM n i d * Spec.ks := by
  unfold V
  after_reads_at
  rw [dif_neg (by rw [rc_sub]; show ¬ 128 * 3 + d.val < 128; omega), dif_neg (by rw [rc_sub]; show ¬ 128 * 3 + d.val - 128 < 128; omega),
    dif_neg (by rw [rc_sub]; show ¬ 128 * 3 + d.val - 128 - 128 < 128; omega)]
  have e : ∀ h, (⟨(rc 3 d).val - 128 - 128 - 128, h⟩ : Fin 128) = d := fun _ => Fin.ext (by show 128 * 3 + d.val - 128 - 128 - 128 = _; omega)
  simp only [e]
  after_reads_at
  unfold Spec.sinM
  rw [← hr]
  by_cases h : d.val < 64
  · try rw [dif_pos h]
    try rw [if_pos h]
    after_reads_at
    rw [ang_eq (by omega) (by omega), Nat.mod_eq_of_lt h]; rfl
  · try rw [dif_neg h]
    try rw [if_neg h]
    after_reads_at
    rw [ang_eq (by omega) (by omega), show d.val % 64 = d.val - 64 by omega]; rfl

end
end Cert.Proof
-- ==== Proof.Fold.lean ====
/- The kernel's output block at each point, over the projected input and the tables: the carried rows and the carried state by induction over the points. -/
module

public import proofs.«01_k».proof.Proof.Points
public import proofs.«01_k».proof.Proof.Tables

@[expose] public section

set_option maxRecDepth 16384
noncomputable section
namespace Cert.Proof
open Cert.KernelIdeal Cert.KernelIdeal.Gen Idealize.ShloMosaic Idealize.ShloMosaic.TcCoe Idealize.SL.Sem

/-- The block each window is at, at each point, and the chunk's place in its sequence. -/
theorem idx_all : ∀ t : Fin cfg0.N, win0_0.index t = ![t.val, 0] ∧ win0_1.index t = ![t.val % 16, 0] ∧ win0_2.index t = ![0, 0, 0]
    ∧ win0_3.index t = ![0, 0] ∧ win0_4.index t = ![0, 0] ∧ win0_5.index t = ![0, 0, 0] ∧ win0_6.index t = ![0, 0, 0] ∧ win0_7.index t = ![0, 0] ∧ win0_8.index t = ![0, 0]
    ∧ ((grid0.coords t) 1).val = t.val % 16 :=
  (by decide +kernel : ∀ t : Fin grid0.N, _)

theorem lt_pts (t : Fin cfg0.N) : t.val < 128 := lt_of_lt_of_eq t.isLt N_0

section
variable (m : (ℓ : Loc nD τ sig) → Buf (Elt Ideal) ℓ) (c : Dev nD)

/-- The projected input, the pooling weights, the pooling scale and the norm's weights as functions. -/
def Zf (r : Fin 16384) (x : Fin 5120) : EReal := m ((c : Thread nD τ).loc main_arg0) (ix2 r x)
def pwf (g : Fin 4) (x y : Fin 256) : EReal := m ((c : Thread nD τ).loc main_arg1) (ix4 0 g x y)
def psf (x : Fin 1024) : EReal := m ((c : Thread nD τ).loc main_arg2) (ix2 0 x)
def gnf (x : Fin 1024) : EReal := m ((c : Thread nD τ).loc main_arg3) (ix2 0 x)

theorem iblk_0 (t : Fin cfg0.N) (i : Fin 128) (x : Fin 5120) : iblk m c 0 t (ix2 i x) = Zf m c (Spec.row t.val i) x := by
  have hr := Spec.row_val (lt_pts t) i
  unfold Zf
  rw [← V_main_arg0 m c]
  blk_ext [iblk, idx_all t]
theorem iblk_1 (t : Fin cfg0.N) (i : Fin 128) (x : Fin 512) (r : Fin 2048) (hr : r.val = 128 * (t.val % 16) + i.val) :
    iblk m c 1 t (ix2 i x) = V m c main_v28 (ix2 r x) := by
  blk_ext [iblk, idx_all t]
theorem iblk_2 (t : Fin cfg0.N) (h : Fin 8) (i j : Fin 128) : iblk m c 2 t (ix3 h i j) = Spec.decM h.val i j := by
  rw [← tab_decay m c h i j]
  blk_ext [iblk, idx_all t]
theorem iblk_3 (t : Fin cfg0.N) (h : Fin 8) (i d : Fin 128) : iblk m c 3 t (ix2 i (hc h d)) = Spec.xiM h.val i d := by
  rw [← tab_xi m c i h d]
  blk_ext [iblk, idx_all t]
theorem iblk_4 (t : Fin cfg0.N) (h : Fin 8) (i d : Fin 128) : iblk m c 4 t (ix2 i (hc h d)) = Spec.zeM h.val i d := by
  rw [← tab_zeta m c i h d]
  blk_ext [iblk, idx_all t]
theorem iblk_5 (t : Fin cfg0.N) (g : Fin 4) (i : Fin 128) (x : Fin 256) :
    iblk m c 5 t (ix3 g i x) = if x.val ≤ 128 + i.val ∧ 128 + i.val < x.val + win g then (1 : EReal) else 0 := by
  rw [← tab_band m c g i x]
  blk_ext [iblk, idx_all t]
theorem iblk_6 (t : Fin cfg0.N) (g : Fin 4) (x y : Fin 256) : iblk m c 6 t (ix3 g x y) = pwf m c g x y := by
  unfold pwf
  rw [← tab_pw m c g x y]
  blk_ext [iblk, idx_all t]
theorem iblk_7 (t : Fin cfg0.N) (x : Fin 1024) : iblk m c 7 t (ix2 0 x) = psf m c x := by
  unfold psf
  rw [← V_main_arg2 m c]
  blk_ext [iblk, idx_all t]
theorem iblk_8 (t : Fin cfg0.N) (x : Fin 1024) : iblk m c 8 t (ix2 0 x) = gnf m c x := by
  unfold gnf
  rw [← V_main_arg3 m c]
  blk_ext [iblk, idx_all t]

theorem rope_row (t : Fin cfg0.N) (i : Fin 128) : ∃ r : Fin 2048, r.val = 128 * (t.val % 16) + i.val := ⟨⟨_, by omega⟩, rfl⟩

theorem rope_0 (t : Fin cfg0.N) (i d : Fin 128) : iblk m c 1 t (ix2 i (rc 0 d)) = Spec.cosM (t.val % 16) i d := by
  obtain ⟨r, hr⟩ := rope_row t i
  rw [iblk_1 m c t i _ r hr, tab_cos m c _ (Nat.mod_lt _ (by decide)) i d r hr]
theorem rope_1 (t : Fin cfg0.N) (i d : Fin 128) : iblk m c 1 t (ix2 i (rc 1 d)) = Spec.sinM (t.val % 16) i d := by
  obtain ⟨r, hr⟩ := rope_row t i
  rw [iblk_1 m c t i _ r hr, tab_sin m c _ (Nat.mod_lt _ (by decide)) i d r hr]
theorem rope_2 (t : Fin cfg0.N) (i d : Fin 128) : iblk m c 1 t (ix2 i (rc 2 d)) = Spec.cosM (t.val % 16) i d * Spec.ks := by
  obtain ⟨r, hr⟩ := rope_row t i
  rw [iblk_1 m c t i _ r hr, tab_kcos m c _ (Nat.mod_lt _ (by decide)) i d r hr]
theorem rope_3 (t : Fin cfg0.N) (i d : Fin 128) : iblk m c 1 t (ix2 i (rc 3 d)) = Spec.sinM (t.val % 16) i d * Spec.ks := by
  obtain ⟨r, hr⟩ := rope_row t i
  rw [iblk_1 m c t i _ r hr, tab_ksin m c _ (Nat.mod_lt _ (by decide)) i d r hr]

/-- The body's rotated keys are the scaled ones. -/
theorem keys_eq (t : Fin cfg0.N) (h : Fin 8) : keys (iblk m c 0 t) (iblk m c 1 t) h = Spec.kT (Zf m c) h t.val := by
  funext i d
  unfold keys
  simp only [iblk_0, rope_2, rope_3]
  exact Spec.rot_ks _ _ _ i d

/-- The state after a point. -/
def stF (t : ℕ) (h : Fin 8) : ℕ → Spec.M 128 128 :=
  Spec.stA (Spec.gp h.val 128) (Spec.kT (Zf m c) h) (Spec.sect (Zf m c) 2 h) (Spec.zeM h.val) (t / 16)

theorem gam_eq (h : Fin 8) : gam h = Spec.gp h.val 128 := by
  fin_cases h <;>
  · refine (IdealRules.named_const.ideal_named_scalar _ _ _ _ rfl).trans ?_
    unfold Spec.gp Spec.gam
    congr 1
    norm_num

theorem state_next (t : Fin cfg0.N) (S : Vec Ideal S8x128x128 .f32) (hS : ∀ h d e, S (ix3 h d e) = stF m c t.val h (t.val % 16) d e) (h : Fin 8) (d e : Fin 128) :
    stateAt (iblk m c 0 t) (iblk m c 1 t) (iblk m c 4 t) S h d e = stF m c t.val h (t.val % 16 + 1) d e := by
  unfold stateAt
  rw [keys_eq, gam_eq]
  simp only [hS, iblk_0, iblk_4]
  unfold stF
  rw [Spec.stA, Nat.div_add_mod]
  rfl

theorem zero_state (y : S8x128x128.Idx) : k0_pay3 (F := Ideal) y = 0 := Ideal.ofBits_zero_f32
theorem zero_rows (y : S256x1024.Idx) : k0_pay2 (F := Ideal) y = 0 := Ideal.ofBits_zero_bf16

theorem state_after : ∀ (n : ℕ) (hn : n < cfg0.N) (h : Fin 8) (d e : Fin 128),
    (outsAt0 m c n hn).2.2 (ix3 h d e) = stF m c n h (n % 16 + 1) d e := by
  intro n
  induction n using Nat.strong_induction_on with
  | _ n ih =>
    intro hn h d e
    by_cases h0 : n % 16 = 0
    · refine (state_A m c ⟨n, hn⟩ h0 (ix3 h d e)).trans (state_next m c ⟨n, hn⟩ _ (fun h d e => ?_) h d e)
      rw [zero_state]
      show _ = stF m c n h (n % 16) d e
      rw [h0]; rfl
    · refine (state_B m c ⟨n, hn⟩ h0 (ix3 h d e)).trans (state_next m c ⟨n, hn⟩ _ (fun h d e => ?_) h d e)
      refine (ih (n - 1) (by omega) _ h d e).trans ?_
      show stF m c (n - 1) h _ d e = stF m c n h (n % 16) d e
      unfold stF
      rw [show (n - 1) / 16 = n / 16 by omega, show (n - 1) % 16 + 1 = n % 16 by omega]

/-- The pool rows a point leaves for the next are its own. -/
theorem rows_after (t : Fin cfg0.N) (x : Fin 256) (hx : x.val < 128) (g : Fin 4) (d : Fin 256) :
    (outsAt0 m c t.val t.isLt).2.1 (ix2 x (gc g d)) = Zf m c (Spec.row t.val ⟨x.val, hx⟩) (zg g d) := by
  rw [← iblk_0]
  by_cases h0 : t.val % 16 = 0
  · exact carry_A m c t h0 x hx g d
  · exact carry_B m c t h0 x hx g d

/-- A head's output, its state before the point known. -/
theorem head_at (t : Fin cfg0.N) (S : Vec Ideal S8x128x128 .f32) (hS : ∀ h d e, S (ix3 h d e) = stF m c t.val h (t.val % 16) d e) (h : Fin 8) (i e : Fin 128) :
    headAt (iblk m c 0 t) (iblk m c 1 t) (iblk m c 2 t) (iblk m c 3 t) (iblk m c 8 t) S h i e
      = Spec.headT (Spec.gp h.val 128) (Spec.qT (Zf m c) h) (Spec.kT (Zf m c) h) (Spec.sect (Zf m c) 2 h) (Spec.sect (Zf m c) 3 h)
          (Spec.decM h.val) (Spec.xiM h.val) (Spec.zeM h.val) (fun e => gnf m c (hc h e)) t.val i e := by
  unfold headAt
  rw [keys_eq]
  simp only [hS, iblk_0, iblk_2, iblk_3, iblk_8, rope_0, rope_1]
  rfl

/-- A group's window sum over the rows the scratch holds. -/
theorem win_at (t : Fin cfg0.N) (U : Vec Ideal S256x1024 .bf16)
    (hU : ∀ (x : Fin 256) (hx : x.val < 128) g d, U (ix2 x (gc g d)) = if t.val % 16 = 0 then 0 else Zf m c (Spec.row (t.val - 1) ⟨x.val, hx⟩) (zg g d))
    (g : Fin 4) (i : Fin 128) (d : Fin 256) :
    (∑ x : Fin 256, (if x.val ≤ 128 + i.val ∧ 128 + i.val < x.val + win g then (1 : EReal) else 0)
        * (if h : x.val < 128 then U (ix2 x (gc g d)) else Zf m c (Spec.row t.val ⟨x.val - 128, by omega⟩) (zg g d)))
      = Spec.winS (Zf m c) g (win g) t.val i d := by
  have hw : win g ≤ 16 := by fin_cases g <;> decide
  have ht := lt_pts t
  rw [Spec.band_sum _ i (win g) hw (fun k => by omega)]
  unfold Spec.winS
  refine Finset.sum_congr rfl fun k _ => ?_
  have hk := k.isLt
  dsimp only
  by_cases h1 : 128 + i.val - k.val < 128
  · rw [dif_pos h1, hU _ h1]
    by_cases h0 : t.val % 16 = 0
    · rw [if_pos h0, if_neg (by omega)]
    · rw [if_neg h0, if_pos (by omega)]
      congr 1
      apply Fin.ext
      rw [Spec.row_val (by omega)]
      show 128 * (t.val - 1) + (128 + i.val - k.val) = (128 * t.val + i.val - k.val) % 16384
      omega
  · rw [dif_neg h1, if_pos (by omega)]
    congr 1
    apply Fin.ext
    rw [Spec.row_val ht]
    show 128 * t.val + (128 + i.val - k.val - 128) = (128 * t.val + i.val - k.val) % 16384
    omega

theorem pool_at (t : Fin cfg0.N) (U : Vec Ideal S256x1024 .bf16)
    (hU : ∀ (x : Fin 256) (hx : x.val < 128) g d, U (ix2 x (gc g d)) = if t.val % 16 = 0 then 0 else Zf m c (Spec.row (t.val - 1) ⟨x.val, hx⟩) (zg g d))
    (g : Fin 4) (i : Fin 128) (d : Fin 256) :
    poolAt (iblk m c 0 t) (iblk m c 5 t) (iblk m c 6 t) (iblk m c 7 t) U (t.val % 16) g i d
      = Spec.poolT (Spec.winS (Zf m c) g (win g) t.val i) ((min (128 * (t.val % 16) + i.val + 1) (win g) : ℕ) : ℝ)
          (fun x => Zf m c (Spec.row t.val i) (zg g x)) (pwf m c g) (fun d => psf m c (gc g d)) d := by
  unfold poolAt Spec.pool Spec.poolT
  simp only [iblk_0, iblk_5, iblk_6, iblk_7, win_at m c t U hU]

/-- The output block at a point. -/
theorem out_at (t : Fin cfg0.N) (i : Fin 128) (j : Fin 2048) :
    (outsAt0 m c t.val t.isLt).1 (ix2 i j) = Spec.mixer (Zf m c) (pwf m c) (psf m c) (gnf m c) t.val i j := by
  obtain ⟨-, -, -, -, -, -, -, -, -, hn⟩ := idx_all t
  have key : ∀ (U : Vec Ideal S256x1024 .bf16) (S : Vec Ideal S8x128x128 .f32)
      (hU : ∀ (x : Fin 256) (hx : x.val < 128) g d, U (ix2 x (gc g d)) = if t.val % 16 = 0 then 0 else Zf m c (Spec.row (t.val - 1) ⟨x.val, hx⟩) (zg g d))
      (hS : ∀ h d e, S (ix3 h d e) = stF m c t.val h (t.val % 16) d e),
      outAt (iblk m c 0 t) (iblk m c 1 t) (iblk m c 2 t) (iblk m c 3 t) (iblk m c 5 t) (iblk m c 6 t) (iblk m c 7 t) (iblk m c 8 t) U S
        ((grid0.coords t) 1).val i j = Spec.mixer (Zf m c) (pwf m c) (psf m c) (gnf m c) t.val i j := by
    intro U S hU hS
    rw [hn]
    unfold outAt Spec.mixer Spec.outT
    simp only [head_at m c t S hS, pool_at m c t U hU]
  by_cases h0 : t.val % 16 = 0
  · refine (out_A m c t h0 (ix2 i j)).trans (key _ _ (fun x hx g d => ?_) (fun h d e => ?_))
    · rw [if_pos h0, zero_rows]
    · rw [zero_state, h0]; rfl
  · have hp : t.val - 1 < cfg0.N := Nat.lt_of_le_of_lt (Nat.sub_le _ _) t.isLt
    refine (out_B m c t h0 (ix2 i j)).trans (key _ _ (fun x hx g d => ?_) (fun h d e => ?_))
    · rw [if_neg h0]; exact rows_after m c ⟨t.val - 1, hp⟩ x hx g d
    · refine (state_after m c (t.val - 1) hp h d e).trans ?_
      unfold stF
      rw [show (t.val - 1) / 16 = t.val / 16 by omega, show (t.val - 1) % 16 + 1 = t.val % 16 by omega]

/-- The kernel's result at a row and a column. -/
theorem result_at (r : Fin 16384) (j : Fin 2048) :
    Value.G9 m c (ix2 r j) = Spec.mixer (Zf m c) (pwf m c) (psf m c) (gnf m c) (r.val / 128) ⟨r.val % 128, Nat.mod_lt _ (by decide)⟩ j := by
  have hN : cfg0.N = 128 := N_0
  have hp : Value.pt9Of (ix2 r j) = r.val / 128 := by
    show 1 * (r.val / 128 - 0) + 1 * (j.val / 2048 - 0) = _
    omega
  have ht : r.val / 128 < cfg0.N := by omega
  unfold Value.G9
  rw [dif_pos (by rw [hp]; exact ht), Value.fold0_congr m c _ _ (r.val / 128) (by omega) hp, ← Value.outsAt0_sweep m c _ ht]
  refine Eq.trans (congrArg _ ?_) (out_at m c ⟨r.val / 128, ht⟩ ⟨r.val % 128, Nat.mod_lt _ (by decide)⟩ j)
  funext a
  fin_cases a
  · rfl
  · exact Fin.ext (Nat.mod_eq_of_lt j.isLt)

end
end Cert.Proof
-- ==== Proof.RefTables.lean ====
/- The reference's tables and the rotated queries and keys, at an index. -/
module

public import proofs.«01_k».proof.Proof.Tables
public import proofs.«01_k».proof.Proof.Gen.ReferenceIdeal.Read
public import Idealize.ShloMosaic.Lib.Pointwise

@[expose] public section

set_option maxRecDepth 16384
noncomputable section
namespace Cert.Proof.Ref
open Cert.ReferenceIdeal Cert.ReferenceIdeal.Gen Cert.ReferenceIdeal.Read Idealize.ShloMosaic Idealize.ShloMosaic.TcCoe Idealize.SL.Sem Idealize.ShloMosaic.StableHlo

theorem ref_cos (p : Fin 2048) (d : Fin 64) : val_main_v19 (F := Ideal) (ix2 p d) = Ideal.cos (Spec.ang p.val d.val) := by
  pointwise [val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_cst, val_main_cst_0, val_main_cst_1, val_main_cst_2, val_main_cst_3]
  rw [ang_eq (by omega) (by omega)]

theorem ref_sin (p : Fin 2048) (d : Fin 64) : val_main_v20 (F := Ideal) (ix2 p d) = Ideal.sin (Spec.ang p.val d.val) := by
  pointwise [val_main_v20, val_main_v18, val_main_v17, val_main_v16, val_main_v15, val_main_v14, val_main_v13, val_main_v12, val_main_v11, val_main_v10, val_main_v9, val_main_v8, val_main_v7, val_main_v6, val_main_v5, val_main_v4, val_main_v3, val_main_v2, val_main_cst, val_main_cst_0, val_main_cst_1, val_main_cst_2, val_main_cst_3]
  rw [ang_eq (by omega) (by omega)]

theorem ref_decay (h : Fin 8) (i j : Fin 128) : val_main_v233 (F := Ideal) (ix3 h i j) = Spec.decM h.val i j := by
  pointwise [val_main_v233, val_main_v232, val_main_v231, val_main_v230, val_main_v229, val_main_v228, val_main_v227, val_main_v226, val_main_v225, val_main_v224, val_main_v223, val_main_v222, val_main_v221, val_main_v220, val_main_v219, val_main_v218, val_main_v217, val_main_v216, val_main_v215, val_main_v214, val_main_v213, val_main_v212, val_main_v211, val_main_v210, val_main_v209, val_main_v208, val_main_call4_v0, val_main_call4_v1, val_main_call4_v2, val_main_cst_28, val_main_cst_29, val_main_cst_30, val_main_cst_31, val_main_cst_32, val_main_cst_33]
  rw [Spec.sif _ (by omega), Spec.sif _ (by omega), Spec.sif _ (by omega), Spec.max_sub, Spec.one_sub_pow, Spec.exp_gam]
  simp only [Spec.sub_nonneg_iff]
  unfold Spec.decM
  split_ifs
  · rfl
  · exact Ideal.ofBits_zero_f32

theorem ref_log (h : Fin 8) : val_main_v215 (F := Ideal) (ix1 h) = Ideal.log ((Spec.gam h.val : ℝ) : EReal) := by
  pointwise [val_main_v215, val_main_v214, val_main_v213, val_main_v212, val_main_v211, val_main_v210, val_main_v209, val_main_v208, val_main_cst_28, val_main_cst_29, val_main_cst_30]
  rw [Spec.sif _ (by omega), Spec.one_sub_pow]

theorem ref_zeta (h : Fin 8) (i : Fin 128) : val_main_v247 (F := Ideal) (ix2 h i) = Spec.gp h.val (127 - i.val) := by
  pointwise [val_main_v247, val_main_v246, val_main_v245, val_main_v244, val_main_v243, val_main_v242, val_main_v241, val_main_v240, val_main_v216, val_main_cst_34]
  rw [ref_log, Spec.sif _ (by omega), Spec.n127_f32, Spec.n127_sub _ (by omega), Spec.exp_gam]

theorem ref_xi (h : Fin 8) (i : Fin 128) : val_main_v378 (F := Ideal) (ix2 h i) = Spec.gp h.val (i.val + 1) := by
  pointwise [val_main_v378, val_main_v377, val_main_v376, val_main_v375, val_main_v374, val_main_v373, val_main_v372, val_main_v371, val_main_v216, val_main_cst_37]
  rw [ref_log, Spec.sif _ (by omega), Spec.add_one, Spec.exp_gam]

theorem ref_chunk (h : Fin 8) : val_main_v255 (F := Ideal) (ix1 h) = Spec.gp h.val 128 := by
  pointwise [val_main_v255, val_main_v254, val_main_v253, val_main_cst_35]
  rw [ref_log, Spec.n128_f32]
  exact Spec.exp_gam h.val 128

/-- The rotation with its halves written out. -/
theorem rot_halves (x : Spec.M 128 128) (n : ℕ) (i d : Fin 128) :
    Spec.rot x (Spec.cosM n) (Spec.sinM n) i d
      = if h : d.val < 64 then x i d * Ideal.cos (Spec.ang (128 * n + i.val) d.val) - x i ⟨64 + d.val, by omega⟩ * Ideal.sin (Spec.ang (128 * n + i.val) d.val)
        else x i d * Ideal.cos (Spec.ang (128 * n + i.val) (d.val - 64)) + x i ⟨d.val - 64, by omega⟩ * Ideal.sin (Spec.ang (128 * n + i.val) (d.val - 64)) := by
  unfold Spec.rot Spec.cosM Spec.sinM
  by_cases h : d.val < 64
  · rw [dif_pos h, if_pos h, Nat.mod_eq_of_lt h, show Spec.opp d = ⟨64 + d.val, by omega⟩ from Fin.ext (by unfold Spec.opp; dsimp only; omega), mul_neg, sub_eq_add_neg]
  · rw [dif_neg h, if_neg h, show d.val % 64 = d.val - 64 by omega, show Spec.opp d = ⟨d.val - 64, by omega⟩ from Fin.ext (by unfold Spec.opp; dsimp only; omega)]

/-- The projected input as a function of row and column. -/
def Zr (x0 : (⟨S16384x5120, .bf16⟩ : BufTy).Contents (Elt Ideal)) : Fin 16384 → Fin 5120 → EReal := fun r x => x0 (ix2 r x)

variable (x0 : (⟨S16384x5120, .bf16⟩ : BufTy).Contents (Elt Ideal)) (b : Fin 8) (n : Fin 16) (h : Fin 8) (i d : Fin 128)

/-- An element of a section by its row and column. -/
theorem sect_at (s : Fin 4) (r : Fin 16384) (x : Fin 5120) (hr : r.val = 128 * (16 * b.val + n.val) + i.val) (hx : x.val = 1024 + 1024 * s.val + 128 * h.val + d.val) :
    x0 (ix2 r x) = Spec.sect (Zr x0) s h (16 * b.val + n.val) i d := by
  unfold Spec.sect Zr
  have e1 : Spec.row (16 * b.val + n.val) i = r := Fin.ext (by rw [Spec.row_val (by omega), hr])
  have e2 : zc s h d = x := Fin.ext (by rw [hx]; unfold zc; dsimp only; omega)
  rw [e1, e2]

theorem mod16 : (16 * b.val + n.val) % 16 = n.val := by omega

theorem ref_q (p : Fin 2048) (hp : p.val = 128 * n.val + i.val) :
    val_main_v185 (F := Ideal) x0 (ix4 b p h d) = Spec.qT (Zr x0) h (16 * b.val + n.val) i d := by
  pointwise [val_main_v185, val_main_v184, val_main_v183, val_main_v182, val_main_v181, val_main_v180, val_main_v179, val_main_v178, val_main_v177, val_main_v176, val_main_v175, val_main_v174, val_main_v173, val_main_v172, val_main_v171, val_main_v170, val_main_v22, val_main_v1, val_main_v0]
  unfold Spec.qT
  rw [mod16, rot_halves]
  split_ifs with hd h2
  · rw [sect_at x0 b n h i d 0 _ _ (by dsimp only; omega) (by dsimp only; omega),
      sect_at x0 b n h i ⟨64 + d.val, by omega⟩ 0 _ _ (by dsimp only; omega) (by dsimp only; omega), ref_cos, ref_sin, hp]
  · rw [sect_at x0 b n h i d 0 _ _ (by dsimp only; omega) (by dsimp only; omega),
      sect_at x0 b n h i ⟨d.val - 64, by omega⟩ 0 _ _ (by dsimp only; omega) (by dsimp only; omega), ref_cos, ref_sin, hp]
  · exact absurd rfl h2

theorem ref_k (p : Fin 2048) (hp : p.val = 128 * n.val + i.val) :
    val_main_v203 (F := Ideal) x0 (ix4 b p h d) = Spec.kT (Zr x0) h (16 * b.val + n.val) i d := by
  pointwise [val_main_v203, val_main_v202, val_main_v201, val_main_v200, val_main_v199, val_main_v198, val_main_v197, val_main_v196, val_main_v195, val_main_v194, val_main_v193, val_main_v192, val_main_v191, val_main_v190, val_main_v189, val_main_v188, val_main_v187, val_main_v186, val_main_v23, val_main_v1, val_main_v0, val_main_cst_27]
  unfold Spec.kT Spec.ks
  rw [mod16, rot_halves]
  congr 1
  split_ifs with hd h2
  · rw [sect_at x0 b n h i d 1 _ _ (by dsimp only; omega) (by dsimp only; omega),
      sect_at x0 b n h i ⟨64 + d.val, by omega⟩ 1 _ _ (by dsimp only; omega) (by dsimp only; omega), ref_cos, ref_sin, hp]
  · rw [sect_at x0 b n h i d 1 _ _ (by dsimp only; omega) (by dsimp only; omega),
      sect_at x0 b n h i ⟨d.val - 64, by omega⟩ 1 _ _ (by dsimp only; omega) (by dsimp only; omega), ref_cos, ref_sin, hp]
  · exact absurd rfl h2

theorem ref_qc : val_main_v205 (F := Ideal) x0 (ix5 b n i h d) = Spec.qT (Zr x0) h (16 * b.val + n.val) i d := by
  pointwise [val_main_v205]
  exact ref_q x0 b n h i d _ (by dsimp only; omega)

theorem ref_kc : val_main_v206 (F := Ideal) x0 (ix5 b n i h d) = Spec.kT (Zr x0) h (16 * b.val + n.val) i d := by
  pointwise [val_main_v206]
  exact ref_k x0 b n h i d _ (by dsimp only; omega)

theorem ref_vc : val_main_v207 (F := Ideal) x0 (ix5 b n i h d) = Spec.sect (Zr x0) 2 h (16 * b.val + n.val) i d := by
  pointwise [val_main_v207, val_main_v204, val_main_v24, val_main_v1, val_main_v0]
  exact sect_at x0 b n h i d 2 _ _ (by dsimp only; omega) (by dsimp only; omega)

end Cert.Proof.Ref
-- ==== Proof.RefHeads.lean ====
/- The reference's heads: scores, states, what retention yields, its normalisation and its gate. -/
module

public import proofs.«01_k».proof.Proof.RefTables

@[expose] public section

set_option maxRecDepth 16384
noncomputable section
namespace Cert.Proof.Ref
open Cert.ReferenceIdeal Cert.ReferenceIdeal.Gen Cert.ReferenceIdeal.Read Idealize.ShloMosaic Idealize.ShloMosaic.TcCoe Idealize.SL.Sem Idealize.ShloMosaic.StableHlo

variable (x0 : (⟨S16384x5120, .bf16⟩ : BufTy).Contents (Elt Ideal)) (b : Fin 8) (n : Fin 16) (h : Fin 8) (i d e : Fin 128)

theorem ref_scores (j : Fin 128) : val_main_v237 (F := Ideal) x0 (ix5 b n h i j)
    = (∑ d, Spec.qT (Zr x0) h (16 * b.val + n.val) i d * Spec.kT (Zr x0) h (16 * b.val + n.val) j d) * Spec.decM h.val i j := by
  have hl : ∀ k, lidx_main_v234 (ix5 b n h i j) k = ix5 b n i h k := fun k => (eq_ix5 _).trans rfl
  have hr : ∀ k, ridx_main_v234 (ix5 b n h i j) k = ix5 b n j h k := fun k => (eq_ix5 _).trans rfl
  have hd : idx_main_v235 (idx_main_v236 (ix5 b n h i j)) = ix3 h i j := (eq_ix3 _).trans rfl
  rw [val_main_v237_apply, val_main_v236_apply, val_main_v235_apply, hd, val_main_v234_apply, ref_decay]
  simp only [hl, hr, ref_qc, ref_kc]
  rfl

theorem ref_intra : val_main_v239 (F := Ideal) x0 (ix5 b n i h e)
    = ∑ j, (∑ d, Spec.qT (Zr x0) h (16 * b.val + n.val) i d * Spec.kT (Zr x0) h (16 * b.val + n.val) j d) * Spec.decM h.val i j
        * Spec.sect (Zr x0) 2 h (16 * b.val + n.val) j e := by
  have ht : idx_main_v239 (ix5 b n i h e) = ix5 b n h e i := (eq_ix5 _).trans rfl
  have hl : ∀ k, lidx_main_v238 (ix5 b n h e i) k = ix5 b n k h e := fun k => (eq_ix5 _).trans rfl
  have hr : ∀ k, ridx_main_v238 (ix5 b n h e i) k = ix5 b n h i k := fun k => (eq_ix5 _).trans rfl
  rw [val_main_v239_apply, ht, val_main_v238_apply]
  refine Finset.sum_congr rfl fun j _ => ?_
  rw [hl, hr, ref_vc, ref_scores, mul_comm]

theorem ref_kv : val_main_v252 (F := Ideal) x0 (ix5 n b h d e)
    = ∑ j, Spec.kT (Zr x0) h (16 * b.val + n.val) j d * Spec.zeM h.val j d * Spec.sect (Zr x0) 2 h (16 * b.val + n.val) j e := by
  have hl : ∀ k, lidx_main_v252 (ix5 n b h d e) k = ix5 b n k h d := fun k => (eq_ix5 _).trans rfl
  have hr : ∀ k, ridx_main_v252 (ix5 n b h d e) k = ix5 b n k h e := fun k => (eq_ix5 _).trans rfl
  have hz : ∀ k, idx_main_v248 (idx_main_v249 (idx_main_v250 (ix5 b n k h d))) = ix2 h k := fun k => (eq_ix2 _).trans rfl
  rw [val_main_v252_apply]
  refine Finset.sum_congr rfl fun j _ => ?_
  rw [hl, hr, ref_vc, val_main_v251_apply, val_main_v250_apply, val_main_v249_apply, val_main_v248_apply, hz, ref_kc, ref_zeta]
  rfl

/-- The state before a chunk of a sequence, as both programs share it. -/
def stR (k : ℕ) : Spec.M 128 128 :=
  Spec.stA (Spec.gp h.val 128) (Spec.kT (Zr x0) h) (Spec.sect (Zr x0) 2 h) (Spec.zeM h.val) b.val k

theorem stR_succ (d e : Fin 128) : stR x0 b h (n.val + 1) d e = Spec.gp h.val 128 * stR x0 b h n.val d e + val_main_v252 (F := Ideal) x0 (ix5 n b h d e) := by
  rw [ref_kv]; rfl

theorem st_0 : val_main_v257 (F := Ideal) (ix4 b h d e) = stR x0 b h 0 d e := by
  pointwise [val_main_v257, val_main_cst_36]
  rfl

/-- One step of the reference's recurrence, from any state and at any chunk's slice of the keys and values. -/
def stepV (k : ℕ) (hs : S16x8x8x128x128.Slices ![k, 0, 0, 0, 0] S1x8x8x128x128) (y : FVec Ideal S8x8x128x128 .f32) : FVec Ideal S8x8x128x128 .f32 :=
  addf (mulf (val_main_v259 (F := Ideal)) y)
    (shapeCast _ (extractStridedSlice S1x8x8x128x128 ![k, 0, 0, 0, 0] (val_main_v252 (F := Ideal) x0) hs) shapeCasts_S1x8x8x128x128_S8x8x128x128)

/-- A tile of states is the states before chunk `k`. -/
def IsSt (k : ℕ) (y : FVec Ideal S8x8x128x128 .f32) : Prop := ∀ b h d e, y (ix4 b h d e) = stR x0 b h k d e

theorem stepV_is (k : ℕ) (hk : k < 16) (hs : S16x8x8x128x128.Slices ![k, 0, 0, 0, 0] S1x8x8x128x128) (y) (hy : IsSt x0 k y) :
    IsSt x0 (k + 1) (stepV x0 k hs y) := by
  intro b h d e
  refine Eq.trans ?_ (stR_succ x0 b ⟨k, hk⟩ h d e).symm
  unfold stepV
  pointwise [val_main_v259, val_main_v258, val_main_v256]
  rw [ref_chunk, hy b h d e]

theorem st1 : IsSt x0 1 (val_main_v263 (F := Ideal) x0) := stepV_is x0 0 (by omega) slices_S16x8x8x128x128_S1x8x8x128x128_0_0_0_0_0 _ (fun b h d e => st_0 x0 b h d e)
theorem st2 : IsSt x0 2 (val_main_v269 (F := Ideal) x0) := stepV_is x0 1 (by omega) slices_S16x8x8x128x128_S1x8x8x128x128_1_0_0_0_0 _ (st1 x0)
theorem st3 : IsSt x0 3 (val_main_v275 (F := Ideal) x0) := stepV_is x0 2 (by omega) slices_S16x8x8x128x128_S1x8x8x128x128_2_0_0_0_0 _ (st2 x0)
theorem st4 : IsSt x0 4 (val_main_v281 (F := Ideal) x0) := stepV_is x0 3 (by omega) slices_S16x8x8x128x128_S1x8x8x128x128_3_0_0_0_0 _ (st3 x0)
theorem st5 : IsSt x0 5 (val_main_v287 (F := Ideal) x0) := stepV_is x0 4 (by omega) slices_S16x8x8x128x128_S1x8x8x128x128_4_0_0_0_0 _ (st4 x0)
theorem st6 : IsSt x0 6 (val_main_v293 (F := Ideal) x0) := stepV_is x0 5 (by omega) slices_S16x8x8x128x128_S1x8x8x128x128_5_0_0_0_0 _ (st5 x0)
theorem st7 : IsSt x0 7 (val_main_v299 (F := Ideal) x0) := stepV_is x0 6 (by omega) slices_S16x8x8x128x128_S1x8x8x128x128_6_0_0_0_0 _ (st6 x0)
theorem st8 : IsSt x0 8 (val_main_v305 (F := Ideal) x0) := stepV_is x0 7 (by omega) slices_S16x8x8x128x128_S1x8x8x128x128_7_0_0_0_0 _ (st7 x0)
theorem st9 : IsSt x0 9 (val_main_v311 (F := Ideal) x0) := stepV_is x0 8 (by omega) slices_S16x8x8x128x128_S1x8x8x128x128_8_0_0_0_0 _ (st8 x0)
theorem st10 : IsSt x0 10 (val_main_v317 (F := Ideal) x0) := stepV_is x0 9 (by omega) slices_S16x8x8x128x128_S1x8x8x128x128_9_0_0_0_0 _ (st9 x0)
theorem st11 : IsSt x0 11 (val_main_v323 (F := Ideal) x0) := stepV_is x0 10 (by omega) slices_S16x8x8x128x128_S1x8x8x128x128_10_0_0_0_0 _ (st10 x0)
theorem st12 : IsSt x0 12 (val_main_v329 (F := Ideal) x0) := stepV_is x0 11 (by omega) slices_S16x8x8x128x128_S1x8x8x128x128_11_0_0_0_0 _ (st11 x0)
theorem st13 : IsSt x0 13 (val_main_v335 (F := Ideal) x0) := stepV_is x0 12 (by omega) slices_S16x8x8x128x128_S1x8x8x128x128_12_0_0_0_0 _ (st12 x0)
theorem st14 : IsSt x0 14 (val_main_v341 (F := Ideal) x0) := stepV_is x0 13 (by omega) slices_S16x8x8x128x128_S1x8x8x128x128_13_0_0_0_0 _ (st13 x0)
theorem st15 : IsSt x0 15 (val_main_v347 (F := Ideal) x0) := stepV_is x0 14 (by omega) slices_S16x8x8x128x128_S1x8x8x128x128_14_0_0_0_0 _ (st14 x0)

/-- A tile of states with an axis of extent one in front, at an index of the stack. -/
theorem piece (k : ℕ) (y) (hy : IsSt x0 k y) (hn : n.val = k) (i : S1x8x8x128x128.Idx)
    (h1 : (i 1).val = b.val) (h2 : (i 2).val = h.val) (h3 : (i 3).val = d.val) (h4 : (i 4).val = e.val) :
    broadcastInDim S1x8x8x128x128 ![1, 2, 3, 4] bcast_S8x8x128x128_S1x8x8x128x128_1_2_3_4 y i = stR x0 b h n.val d e := by
  rw [hn, ← hy b h d e]
  refine broadcastInDim_apply _ bcast_S8x8x128x128_S1x8x8x128x128_1_2_3_4 y i (ix4 b h d e) (fun a => ?_)
  match a with
  | ⟨0, _⟩ => exact h1.symm
  | ⟨1, _⟩ => exact h2.symm
  | ⟨2, _⟩ => exact h3.symm
  | ⟨3, _⟩ => exact h4.symm

theorem ref_stack : val_main_v370 (F := Ideal) x0 (ix5 n b h d e) = stR x0 b h n.val d e := by
  unfold val_main_v370
  concat_tiles i hh
  · exact piece x0 b n h d e 0 _ (fun b h d e => st_0 x0 b h d e) hh i hh1 hh2 hh3 hh4
  · exact piece x0 b n h d e 1 _ (st1 x0) hh i hh1 hh2 hh3 hh4
  · exact piece x0 b n h d e 2 _ (st2 x0) hh i hh1 hh2 hh3 hh4
  · exact piece x0 b n h d e 3 _ (st3 x0) hh i hh1 hh2 hh3 hh4
  · exact piece x0 b n h d e 4 _ (st4 x0) hh i hh1 hh2 hh3 hh4
  · exact piece x0 b n h d e 5 _ (st5 x0) hh i hh1 hh2 hh3 hh4
  · exact piece x0 b n h d e 6 _ (st6 x0) hh i hh1 hh2 hh3 hh4
  · exact piece x0 b n h d e 7 _ (st7 x0) hh i hh1 hh2 hh3 hh4
  · exact piece x0 b n h d e 8 _ (st8 x0) hh i hh1 hh2 hh3 hh4
  · exact piece x0 b n h d e 9 _ (st9 x0) hh i hh1 hh2 hh3 hh4
  · exact piece x0 b n h d e 10 _ (st10 x0) hh i hh1 hh2 hh3 hh4
  · exact piece x0 b n h d e 11 _ (st11 x0) hh i hh1 hh2 hh3 hh4
  · exact piece x0 b n h d e 12 _ (st12 x0) hh i hh1 hh2 hh3 hh4
  · exact piece x0 b n h d e 13 _ (st13 x0) hh i hh1 hh2 hh3 hh4
  · exact piece x0 b n h d e 14 _ (st14 x0) hh i hh1 hh2 hh3 hh4
  · exact piece x0 b n h d e 15 _ (st15 x0) hh i hh1 hh2 hh3 hh4

theorem ref_cross : val_main_v384 (F := Ideal) x0 (ix5 b n i h e)
    = (∑ d, val_main_v370 (F := Ideal) x0 (ix5 n b h d e) * Spec.qT (Zr x0) h (16 * b.val + n.val) i d) * Spec.gp h.val (i.val + 1) := by
  have ht : idx_main_v380 (ix5 b n i h e) = ix5 b n h e i := (eq_ix5 _).trans rfl
  have hl : ∀ k, lidx_main_v379 (ix5 b n h e i) k = ix5 n b h k e := fun k => (eq_ix5 _).trans rfl
  have hr : ∀ k, ridx_main_v379 (ix5 b n h e i) k = ix5 b n i h k := fun k => (eq_ix5 _).trans rfl
  have hz : idx_main_v381 (idx_main_v382 (idx_main_v383 (ix5 b n i h e))) = ix2 h i := (eq_ix2 _).trans rfl
  rw [val_main_v384_apply, val_main_v383_apply, val_main_v382_apply, val_main_v381_apply, hz, ref_xi, val_main_v380_apply, ht, val_main_v379_apply]
  simp only [hl, hr, ref_qc]
  rfl

end Cert.Proof.Ref
-- ==== Proof.RefNorm.lean ====
/- The reference's heads after retention: the sum of its parts, its normalisation and its gate. -/
module

public import proofs.«01_k».proof.Proof.RefHeads

@[expose] public section

set_option maxRecDepth 16384
noncomputable section
namespace Cert.Proof.Ref
open Cert.ReferenceIdeal Cert.ReferenceIdeal.Gen Cert.ReferenceIdeal.Read Idealize.ShloMosaic Idealize.ShloMosaic.TcCoe Idealize.SL.Sem Idealize.ShloMosaic.StableHlo

variable (x0 : (⟨S16384x5120, .bf16⟩ : BufTy).Contents (Elt Ideal)) (x3 : (⟨S1x1024, .f32⟩ : BufTy).Contents (Elt Ideal))
  (b : Fin 8) (n : Fin 16) (h : Fin 8) (i d e : Fin 128)

/-- The gate written with a quotient of one. -/
theorem silu_eq (g : EReal) : g * Ideal.div 1 (1 + Ideal.exp (-g)) = Spec.silu g := by
  have hp : 0 ≤ Ideal.exp (-g) := by
    generalize -g = y
    induction y with
    | bot => exact le_refl _
    | top => exact le_top
    | coe r => exact EReal.coe_nonneg.mpr (Real.exp_pos r).le
  rw [Ideal.mul_one_div (ne_of_gt (lt_of_lt_of_le zero_lt_one (le_add_of_nonneg_right hp)))]
  unfold Spec.silu
  rw [zero_sub]

theorem ref_ret (p : Fin 2048) (hp : p.val = 128 * n.val + i.val) : val_main_v386 (F := Ideal) x0 (ix4 b p h e)
    = Spec.ret (Spec.qT (Zr x0) h (16 * b.val + n.val)) (Spec.kT (Zr x0) h (16 * b.val + n.val)) (Spec.sect (Zr x0) 2 h (16 * b.val + n.val))
        (Spec.decM h.val) (stR x0 b h n.val) (Spec.xiM h.val) i e := by
  pointwise [val_main_v386]
  have hn : (⟨p.val / 128, by omega⟩ : Fin 16) = n := Fin.ext (by dsimp only; omega)
  have hi : (⟨p.val % 128, by omega⟩ : Fin 128) = i := Fin.ext (by dsimp only; omega)
  rw [hn, hi, val_main_v385_apply, ref_intra, ref_cross]
  unfold Spec.ret
  congr 2
  refine Finset.sum_congr rfl fun d _ => ?_
  rw [ref_stack, mul_comm]

theorem ref_norm (p : Fin 2048) : val_main_v409 (F := Ideal) x0 x3 (ix4 b p h e)
    = Spec.norm (fun e => val_main_v386 (F := Ideal) x0 (ix4 b p h e)) (fun e => x3 (ix2 0 (hc h e))) e := by
  pointwise [val_main_v409, val_main_v408, val_main_v407, val_main_v406, val_main_v405, val_main_v404, val_main_v403, val_main_v402, val_main_v401, val_main_v400, val_main_v399, val_main_v398, val_main_v397, val_main_v396, val_main_v395, val_main_v394, val_main_v393, val_main_v392, val_main_v391, val_main_v390, val_main_v389, val_main_v388, val_main_v387, val_main_cst_38, val_main_cst_39, val_main_cst_40, val_main_cst_41, val_main_cst_42]
  have hx : (⟨h.val * 128 + e.val, by omega⟩ : Fin 1024) = hc h e := Fin.ext (by unfold hc; dsimp only; omega)
  rw [hx]
  rfl

theorem ref_head (p : Fin 2048) (x : Fin 1024) (hx : x.val = 128 * h.val + e.val) : val_main_v412 (F := Ideal) x0 x3 (ix3 b p x)
    = Spec.silu (x0 (ix2 ⟨2048 * b.val + p.val, by omega⟩ ⟨4096 + x.val, by omega⟩)) * val_main_v409 (F := Ideal) x0 x3 (ix4 b p h e) := by
  pointwise [val_main_v412, val_main_v411, val_main_v410, val_main_v25, val_main_v1, val_main_v0, val_main_call5_v5, val_main_call5_v4, val_main_call5_v3, val_main_call5_v2, val_main_call5_v1, val_main_call5_v0, val_main_call5_cst, val_main_call5_cst_0]
  have hh : (⟨x.val / 128, by omega⟩ : Fin 8) = h := Fin.ext (by dsimp only; omega)
  have he : (⟨x.val % 128, by omega⟩ : Fin 128) = e := Fin.ext (by dsimp only; omega)
  have hr : (⟨b.val * 2048 + p.val, by omega⟩ : Fin 16384) = ⟨2048 * b.val + p.val, by omega⟩ := Fin.ext (by dsimp only; omega)
  rw [hh, he, hr, silu_eq]

/-- A head's output in the reference is the head both programs share. -/
theorem ref_headT (p : Fin 2048) (hp : p.val = 128 * n.val + i.val) (x : Fin 1024) (hx : x.val = 128 * h.val + e.val) :
    val_main_v412 (F := Ideal) x0 x3 (ix3 b p x)
    = Spec.headT (Spec.gp h.val 128) (Spec.qT (Zr x0) h) (Spec.kT (Zr x0) h) (Spec.sect (Zr x0) 2 h) (Spec.sect (Zr x0) 3 h) (Spec.decM h.val)
        (Spec.xiM h.val) (Spec.zeM h.val) (fun e => x3 (ix2 0 (hc h e))) (16 * b.val + n.val) i e := by
  rw [ref_head x0 x3 b h e p x hx, ref_norm, sect_at x0 b n h i e 3 _ _ (by dsimp only; omega) (by dsimp only; omega)]
  unfold Spec.headT
  rw [mod16, show (16 * b.val + n.val) / 16 = b.val by omega]
  congr 2
  funext e
  rw [ref_ret x0 b n h i e p hp]
  rfl

end Cert.Proof.Ref
-- ==== Proof.RefPool.lean ====
/- The reference's pooling: counts, window sums and projection of the four groups. -/
module

public import proofs.«01_k».proof.Proof.RefTables

@[expose] public section

set_option maxRecDepth 16384
noncomputable section
namespace Cert.Proof.Ref
open Cert.ReferenceIdeal Cert.ReferenceIdeal.Gen Cert.ReferenceIdeal.Read Idealize.ShloMosaic Idealize.ShloMosaic.TcCoe Idealize.SL.Sem Idealize.ShloMosaic.StableHlo

variable (x0 : (⟨S16384x5120, .bf16⟩ : BufTy).Contents (Elt Ideal)) (b : Fin 8) (p : Fin 2048) (c : Fin 256)

/-- A count as the reference computes it: the position plus one, less what lies before the window. -/
theorem cnt_bv (w : ℕ) (h0 : 1 ≤ w) (hw : w ≤ 16) :
    FloatOps.sitofp (F := Ideal) FTy.f32 (IntOp.subi (IntOp.addi (BitVec.ofNat 32 p.val) 1#32)
      (IntOp.maxsi (IntOp.subi (IntOp.addi (BitVec.ofNat 32 p.val) 1#32) (BitVec.ofNat 32 w)) 0#32)) = ((min (p.val + 1) w : ℕ) : ℝ) := by
  have e : IntOp.subi (IntOp.addi (BitVec.ofNat 32 p.val) 1#32)
      (IntOp.maxsi (IntOp.subi (IntOp.addi (BitVec.ofNat 32 p.val) 1#32) (BitVec.ofNat 32 w)) 0#32) = BitVec.ofNat 32 (min (p.val + 1) w) := by
    have e1 : (BitVec.ofNat 32 p.val + 1#32 - BitVec.ofNat 32 w).toInt = (p.val + 1 : ℤ) - w := by
      rw [BitVec.toInt_sub, BitVec.toInt_add, Spec.toInt_small p.val (by omega), Spec.toInt_small w (by omega), show (1#32).toInt = 1 from rfl]
      simp only [Int.bmod_def]; omega
    apply BitVec.eq_of_toInt_eq
    rw [Spec.toInt_small _ (by omega)]
    show (BitVec.ofNat 32 p.val + 1#32 - (if (0#32).slt (BitVec.ofNat 32 p.val + 1#32 - BitVec.ofNat 32 w) then BitVec.ofNat 32 p.val + 1#32 - BitVec.ofNat 32 w else 0#32)).toInt = _
    rw [BitVec.slt, e1, show (0#32).toInt = 0 from rfl]
    by_cases hp : (0 : ℤ) < (p.val + 1 : ℤ) - w
    · rw [if_pos (by simpa using hp), BitVec.toInt_sub, e1, BitVec.toInt_add, Spec.toInt_small p.val (by omega), show (1#32).toInt = 1 from rfl]
      simp only [Int.bmod_def]; omega
    · rw [if_neg (by simpa using hp), BitVec.toInt_sub, BitVec.toInt_add, Spec.toInt_small p.val (by omega), show (1#32).toInt = 1 from rfl, show (0#32).toInt = 0 from rfl]
      simp only [Int.bmod_def]; omega
  rw [e, Spec.sif _ (by omega)]

/-- The row `m` before `p` in its sequence, zero before the sequence's start. -/
def back (g : Fin 4) (m : ℕ) : EReal := if m ≤ p.val then Zr x0 ⟨(2048 * b.val + p.val - m) % 16384, Nat.mod_lt _ (by decide)⟩ (zg g c) else 0

theorem back_at (g : Fin 4) (m : ℕ) (r : Fin 16384) (x : Fin 5120) (hm : m ≤ p.val) (hr : r.val = 2048 * b.val + p.val - m) (hx : x.val = 256 * g.val + c.val) :
    x0 (ix2 r x) = back x0 b p c g m := by
  unfold back Zr
  have e1 : (⟨(2048 * b.val + p.val - m) % 16384, Nat.mod_lt _ (by decide)⟩ : Fin 16384) = r := Fin.ext (by rw [hr]; dsimp only; omega)
  have e2 : zg g c = x := Fin.ext (by rw [hx]; rfl)
  rw [if_pos hm, e1, e2]

theorem back_zero (g : Fin 4) (m : ℕ) (hm : p.val < m) : FloatOps.sitofp (F := Ideal) FTy.f32 0#32 = back x0 b p c g m := by
  unfold back
  rw [if_neg (by omega)]
  exact (Spec.sif 0 (by omega)).trans (by simp)

theorem cnt2 : val_main_v39 (F := Ideal) (ix1 p) = ((min (p.val + 1) 2 : ℕ) : ℝ) := by
  pointwise [val_main_v39, val_main_v38, val_main_v37, val_main_v36, val_main_c_6, val_main_v35, val_main_v34, val_main_c_5, val_main_v33, val_main_v32, val_main_c_4, val_main_v31, val_main_v30, val_main_c, val_main_v29]
  exact cnt_bv p 2 (by omega) (by omega)

theorem pad2 (q : Fin 2049) (m : ℕ) (hm : q.val + m = p.val + 1) : val_main_v42 (F := Ideal) x0 (ix3 b q c) = back x0 b p c 0 m := by
  pointwise [val_main_v42, val_main_c_7, val_main_v41, val_main_v40, val_main_v28, val_main_v21, val_main_v1, val_main_v0, val_main_call0_v0]
  split_ifs with hq
  · exact back_at x0 b p c 0 m _ _ (by omega) (by dsimp only; omega) (by dsimp only <;> omega)
  · exact back_zero x0 b p c 0 m (by omega)

theorem sum2 : val_main_v47 (F := Ideal) x0 (ix3 b p c) = ∑ m ∈ Finset.range 2, back x0 b p c 0 m := by
  pointwise [val_main_v47, val_main_v46, val_main_v45, val_main_v44, val_main_cst_8, val_main_v43]
  simp only [Finset.sum_range_succ, Finset.sum_range_zero, zero_add]
  iterate 1 refine congrArg₂ HAdd.hAdd ?_ (pad2 x0 b p c _ _ (by dsimp only <;> omega))
  exact pad2 x0 b p c _ _ (by dsimp only <;> omega)

theorem mean2 : val_main_v50 (F := Ideal) x0 (ix3 b p c) = Ideal.div (∑ m ∈ Finset.range 2, back x0 b p c 0 m) ((min (p.val + 1) 2 : ℕ) : ℝ) := by
  rw [← sum2, ← cnt2]
  pointwise [val_main_v50, val_main_v49, val_main_v48]

theorem cnt4 : val_main_v60 (F := Ideal) (ix1 p) = ((min (p.val + 1) 4 : ℕ) : ℝ) := by
  pointwise [val_main_v60, val_main_v59, val_main_v58, val_main_v57, val_main_c_12, val_main_v56, val_main_v55, val_main_c_11, val_main_v54, val_main_v53, val_main_c_10, val_main_v52, val_main_v51, val_main_c_9, val_main_v29]
  exact cnt_bv p 4 (by omega) (by omega)

theorem pad4 (q : Fin 2051) (m : ℕ) (hm : q.val + m = p.val + 3) : val_main_v63 (F := Ideal) x0 (ix3 b q c) = back x0 b p c 1 m := by
  pointwise [val_main_v63, val_main_c_13, val_main_v62, val_main_v61, val_main_v28, val_main_v21, val_main_v1, val_main_v0, val_main_call1_v0]
  split_ifs with hq
  · exact back_at x0 b p c 1 m _ _ (by omega) (by dsimp only; omega) (by dsimp only <;> omega)
  · exact back_zero x0 b p c 1 m (by omega)

theorem sum4 : val_main_v72 (F := Ideal) x0 (ix3 b p c) = ∑ m ∈ Finset.range 4, back x0 b p c 1 m := by
  pointwise [val_main_v72, val_main_v71, val_main_v70, val_main_v69, val_main_v68, val_main_v67, val_main_v66, val_main_v65, val_main_cst_14, val_main_v64]
  simp only [Finset.sum_range_succ, Finset.sum_range_zero, zero_add]
  iterate 3 refine congrArg₂ HAdd.hAdd ?_ (pad4 x0 b p c _ _ (by dsimp only <;> omega))
  exact pad4 x0 b p c _ _ (by dsimp only <;> omega)

theorem mean4 : val_main_v75 (F := Ideal) x0 (ix3 b p c) = Ideal.div (∑ m ∈ Finset.range 4, back x0 b p c 1 m) ((min (p.val + 1) 4 : ℕ) : ℝ) := by
  rw [← sum4, ← cnt4]
  pointwise [val_main_v75, val_main_v74, val_main_v73]

theorem cnt8 : val_main_v85 (F := Ideal) (ix1 p) = ((min (p.val + 1) 8 : ℕ) : ℝ) := by
  pointwise [val_main_v85, val_main_v84, val_main_v83, val_main_v82, val_main_c_18, val_main_v81, val_main_v80, val_main_c_17, val_main_v79, val_main_v78, val_main_c_16, val_main_v77, val_main_v76, val_main_c_15, val_main_v29]
  exact cnt_bv p 8 (by omega) (by omega)

theorem pad8 (q : Fin 2055) (m : ℕ) (hm : q.val + m = p.val + 7) : val_main_v88 (F := Ideal) x0 (ix3 b q c) = back x0 b p c 2 m := by
  pointwise [val_main_v88, val_main_c_19, val_main_v87, val_main_v86, val_main_v28, val_main_v21, val_main_v1, val_main_v0, val_main_call2_v0]
  split_ifs with hq
  · exact back_at x0 b p c 2 m _ _ (by omega) (by dsimp only; omega) (by dsimp only <;> omega)
  · exact back_zero x0 b p c 2 m (by omega)

theorem sum8 : val_main_v105 (F := Ideal) x0 (ix3 b p c) = ∑ m ∈ Finset.range 8, back x0 b p c 2 m := by
  pointwise [val_main_v105, val_main_v104, val_main_v103, val_main_v102, val_main_v101, val_main_v100, val_main_v99, val_main_v98, val_main_v97, val_main_v96, val_main_v95, val_main_v94, val_main_v93, val_main_v92, val_main_v91, val_main_v90, val_main_cst_20, val_main_v89]
  simp only [Finset.sum_range_succ, Finset.sum_range_zero, zero_add]
  iterate 7 refine congrArg₂ HAdd.hAdd ?_ (pad8 x0 b p c _ _ (by dsimp only <;> omega))
  exact pad8 x0 b p c _ _ (by dsimp only <;> omega)

theorem mean8 : val_main_v108 (F := Ideal) x0 (ix3 b p c) = Ideal.div (∑ m ∈ Finset.range 8, back x0 b p c 2 m) ((min (p.val + 1) 8 : ℕ) : ℝ) := by
  rw [← sum8, ← cnt8]
  pointwise [val_main_v108, val_main_v107, val_main_v106]

theorem cnt16 : val_main_v118 (F := Ideal) (ix1 p) = ((min (p.val + 1) 16 : ℕ) : ℝ) := by
  pointwise [val_main_v118, val_main_v117, val_main_v116, val_main_v115, val_main_c_24, val_main_v114, val_main_v113, val_main_c_23, val_main_v112, val_main_v111, val_main_c_22, val_main_v110, val_main_v109, val_main_c_21, val_main_v29]
  exact cnt_bv p 16 (by omega) (by omega)

theorem pad16 (q : Fin 2063) (m : ℕ) (hm : q.val + m = p.val + 15) : val_main_v121 (F := Ideal) x0 (ix3 b q c) = back x0 b p c 3 m := by
  pointwise [val_main_v121, val_main_c_25, val_main_v120, val_main_v119, val_main_v28, val_main_v21, val_main_v1, val_main_v0, val_main_call3_v0]
  split_ifs with hq
  · exact back_at x0 b p c 3 m _ _ (by omega) (by dsimp only; omega) (by dsimp only <;> omega)
  · exact back_zero x0 b p c 3 m (by omega)

theorem sum16 : val_main_v154 (F := Ideal) x0 (ix3 b p c) = ∑ m ∈ Finset.range 16, back x0 b p c 3 m := by
  pointwise [val_main_v154, val_main_v153, val_main_v152, val_main_v151, val_main_v150, val_main_v149, val_main_v148, val_main_v147, val_main_v146, val_main_v145, val_main_v144, val_main_v143, val_main_v142, val_main_v141, val_main_v140, val_main_v139, val_main_v138, val_main_v137, val_main_v136, val_main_v135, val_main_v134, val_main_v133, val_main_v132, val_main_v131, val_main_v130, val_main_v129, val_main_v128, val_main_v127, val_main_v126, val_main_v125, val_main_v124, val_main_v123, val_main_cst_26, val_main_v122]
  simp only [Finset.sum_range_succ, Finset.sum_range_zero, zero_add]
  iterate 15 refine congrArg₂ HAdd.hAdd ?_ (pad16 x0 b p c _ _ (by dsimp only <;> omega))
  exact pad16 x0 b p c _ _ (by dsimp only <;> omega)

theorem mean16 : val_main_v157 (F := Ideal) x0 (ix3 b p c) = Ideal.div (∑ m ∈ Finset.range 16, back x0 b p c 3 m) ((min (p.val + 1) 16 : ℕ) : ℝ) := by
  rw [← sum16, ← cnt16]
  pointwise [val_main_v157, val_main_v156, val_main_v155]

variable (x1 : (⟨S1x4x256x256, .f32⟩ : BufTy).Contents (Elt Ideal)) (x2 : (⟨S1x1024, .f32⟩ : BufTy).Contents (Elt Ideal))

theorem ref_mean (g : Fin 4) : val_main_v163 (F := Ideal) x0 (ix4 b p g c)
    = Ideal.div (∑ m ∈ Finset.range (win g), back x0 b p c g m) ((min (p.val + 1) (win g) : ℕ) : ℝ) - back x0 b p c g 0 := by
  pointwise [val_main_v163, val_main_v162, val_main_v161, val_main_v160, val_main_v159, val_main_v158, val_main_v28, val_main_v21, val_main_v1, val_main_v0]
  rw [mean2, mean4, mean8, mean16, back_at x0 b p c g 0 _ _ (by omega) (by dsimp only; omega) (by dsimp only; omega)]
  congr 1
  match g with
  | 0 => rfl
  | 1 => rfl
  | 2 => rfl
  | 3 => rfl

theorem ref_weights (g : Fin 4) (k d : Fin 256) : val_main_v26 (F := Ideal) x1 (ix3 g k d) = x1 (ix4 0 g k d) := by
  pointwise [val_main_v26]

theorem ref_proj (g : Fin 4) (d : Fin 256) : val_main_v164 (F := Ideal) x0 x1 (ix4 g d b p)
    = ∑ k, val_main_v163 (F := Ideal) x0 (ix4 b p g k) * x1 (ix4 0 g k d) := by
  have hl : ∀ k, lidx_main_v164 (ix4 g d b p) k = ix3 g k d := fun k => (eq_ix3 _).trans rfl
  have hr : ∀ k, ridx_main_v164 (ix4 g d b p) k = ix4 b p g k := fun k => (eq_ix4 _).trans rfl
  rw [val_main_v164_apply]
  refine Finset.sum_congr rfl fun k _ => ?_
  rw [hl, hr, ref_weights, mul_comm]

/-- The window sum, as both programs share it. -/
theorem winS_eq (g : Fin 4) (w : ℕ) (n : Fin 16) (i : Fin 128) (hp : p.val = 128 * n.val + i.val) :
    ∑ m ∈ Finset.range w, back x0 b p c g m = Spec.winS (Zr x0) g w (16 * b.val + n.val) i c := by
  rw [Finset.sum_range]
  unfold Spec.winS back
  refine Finset.sum_congr rfl fun m _ => ?_
  have e : (⟨(2048 * b.val + p.val - m.val) % 16384, Nat.mod_lt _ (by decide)⟩ : Fin 16384)
      = ⟨(128 * (16 * b.val + n.val) + i.val - m.val) % 16384, Nat.mod_lt _ (by decide)⟩ := Fin.ext (by dsimp only; rw [hp]; congr 2; omega)
  rw [mod16, e, hp]

theorem ref_pool (n : Fin 16) (i : Fin 128) (hp : p.val = 128 * n.val + i.val) (g : Fin 4) (d : Fin 256) (x : Fin 1024) (hx : x.val = 256 * g.val + d.val) :
    val_main_v169 (F := Ideal) x0 x1 x2 (ix3 b p x)
    = Spec.poolT (Spec.winS (Zr x0) g (win g) (16 * b.val + n.val) i) ((min (128 * ((16 * b.val + n.val) % 16) + i.val + 1) (win g) : ℕ) : ℝ)
        (fun c => Zr x0 (Spec.row (16 * b.val + n.val) i) (zg g c)) (fun k d => x1 (ix4 0 g k d)) (fun d => x2 (ix2 0 (gc g d))) d := by
  pointwise [val_main_v169, val_main_v168, val_main_v167, val_main_v166, val_main_v165, val_main_v27]
  have hg : (⟨x.val / 256, by omega⟩ : Fin 4) = g := Fin.ext (by dsimp only; omega)
  have hd : (⟨x.val % 256, by omega⟩ : Fin 256) = d := Fin.ext (by dsimp only; omega)
  have hx' : x = gc g d := Fin.ext hx
  rw [hg, hd, ref_proj, hx', mod16, ← hp]
  unfold Spec.poolT
  congr 1
  refine Finset.sum_congr rfl fun k _ => ?_
  rw [ref_mean, winS_eq x0 b p k g _ n i hp, ← back_at x0 b p k g 0 (Spec.row (16 * b.val + n.val) i) (zg g k) (by omega) (by rw [Spec.row_val (by omega)]; omega) rfl]
  rfl

end Cert.Proof.Ref
-- ==== Proof.RefOut.lean ====
/- The reference's result at a row and a column is the mixer both programs share. -/
module

public import proofs.«01_k».proof.Proof.RefNorm
public import proofs.«01_k».proof.Proof.RefPool

@[expose] public section

set_option maxRecDepth 16384
noncomputable section
namespace Cert.Proof.Ref
open Cert.ReferenceIdeal Cert.ReferenceIdeal.Gen Cert.ReferenceIdeal.Read Idealize.ShloMosaic Idealize.ShloMosaic.TcCoe Idealize.SL.Sem Idealize.ShloMosaic.StableHlo

theorem ref_out (x0 : (⟨S16384x5120, .bf16⟩ : BufTy).Contents (Elt Ideal)) (x1 : (⟨S1x4x256x256, .f32⟩ : BufTy).Contents (Elt Ideal))
    (x2 x3 : (⟨S1x1024, .f32⟩ : BufTy).Contents (Elt Ideal)) (r : Fin 16384) (j : Fin 2048) :
    val_main_v415 (F := Ideal) x0 x1 x2 x3 (ix2 r j)
      = Spec.mixer (Zr x0) (fun g x y => x1 (ix4 0 g x y)) (fun x => x2 (ix2 0 x)) (fun x => x3 (ix2 0 x)) (r.val / 128) ⟨r.val % 128, Nat.mod_lt _ (by decide)⟩ j := by
  pointwise [val_main_v415, val_main_v414, val_main_v413]
  have ht : r.val / 128 = 16 * (⟨r.val / 2048, by omega⟩ : Fin 8).val + (⟨r.val / 128 % 16, by omega⟩ : Fin 16).val := by dsimp only; omega
  rw [ht]
  unfold Spec.mixer Spec.outT
  by_cases h : j.val < 1024
  · rw [dif_pos h, dif_pos h]
    exact ref_pool x0 _ _ x1 x2 _ _ (by dsimp only; omega) _ _ _ (by dsimp only; omega)
  · rw [dif_neg h, dif_neg h]
    exact ref_headT x0 x3 _ _ _ _ _ _ (by dsimp only; omega) _ (by dsimp only; omega)

end Cert.Proof.Ref
-- ==== Proof.Ffn.Spec.lean ====
/- The gated feed-forward layer with its causal convolution, as a function of row and column over the extended reals. -/
module

public import Idealize.ShloMosaic.Lib.Pipeline.ValueKit

@[expose] public section

noncomputable section
namespace Cert.Proof.Ffn
open Idealize.ShloMosaic

/-- A row's root-mean-square norm times its weights. -/
def rms (h nw : Fin 2048 → EReal) (k : Fin 2048) : EReal :=
  h k * Ideal.rsqrt (Ideal.div (∑ k, h k * h k) (Ideal.ofBits .f32 0x45000000#32) + Ideal.ofBits .f32 0x358637BD#32) * nw k

/-- The value `s` rows before `r` in its sequence of 2048 rows, zero before the first. -/
def sh (U : Fin 16384 → EReal) (s : ℕ) (r : Fin 16384) : EReal := if s ≤ r.val % 2048 then U ⟨r.val - s, by omega⟩ else 0

/-- A column's causal convolution of width three at row `r`. -/
def conv (U : Fin 16384 → EReal) (w : Fin 3 → EReal) (b : EReal) (r : Fin 16384) : EReal :=
  b + w 2 * U r + w 1 * sh U 1 r + w 0 * sh U 2 r

def silu (g : EReal) : EReal := Ideal.div g (1 + Ideal.exp (0 - g))

/-- A column's projection. -/
def up (C : Fin 16384 → Fin 2048 → EReal) (w : Fin 2048 → EReal) (r : Fin 16384) : EReal := ∑ k, C r k * w k

/-- One hidden unit at row `r`: the gate's convolved projection through the gate function, times the value's. -/
def act (C : Fin 16384 → Fin 2048 → EReal) (wg wv : Fin 2048 → EReal) (cg cv : Fin 3 → EReal) (bg bv : EReal) (r : Fin 16384) : EReal :=
  silu (conv (up C wg) cg bg r) * conv (up C wv) cv bv r

/-- The layer's output at row `r` and column `d`: the residual and the hidden units' projection. -/
def out (H : Fin 16384 → Fin 2048 → EReal) (nw : Fin 2048 → EReal) (W : Fin 2048 → Fin 11008 → EReal) (cw : Fin 3 → Fin 11008 → EReal)
    (cb : Fin 11008 → EReal) (Wd : Fin 5504 → Fin 2048 → EReal) (r : Fin 16384) (d : Fin 2048) : EReal :=
  H r d + ∑ f : Fin 5504, act (fun r => rms (H r) nw) (fun k => W k ⟨f.val, by omega⟩) (fun k => W k ⟨5504 + f.val, by omega⟩)
    (fun s => cw s ⟨f.val, by omega⟩) (fun s => cw s ⟨5504 + f.val, by omega⟩) (cb ⟨f.val, by omega⟩) (cb ⟨5504 + f.val, by omega⟩) r * Wd f d

/-- A sum over blocks of 512 is the sum over all. -/
theorem sum_blocks (F : ℕ → EReal) : ∀ n : ℕ, ∑ j ∈ Finset.range n, ∑ q : Fin 512, F (512 * j + q.val) = ∑ x ∈ Finset.range (512 * n), F x
  | 0 => rfl
  | n + 1 => by
    rw [Finset.sum_range_succ, sum_blocks F n, Nat.mul_succ, Finset.sum_range_add, Finset.sum_range (fun x => F (512 * n + x))]

/-- Units whose projection is zero drop out of the sum. -/
theorem sum_pad (F : ℕ → EReal) (h : ∀ x, 5504 ≤ x → x < 5632 → F x = 0) : ∑ x ∈ Finset.range 5632, F x = ∑ f : Fin 5504, F f.val := by
  rw [show (5632 : ℕ) = 5504 + 128 from rfl, Finset.sum_range_add, ← Finset.sum_range]
  rw [Finset.sum_eq_zero (s := Finset.range 128) fun x hx => h _ (Nat.le_add_right _ _) (by have := Finset.mem_range.mp hx; omega), add_zero]

end Cert.Proof.Ffn
-- ==== Proof.Ffn.Body.lean ====
/- The body's vector operations on one block of rows and one block of hidden columns, each read at an index. -/
module

public import proofs.«01_k».proof.Proof.Ffn.Spec
public import proofs.«01_k».proof.Proof.Gen.Kernel2Ideal.Skeleton

@[expose] public section

set_option maxRecDepth 16384
noncomputable section
namespace Cert.Proof.Ffn
open Cert.Kernel2Ideal Cert.Kernel2Ideal.Gen Idealize.ShloMosaic

/-- The value `s` rows up in a block, from the eight rows before the block where there is none. -/
def shB (U : Fin 512 → EReal) (hal : Fin 8 → EReal) (s : ℕ) (p : Fin 512) : EReal :=
  if p.val < s then hal ⟨(p.val + 8 - s) % 8, Nat.mod_lt _ (by decide)⟩ else U ⟨p.val - s, by omega⟩

/-- A column's convolution in a block. -/
def convB (U : Fin 512 → EReal) (hal : Fin 8 → EReal) (w : Fin 3 → EReal) (b : EReal) (p : Fin 512) : EReal :=
  b + w 2 * U p + w 1 * shB U hal 1 p + w 0 * shB U hal 2 p

theorem norm_apply (h : Vec Ideal S128x2048 .f32) (w : Vec Ideal S1x2048 .f32) (p : Fin 128) (k : Fin 2048) :
    k0_pay5 h w (ix2 p k) = rms (fun k => h (ix2 p k)) (fun k => w (ix2 0 k)) k := by
  pointwise [k0_pay5]
  rfl

theorem upg_apply (c : Vec Ideal S512x2048 .bf16) (w : Vec Ideal S2048x512 .bf16) (p q : Fin 512) :
    k0_pay6 c w (ix2 p q) = ∑ k, c (ix2 p k) * w (ix2 k q) := by
  pointwise [k0_pay6]

theorem upv_apply (c : Vec Ideal S512x2048 .bf16) (w : Vec Ideal S2048x512 .bf16) (p q : Fin 512) :
    k0_pay7 c w (ix2 p q) = ∑ k, c (ix2 p k) * w (ix2 k q) := by
  pointwise [k0_pay7]

/-- A select on a small row count, as a condition on the row. -/
theorem select_row (p n : ℕ) (hp : p < 2 ^ 31) (hn : n < 2 ^ 31) (a b : EReal) :
    Scalar.select (IntOp.cmpi CmpIPredicate.slt (BitVec.ofNat 32 p) (BitVec.ofNat 32 n)) a b = if p < n then a else b := by
  have h : (BitVec.ofNat 32 p).slt (BitVec.ofNat 32 n) = decide (p < n) := by
    rw [BitVec.slt_eq_decide, BitVec.toInt_eq_toNat_of_lt (by rw [BitVec.toNat_ofNat]; omega), BitVec.toInt_eq_toNat_of_lt (by rw [BitVec.toNat_ofNat]; omega)]
    rw [BitVec.toNat_ofNat, BitVec.toNat_ofNat, Nat.mod_eq_of_lt (by omega), Nat.mod_eq_of_lt (by omega)]
    simp
  unfold Scalar.select IntOp.cmpi
  by_cases hc : p < n <;> simp [h, hc]

/-- The rotated block with its head rows replaced from the eight before it. -/
theorem shB_cases (U : Fin 512 → EReal) (hal : Fin 8 → EReal) (s : ℕ) (hs : s ≤ 8) (p : Fin 512) (a b : p.val < 8 → EReal) (c : ¬p.val < 8 → EReal)
    (ha : ∀ h, a h = hal ⟨(p.val + 8 - s) % 8, Nat.mod_lt _ (by decide)⟩)
    (hb : ∀ h, b h = U ⟨(p.val + 512 - s) % 512, Nat.mod_lt _ (by decide)⟩)
    (hc : ∀ h, c h = U ⟨(8 + (p.val - 8) + 512 - s) % 512, Nat.mod_lt _ (by decide)⟩) :
    (if h : p.val < 8 then Scalar.select (IntOp.cmpi CmpIPredicate.slt (BitVec.ofNat 32 p.val) (BitVec.ofNat 32 s)) (a h) (b h) else c h) = shB U hal s p := by
  unfold shB
  by_cases h8 : p.val < 8
  · rw [dif_pos h8, select_row _ s (by omega) (by omega)]
    by_cases h : p.val < s
    · rw [if_pos h, if_pos h, ha]
    · rw [if_neg h, if_neg h, hb]
      exact congrArg U (Fin.ext (show (p.val + 512 - s) % 512 = p.val - s by omega))
  · rw [dif_neg h8, if_neg (by omega), hc]
    exact congrArg U (Fin.ext (show (8 + (p.val - 8) + 512 - s) % 512 = p.val - s by omega))

theorem val_shift (U : FVec Ideal S512x512 .f32) (hal : Vec Ideal S1x8x512 .f32) (p q : Fin 512) :
    k0_pay16 U hal (ix2 p q) = shB (fun p => U (ix2 p q)) (fun x => hal (ix3 0 x q)) 1 p := by
  pointwise [k0_pay16, k0_pay14]
  exact shB_cases _ _ 1 (by decide) p _ _ _ (fun _ => rfl) (fun _ => rfl) fun _ => rfl

theorem gate_conv (c : Vec Ideal S512x2048 .bf16) (w : Vec Ideal S2048x512 .bf16) (hal : Vec Ideal S1x8x512 .f32)
    (b c2 c1 c0 : Vec Ideal S1x512 .f32) (p q : Fin 512) :
    k0_pay13 (k0_pay6 c w) (k0_pay8 hal) (iota .tc S8x512 32 [0] iota_S8x512_d0_w32) (k0_pay9 c w b c2) (k0_pay11 c w hal) (k0_pay12 c w) c1 c0 (ix2 p q)
      = convB (fun p => k0_pay6 c w (ix2 p q)) (fun x => hal (ix3 0 x q)) ![c0 (ix2 0 q), c1 (ix2 0 q), c2 (ix2 0 q)] (b (ix2 0 q)) p := by
  pointwise [k0_pay13, k0_pay11, k0_pay12, k0_pay10, k0_pay9, k0_pay8]
  exact congrArg₂ _ (congrArg₂ _ rfl (congrArg _ (shB_cases (fun p => k0_pay6 c w (ix2 p q)) (fun x => hal (ix3 0 x q)) 1 (by decide) p _ _ _ (fun _ => rfl) (fun _ => rfl) fun _ => rfl)))
    (congrArg _ (shB_cases (fun p => k0_pay6 c w (ix2 p q)) (fun x => hal (ix3 0 x q)) 2 (by decide) p _ _ _ (fun _ => rfl) (fun _ => rfl) fun _ => rfl))

theorem val_conv (c : Vec Ideal S512x2048 .bf16) (w : Vec Ideal S2048x512 .bf16) (hal : Vec Ideal S1x8x512 .f32) (b c2 c1 c0 : Vec Ideal S1x512 .f32) (p q : Fin 512) :
    k0_pay18 (k0_pay7 c w) (k0_pay14 hal) (iota .tc S8x512 32 [0] iota_S8x512_d0_w32) (k0_pay15 (k0_pay7 c w) b c2) (k0_pay16 (k0_pay7 c w) hal) (k0_pay17 c1) c0 (ix2 p q)
      = convB (fun p => k0_pay7 c w (ix2 p q)) (fun x => hal (ix3 0 x q)) ![c0 (ix2 0 q), c1 (ix2 0 q), c2 (ix2 0 q)] (b (ix2 0 q)) p := by
  have e := val_shift (k0_pay7 c w) hal p q
  revert e
  generalize k0_pay16 (k0_pay7 c w) hal = v
  intro e
  pointwise [k0_pay18, k0_pay17, k0_pay15, k0_pay14]
  exact congrArg₂ _ (congrArg₂ _ rfl (congrArg _ e))
    (congrArg _ (shB_cases (fun p => k0_pay7 c w (ix2 p q)) (fun x => hal (ix3 0 x q)) 2 (by decide) p _ _ _ (fun _ => rfl) (fun _ => rfl) fun _ => rfl))

theorem res_apply (g v : FVec Ideal S512x512 .f32) (o : Vec Ideal S512x2048 .f32) (w : Vec Ideal S512x2048 .bf16) (p : Fin 512) (d : Fin 2048) :
    k0_pay2 g v o w (ix2 p d) = o (ix2 p d) + ∑ q : Fin 512, silu (g (ix2 p q)) * v (ix2 p q) * w (ix2 q d) := by
  pointwise [k0_pay2]
  rfl

/-- The next block's sequence does not start anew. -/
def keeps (i : ℕ) : Prop := (i + 1) % 4 ≠ 0

instance (i : ℕ) : Decidable (keeps i) := inferInstanceAs (Decidable (_ ≠ _))

/-- The body's test of it, on words. -/
def word (a : BitVec 32) : BitVec 1 :=
  let d := Scalar.select (Scalar.cmpi .eq 4#32 0#32) 1#32 4#32
  let r := Scalar.remsi (Scalar.addi a 1#32) d
  Scalar.cmpi .ne (Scalar.select (Scalar.andi (Scalar.xori (Scalar.cmpi .slt r 0#32) (Scalar.cmpi .slt d 0#32)) (Scalar.cmpi .ne r 0#32)) (Scalar.addi r d) r) 0#32

theorem word_eq : ∀ i : Fin 32, word (BitVec.ofNat 32 i.val) = if keeps i.val then 1#1 else 0#1 := by decide +kernel

theorem select_word (i : Fin 32) (a : EReal) : Scalar.select (word (BitVec.ofNat 32 i.val)) a 0 = if keeps i.val then a else 0 := by
  rw [word_eq]
  by_cases h : keeps i.val
  · rw [if_pos h, if_pos h]
    rfl
  · rw [if_neg h, if_neg h]
    rfl

theorem next_g (i : Fin 32) (U : FVec Ideal S512x512 .f32) (x : Fin 8) (q : Fin 512) :
    k0_pay19 (BitVec.ofNat 32 i.val) U (ix3 0 x q) = if keeps i.val then U (ix2 ⟨504 + x.val, by omega⟩ q) else 0 := by
  pointwise [k0_pay19]
  exact select_word i _

theorem next_v (i : Fin 32) (U : FVec Ideal S512x512 .f32) (x : Fin 8) (q : Fin 512) :
    k0_pay1 (k0_pay20 (BitVec.ofNat 32 i.val) U) (ix3 0 x q) = if keeps i.val then U (ix2 ⟨504 + x.val, by omega⟩ q) else 0 := by
  pointwise [k0_pay1, k0_pay20]
  exact select_word i _

end Cert.Proof.Ffn
-- ==== Proof.Ffn.Loop.lean ====
/- What the body's four trips over a block's rows leave: the block itself and its rows' norm. -/
module

public import proofs.«01_k».proof.Proof.Ffn.Body
public import proofs.«01_k».proof.Proof.Gen.Kernel2Ideal.Value
public import Idealize.ShloMosaic.Lib.Pipeline.ReadBack
public import Idealize.ShloMosaic.Lib.WritesUnit
public import Idealize.ShloMosaic.Lib.WholeRead

@[expose] public section

set_option maxRecDepth 16384
noncomputable section
namespace Cert.Proof.Ffn
open Cert.Kernel2Ideal Cert.Kernel2Ideal.Gen Idealize.ShloMosaic Idealize.ShloMosaic.TcCoe Idealize.SL.Sem

variable (vs : Variants) (c : Dev nD) (bd : Option vs.V) (i : grid0.Coords)
  (m2 : Memref sig .tc .vmem S512x2048 .f32) (w2 : m2.IsWhole) (m3 : Memref sig .tc .vmem S1x2048 .f32) (w3 : m3.IsWhole)
  (m4 : Memref sig .tc .vmem S2048x512 .bf16) (w4 : m4.IsWhole) (m5 : Memref sig .tc .vmem S2048x512 .bf16) (w5 : m5.IsWhole)
  (m6 : Memref sig .tc .vmem S3x512 .f32) (w6 : m6.IsWhole) (m7 : Memref sig .tc .vmem S3x512 .f32) (w7 : m7.IsWhole)
  (m8 : Memref sig .tc .vmem S1x512 .f32) (w8 : m8.IsWhole) (m9 : Memref sig .tc .vmem S1x512 .f32) (w9 : m9.IsWhole)
  (m10 : Memref sig .tc .vmem S512x2048 .bf16) (w10 : m10.IsWhole) (m11 : Memref sig .tc .vmem S512x2048 .f32) (w11 : m11.IsWhole)
  (m12 : Memref sig .tc .vmem S512x2048 .bf16) (w12 : m12.IsWhole) (m13 : Memref sig .tc .vmem S11x8x512 .f32) (w13 : m13.IsWhole)
  (m14 : Memref sig .tc .vmem S11x8x512 .f32) (w14 : m14.IsWhole) (hh : k0_cond2 i = 1#1)

/-- The block's rows' norm. -/
def normB (x : Vec Ideal S512x2048 .f32) (w : Vec Ideal S1x2048 .f32) : Vec Ideal S512x2048 .bf16 :=
  fun y => rms (fun k => x (ix2 (y (0 : Fin 2)) k)) (fun k => w (ix2 (0 : Fin 1) k)) (y (1 : Fin 2))

/-- The first trips' rows of the norm. -/
theorem loop_c (x : Vec Ideal S512x2048 .f32) (w : Vec Ideal S1x2048 .f32) (y : S512x2048.Idx) : ∀ n : ℕ, n ≤ 4 → (y (0 : Fin 2)).val < 128 * n →
    View.canon (pb_k0_t1 (F := Ideal) vs c bd i m2 w2 m3 w3 m4 w4 m5 w5 m6 w6 m7 w7 m8 w8 m9 w9 m10 w10 m11 w11 m12 w12 m13 w13 m14 w14 hh (w2.unread x) (w3.unread w) n).2 y
      = normB x w y
  | 0, _, h => absurd h (by omega)
  | n + 1, hn, h => by
    have hk : n < k0_t1_loop.trips := lt_of_lt_of_le (show n < 4 by omega) (by decide)
    rw [pb_k0_t1_succ vs c bd i m2 w2 m3 w3 m4 w4 m5 w5 m6 w6 m7 w7 m8 w8 m9 w9 m10 w10 m11 w11 m12 w12 m13 w13 m14 w14 hh (w2.unread x) (w3.unread w) ⟨n, hk⟩]
    have ih := loop_c x w y n (by omega)
    revert ih
    generalize pb_k0_t1 (F := Ideal) vs c bd i m2 w2 m3 w3 m4 w4 m5 w5 m6 w6 m7 w7 m8 w8 m9 w9 m10 w10 m11 w11 m12 w12 m13 w13 m14 w14 hh (w2.unread x) (w3.unread w) n = L
    intro ih
    unfold tripL_k0_t1 trip_k0_t1
    dsimp only
    rw [← View.read_writes_junk_eq_canon (View.whole cc0_scratch0)] at ih ⊢
    by_cases hy : (y (0 : Fin 2)).val < 128 * n
    · exact (View.read_writes_cons_rows_of_not_mem (d := ![512, 2048]) (o := 128 * n) (W := 128) (View.whole cc0_scratch0) _ _ _ L.2 y (k0_off1_eq ⟨n, hk⟩) rfl (.inl hy)).trans (ih hy)
    · refine (View.read_writes_cons_rows_of_mem (d := ![512, 2048]) (o := 128 * n) (View.whole cc0_scratch0) _ _ _ L.2 y (ix2 (⟨(y (0 : Fin 2)).val - 128 * n, by omega⟩ : Fin 128) (y (1 : Fin 2))) (k0_off1_eq ⟨n, hk⟩) ?_ rfl).trans ?_
      · show (y (0 : Fin 2)).val = 128 * n + ((y (0 : Fin 2)).val - 128 * n); omega
      · refine (norm_apply _ _ _ _).trans (congrArg₂ (fun a b => rms a b (y (1 : Fin 2))) (funext fun k => ?_) (funext fun k => ?_))
        · refine (w2.readAt_unread x _ _).trans (congrArg x (funext fun a => Fin.ext ?_))
          have e := k0_off1_eq ⟨n, hk⟩
          fin_cases a
          · show k0_off1 ⟨n, hk⟩ 0 + 1 * ((y (0 : Fin 2)).val - 128 * n) = (y (0 : Fin 2)).val
            rw [e]
            show 128 * n + 1 * ((y (0 : Fin 2)).val - 128 * n) = (y (0 : Fin 2)).val
            omega
          · show k0_off1 ⟨n, hk⟩ 1 + 1 * k.val = k.val
            rw [e]
            show 0 + 1 * k.val = k.val
            omega
        · refine (w3.readAt_unread w _ _).trans (congrArg w (funext fun a => Fin.ext ?_))
          fin_cases a
          · rfl
          · show 0 + 1 * k.val = k.val
            omega

/-- The first trips' rows of the block. -/
theorem loop_o (x : Vec Ideal S512x2048 .f32) (X : BufTy.Contents (Elt Ideal) m3.view.ty) (y : S512x2048.Idx) : ∀ n : ℕ, n ≤ 4 → (y (0 : Fin 2)).val < 128 * n →
    View.canon (pb_k0_t1 (F := Ideal) vs c bd i m2 w2 m3 w3 m4 w4 m5 w5 m6 w6 m7 w7 m8 w8 m9 w9 m10 w10 m11 w11 m12 w12 m13 w13 m14 w14 hh (w2.unread x) X n).1 y
      = x y
  | 0, _, h => absurd h (by omega)
  | n + 1, hn, h => by
    have hk : n < k0_t1_loop.trips := lt_of_lt_of_le (show n < 4 by omega) (by decide)
    rw [pb_k0_t1_succ vs c bd i m2 w2 m3 w3 m4 w4 m5 w5 m6 w6 m7 w7 m8 w8 m9 w9 m10 w10 m11 w11 m12 w12 m13 w13 m14 w14 hh (w2.unread x) X ⟨n, hk⟩]
    have ih := loop_o x X y n (by omega)
    revert ih
    generalize pb_k0_t1 (F := Ideal) vs c bd i m2 w2 m3 w3 m4 w4 m5 w5 m6 w6 m7 w7 m8 w8 m9 w9 m10 w10 m11 w11 m12 w12 m13 w13 m14 w14 hh (w2.unread x) X n = L
    intro ih
    unfold tripL_k0_t1 trip_k0_t1
    dsimp only
    rw [← View.read_writes_junk_eq_canon VO0_9] at ih ⊢
    by_cases hy : (y (0 : Fin 2)).val < 128 * n
    · exact (View.read_writes_cons_rows_of_not_mem (d := ![512, 2048]) (o := 128 * n) (W := 128) VO0_9 _ _ _ L.1 y (k0_off1_eq ⟨n, hk⟩) rfl (.inl hy)).trans (ih hy)
    · refine (View.read_writes_cons_rows_of_mem (d := ![512, 2048]) (o := 128 * n) VO0_9 _ _ _ L.1 y (ix2 (⟨(y (0 : Fin 2)).val - 128 * n, by omega⟩ : Fin 128) (y (1 : Fin 2))) (k0_off1_eq ⟨n, hk⟩) ?_ rfl).trans ?_
      · show (y (0 : Fin 2)).val = 128 * n + ((y (0 : Fin 2)).val - 128 * n); omega
      · refine (w2.readAt_unread x _ _).trans (congrArg x (funext fun a => Fin.ext ?_))
        have e := k0_off1_eq ⟨n, hk⟩
        fin_cases a
        · show k0_off1 ⟨n, hk⟩ 0 + 1 * ((y (0 : Fin 2)).val - 128 * n) = (y (0 : Fin 2)).val
          rw [e]
          show 128 * n + 1 * ((y (0 : Fin 2)).val - 128 * n) = (y (0 : Fin 2)).val
          omega
        · show k0_off1 ⟨n, hk⟩ 1 + 1 * (y (1 : Fin 2)).val = (y (1 : Fin 2)).val
          rw [e]
          show 0 + 1 * (y (1 : Fin 2)).val = (y (1 : Fin 2)).val
          omega

theorem trips4 : Scf.trips 0#32 (Scalar.addi 0#32 4#32) 1#32 = 4 := by decide

/-- The whole norm, read back after the trips. -/
theorem norm_read (x : Vec Ideal S512x2048 .f32) (w : Vec Ideal S1x2048 .f32) (ib) :
    (View.whole cc0_scratch0).readCov (Val := Elt Ideal) (s := S512x2048) (e := .bf16) (pb_k0_t1 (F := Ideal) vs c bd i m2 w2 m3 w3 m4 w4 m5 w5 m6 w6 m7 w7 m8 w8 m9 w9 m10 w10 m11 w11 m12 w12 m13 w13 m14 w14 hh (w2.unread x) (w3.unread w)
      (Scf.trips 0#32 (Scalar.addi 0#32 4#32) 1#32)).2 (Rect.unit ![0, 0] ![512, 2048] ib).toLoadRect = normB x w := by
  rw [trips4, View.readCov_eq_canon']
  funext j
  refine (loop_c vs c bd i m2 w2 m3 w3 m4 w4 m5 w5 m6 w6 m7 w7 m8 w8 m9 w9 m10 w10 m11 w11 m12 w12 m13 w13 m14 w14 hh x w _ 4 (le_refl _) (by exact Fin.isLt _)).trans (congrArg (normB x w) (funext fun a => Fin.ext ?_))
  fin_cases a
  · show 0 + 1 * (j (0 : Fin 2)).val = (j (0 : Fin 2)).val; omega
  · show 0 + 1 * (j (1 : Fin 2)).val = (j (1 : Fin 2)).val; omega

/-- The norm the trips leave. -/
theorem norm_left (x : Vec Ideal S512x2048 .f32) (w : Vec Ideal S1x2048 .f32) (y : S512x2048.Idx) :
    View.canon (pb_k0_t1 (F := Ideal) vs c bd i m2 w2 m3 w3 m4 w4 m5 w5 m6 w6 m7 w7 m8 w8 m9 w9 m10 w10 m11 w11 m12 w12 m13 w13 m14 w14 hh (w2.unread x) (w3.unread w)
      (Scf.trips 0#32 (Scalar.addi 0#32 4#32) 1#32)).2 y = normB x w y := by
  rw [trips4]
  exact loop_c vs c bd i m2 w2 m3 w3 m4 w4 m5 w5 m6 w6 m7 w7 m8 w8 m9 w9 m10 w10 m11 w11 m12 w12 m13 w13 m14 w14 hh x w y 4 (le_refl _) (y (0 : Fin 2)).isLt

/-- The whole block, read back after the trips. -/
theorem block_read (x : Vec Ideal S512x2048 .f32) (X : BufTy.Contents (Elt Ideal) m3.view.ty) (ib) :
    m11.view.readCov (Val := Elt Ideal) (s := S512x2048) (e := .f32) (pb_k0_t1 (F := Ideal) vs c bd i m2 w2 m3 w3 m4 w4 m5 w5 m6 w6 m7 w7 m8 w8 m9 w9 m10 w10 m11 w11 m12 w12 m13 w13 m14 w14 hh (w2.unread x) X
      (Scf.trips 0#32 (Scalar.addi 0#32 4#32) 1#32)).1 (Rect.unit ![0, 0] ![512, 2048] ib).toLoadRect = x := by
  rw [trips4, View.readCov_eq_canon']
  funext j
  refine (loop_o vs c bd i m2 w2 m3 w3 m4 w4 m5 w5 m6 w6 m7 w7 m8 w8 m9 w9 m10 w10 m11 w11 m12 w12 m13 w13 m14 w14 hh x X _ 4 (le_refl _) (by exact Fin.isLt _)).trans (congrArg x (funext fun a => Fin.ext ?_))
  fin_cases a
  · show 0 + 1 * (j (0 : Fin 2)).val = (j (0 : Fin 2)).val; omega
  · show 0 + 1 * (j (1 : Fin 2)).val = (j (1 : Fin 2)).val; omega

end Cert.Proof.Ffn
-- ==== Proof.Ffn.Points.lean ====
/- What the body leaves at each grid point, as functions of the point's input blocks and of what the point before left. -/
module

public import proofs.«01_k».proof.Proof.Ffn.Loop

@[expose] public section

set_option maxRecDepth 16384
noncomputable section
namespace Cert.Proof.Ffn
open Cert.Kernel2Ideal Cert.Kernel2Ideal.Gen Idealize.ShloMosaic Idealize.ShloMosaic.TcCoe Idealize.SL.Sem

section
variable {α : Type}
/-- A load of one slot of a rank-3 buffer. -/
theorem ld_slot {k m n : ℕ} {off : Fin 3 → ℕ} (o : Fin k) (X : (⟨3, ![k, m, n]⟩ : Shape).Idx → α) (inb) (hoff : off = ![o.val, 0, 0]) (i : Fin m) (d : Fin n) :
    View.ld (e' := .f32) (Val := fun _ => α) X (Rect.unit (s := ⟨3, ![k, m, n]⟩) off ![1, m, n] inb) (ix3 (0 : Fin 1) i d) = X (ix3 o i d) := by
  subst hoff
  refine congrArg X (funext fun x => Fin.ext ?_)
  fin_cases x
  · show o.val + 1 * 0 = o.val; omega
  · show 0 + 1 * i.val = i.val; omega
  · show 0 + 1 * d.val = d.val; omega

/-- A load of one row of a rank-2 buffer. -/
theorem ld_row {m n : ℕ} (o : Fin m) (X : (⟨2, ![m, n]⟩ : Shape).Idx → α) (inb) (d : Fin n) :
    View.ld (e' := .f32) (Val := fun _ => α) X (Rect.unit (s := ⟨2, ![m, n]⟩) ![o.val, 0] ![1, n] inb) (ix2 (0 : Fin 1) d) = X (ix2 o d) := by
  refine congrArg X (funext fun x => Fin.ext ?_)
  fin_cases x
  · show o.val + 1 * 0 = o.val; omega
  · show 0 + 1 * d.val = d.val; omega
end

/-- A block's projection on a column. -/
def upB (C : Vec Ideal S512x2048 .bf16) (w : Vec Ideal S2048x512 .bf16) (p q : Fin 512) : EReal := ∑ k, C (ix2 p k) * w (ix2 k q)

/-- A block's convolved projection. -/
def cvB (C : Vec Ideal S512x2048 .bf16) (w : Vec Ideal S2048x512 .bf16) (hal : Vec Ideal S11x8x512 .f32) (cw : Vec Ideal S3x512 .f32) (cb : Vec Ideal S1x512 .f32)
    (j : Fin 11) (p q : Fin 512) : EReal :=
  convB (fun p => upB C w p q) (fun x => hal (ix3 j x q)) (fun s => cw (ix2 s q)) (cb (ix2 (0 : Fin 1) q)) p

/-- A block's output after one tile of hidden columns. -/
def outB (C : Vec Ideal S512x2048 .bf16) (o : Vec Ideal S512x2048 .f32) (hg hv : Vec Ideal S11x8x512 .f32) (b2 b3 : Vec Ideal S2048x512 .bf16)
    (b4 b5 : Vec Ideal S3x512 .f32) (b6 b7 : Vec Ideal S1x512 .f32) (b8 : Vec Ideal S512x2048 .bf16) (j : Fin 11) (p : Fin 512) (d : Fin 2048) : EReal :=
  o (ix2 p d) + ∑ q : Fin 512, silu (cvB C b2 hg b4 b6 j p q) * cvB C b3 hv b5 b7 j p q * b8 (ix2 q d)

/-- The carried rows after one tile: the tile's slot takes the block's last eight rows, or zero at a sequence's end. -/
def keepB (C : Vec Ideal S512x2048 .bf16) (b : Vec Ideal S2048x512 .bf16) (hal : Vec Ideal S11x8x512 .f32) (i : Fin 32) (j j' : Fin 11) (x : Fin 8) (q : Fin 512) : EReal :=
  if j'.val = j.val then (if keeps i.val then upB C b ⟨504 + x.val, by omega⟩ q else 0) else hal (ix3 j' x q)

theorem fin3_vec (cw : Vec Ideal S3x512 .f32) (q : Fin 512) (a0 a1 a2 : EReal) (h0 : a0 = cw (ix2 (0 : Fin 3) q)) (h1 : a1 = cw (ix2 (1 : Fin 3) q)) (h2 : a2 = cw (ix2 (2 : Fin 3) q)) :
    ![a0, a1, a2] = fun s => cw (ix2 s q) := by
  subst h0 h1 h2
  funext s
  fin_cases s <;> rfl

theorem convB_congr {U U' : Fin 512 → EReal} {h h' : Fin 8 → EReal} {w w' : Fin 3 → EReal} (b : EReal) (p : Fin 512) (hU : ∀ p, U p = U' p) (hh : ∀ x, h x = h' x)
    (hw : w = w') : convB U h w b p = convB U' h' w' b p := by
  rw [funext hU, funext hh, hw]

/-- The gate's payload. -/
theorem gate_val (C : Vec Ideal S512x2048 .bf16) (w : Vec Ideal S2048x512 .bf16) (hal : Vec Ideal S11x8x512 .f32) (cw : Vec Ideal S3x512 .f32) (cb : Vec Ideal S1x512 .f32)
    (j : Fin 11) {off : Fin 3 → ℕ} (hoff : off = ![j.val, 0, 0]) (inb i2 i1 i0) (p q : Fin 512) :
    k0_pay13 (k0_pay6 C w) (k0_pay8 (View.ld hal (Rect.unit off ![1, 8, 512] inb))) (iota .tc S8x512 32 [0] iota_S8x512_d0_w32)
      (k0_pay9 C w cb (View.ld cw (Rect.unit ![2, 0] ![1, 512] i2))) (k0_pay11 C w (View.ld hal (Rect.unit off ![1, 8, 512] inb))) (k0_pay12 C w)
      (View.ld cw (Rect.unit ![1, 0] ![1, 512] i1)) (View.ld cw (Rect.unit ![0, 0] ![1, 512] i0)) (ix2 p q) = cvB C w hal cw cb j p q := by
  exact (gate_conv _ _ _ _ _ _ _ p q).trans (convB_congr _ p (fun p => upg_apply C w p q) (fun x => ld_slot j hal inb hoff x q)
    (fin3_vec cw q _ _ _ (ld_row (0 : Fin 3) cw i0 q) (ld_row (1 : Fin 3) cw i1 q) (ld_row (2 : Fin 3) cw i2 q)))

/-- The value's payload. -/
theorem value_val (C : Vec Ideal S512x2048 .bf16) (w : Vec Ideal S2048x512 .bf16) (hal : Vec Ideal S11x8x512 .f32) (cw : Vec Ideal S3x512 .f32) (cb : Vec Ideal S1x512 .f32)
    (j : Fin 11) {off : Fin 3 → ℕ} (hoff : off = ![j.val, 0, 0]) (inb i2 i1 i0) (p q : Fin 512) :
    k0_pay18 (k0_pay7 C w) (k0_pay14 (View.ld hal (Rect.unit off ![1, 8, 512] inb))) (iota .tc S8x512 32 [0] iota_S8x512_d0_w32)
      (k0_pay15 (k0_pay7 C w) cb (View.ld cw (Rect.unit ![2, 0] ![1, 512] i2))) (k0_pay16 (k0_pay7 C w) (View.ld hal (Rect.unit off ![1, 8, 512] inb)))
      (k0_pay17 (View.ld cw (Rect.unit ![1, 0] ![1, 512] i1))) (View.ld cw (Rect.unit ![0, 0] ![1, 512] i0)) (ix2 p q) = cvB C w hal cw cb j p q := by
  exact (val_conv _ _ _ _ _ _ _ p q).trans (convB_congr _ p (fun p => upv_apply C w p q) (fun x => ld_slot j hal inb hoff x q)
    (fin3_vec cw q _ _ _ (ld_row (0 : Fin 3) cw i0 q) (ld_row (1 : Fin 3) cw i1 q) (ld_row (2 : Fin 3) cw i2 q)))

/-- The stored output. -/
theorem out_val (C : Vec Ideal S512x2048 .bf16) (o : Vec Ideal S512x2048 .f32) (hg hv : Vec Ideal S11x8x512 .f32) (b2 b3 : Vec Ideal S2048x512 .bf16)
    (b4 b5 : Vec Ideal S3x512 .f32) (b6 b7 : Vec Ideal S1x512 .f32) (b8 : Vec Ideal S512x2048 .bf16) (j : Fin 11) {off : Fin 3 → ℕ} (hoff : off = ![j.val, 0, 0])
    (ia ib i2 i1 i0 k2 k1 k0) (y : S512x2048.Idx) :
    k0_pay2
      (k0_pay13 (k0_pay6 C b2) (k0_pay8 (View.ld hg (Rect.unit off ![1, 8, 512] ia))) (iota .tc S8x512 32 [0] iota_S8x512_d0_w32)
        (k0_pay9 C b2 b6 (View.ld b4 (Rect.unit ![2, 0] ![1, 512] i2))) (k0_pay11 C b2 (View.ld hg (Rect.unit off ![1, 8, 512] ia))) (k0_pay12 C b2)
        (View.ld b4 (Rect.unit ![1, 0] ![1, 512] i1)) (View.ld b4 (Rect.unit ![0, 0] ![1, 512] i0)))
      (k0_pay18 (k0_pay7 C b3) (k0_pay14 (View.ld hv (Rect.unit off ![1, 8, 512] ib))) (iota .tc S8x512 32 [0] iota_S8x512_d0_w32)
        (k0_pay15 (k0_pay7 C b3) b7 (View.ld b5 (Rect.unit ![2, 0] ![1, 512] k2))) (k0_pay16 (k0_pay7 C b3) (View.ld hv (Rect.unit off ![1, 8, 512] ib)))
        (k0_pay17 (View.ld b5 (Rect.unit ![1, 0] ![1, 512] k1))) (View.ld b5 (Rect.unit ![0, 0] ![1, 512] k0)))
      o b8 y = outB C o hg hv b2 b3 b4 b5 b6 b7 b8 j (y (0 : Fin 2)) (y (1 : Fin 2)) := by
  obtain ⟨p, d, rfl⟩ : ∃ (p : Fin 512) (d : Fin 2048), y = ix2 p d := ⟨_, _, eq_ix2 y⟩
  refine (res_apply _ _ _ _ _ _).trans ?_
  refine congrArg _ (Finset.sum_congr rfl fun q _ => ?_)
  rw [gate_val C b2 hg b4 b6 j hoff, value_val C b3 hv b5 b7 j hoff]
  rfl

/-- A slot of the carried rows, stored last. -/
theorem slot_cases (Z : Vec Ideal S1x8x512 .f32) (L : List (View.Piece (Elt Ideal) S11x8x512 .f32)) (v : View sig .tc .vmem S11x8x512 .f32) (f) (j : Fin 11)
    {off : Fin 3 → ℕ} (hoff : off = ![j.val, 0, 0]) (inb) (y : S11x8x512.Idx) :
    View.read (Elt Ideal) v (v.writes (Elt Ideal) f (⟨Rect.unit off ![1, 8, 512] inb, Z⟩ :: L)) y
      = if (y (0 : Fin 3)).val = j.val then Z (ix3 (0 : Fin 1) (y (1 : Fin 3)) (y (2 : Fin 3))) else View.read (Elt Ideal) v (v.writes (Elt Ideal) f L) y := by
  by_cases h : (y (0 : Fin 3)).val = j.val
  · rw [if_pos h]
    refine View.read_writes_cons_unit_of_mem v f inb Z L y (ix3 (0 : Fin 1) (y (1 : Fin 3)) (y (2 : Fin 3))) hoff fun a => ?_
    fin_cases a
    · show (y (0 : Fin 3)).val = j.val + 0; omega
    · show (y (1 : Fin 3)).val = 0 + (y (1 : Fin 3)).val; omega
    · show (y (2 : Fin 3)).val = 0 + (y (2 : Fin 3)).val; omega
  · rw [if_neg h]
    refine View.read_writes_cons_unit_of_not_mem v f inb Z L y hoff (0 : Fin 3) ?_
    show (y (0 : Fin 3)).val < j.val ∨ j.val + 1 ≤ (y (0 : Fin 3)).val
    omega

variable (m : (ℓ : Loc nD τ sig) → Buf (Elt Ideal) ℓ)

set_option maxHeartbeats 1000000 in
/-- The output block at a point that carries on. -/
theorem out_B (c : Dev nD) (t : Fin cfg0.N) (h0 : ¬ t.val % 352 = 0) (h1 : ¬ t.val % 11 = 0) (y : S512x2048.Idx) :
    (outsAt0 m c t.val t.isLt).1 y = outB (outsAt0 m c (t.val - 1) (Nat.lt_of_le_of_lt (Nat.sub_le _ _) t.isLt)).2.1 (outsAt0 m c (t.val - 1) (Nat.lt_of_le_of_lt (Nat.sub_le _ _) t.isLt)).1 (outsAt0 m c (t.val - 1) (Nat.lt_of_le_of_lt (Nat.sub_le _ _) t.isLt)).2.2.1 (outsAt0 m c (t.val - 1) (Nat.lt_of_le_of_lt (Nat.sub_le _ _) t.isLt)).2.2.2
      (iblk m c 2 t) (iblk m c 3 t) (iblk m c 4 t) (iblk m c 5 t) (iblk m c 6 t) (iblk m c 7 t) (iblk m c 8 t) ((grid0.coords t) 1) (y (0 : Fin 2)) (y (1 : Fin 2)) := by
  rw [outsAt0_B m c t h0 h1]
  dsimp only
  frame_open
  try simp (disch := decide) only [↓ View.readCov_skip, ↓ View.readCov_cons_toLoadRect, ↓ View.readCov_fill]
  frame_out
  simp only [read_unread_whole]
  exact out_val _ _ _ _ _ _ _ _ _ _ _ _ (k0_off2_eq (grid0.coords t)) _ _ _ _ _ _ _ _ y

/-- The norm at a point that carries on. -/
theorem nrm_B (c : Dev nD) (t : Fin cfg0.N) (h0 : ¬ t.val % 352 = 0) (h1 : ¬ t.val % 11 = 0) : (outsAt0 m c t.val t.isLt).2.1 = (outsAt0 m c (t.val - 1) (Nat.lt_of_le_of_lt (Nat.sub_le _ _) t.isLt)).2.1 := by
  rw [outsAt0_B m c t h0 h1]
  rfl

set_option maxHeartbeats 1000000 in
/-- The carried rows at a point that carries on. -/
theorem hg_B (c : Dev nD) (t : Fin cfg0.N) (h0 : ¬ t.val % 352 = 0) (h1 : ¬ t.val % 11 = 0) (y : S11x8x512.Idx) :
    (outsAt0 m c t.val t.isLt).2.2.1 y = keepB (outsAt0 m c (t.val - 1) (Nat.lt_of_le_of_lt (Nat.sub_le _ _) t.isLt)).2.1 (iblk m c 2 t) (outsAt0 m c (t.val - 1) (Nat.lt_of_le_of_lt (Nat.sub_le _ _) t.isLt)).2.2.1 ((grid0.coords t) 0) ((grid0.coords t) 1) (y (0 : Fin 3)) (y (1 : Fin 3)) (y (2 : Fin 3)) := by
  rw [outsAt0_B m c t h0 h1]
  dsimp only
  frame_open
  try simp (disch := decide) only [↓ View.readCov_skip, ↓ View.readCov_cons_toLoadRect, ↓ View.readCov_fill]
  frame_out
  refine (slot_cases _ _ _ _ ((grid0.coords t) 1) (k0_off2_eq (grid0.coords t)) _ y).trans ?_
  unfold keepB
  by_cases hj : (y (0 : Fin 3)).val = ((grid0.coords t) 1).val
  · rw [if_pos hj, if_pos hj]
    refine (next_g _ _ _ _).trans ?_
    by_cases hk : keeps ((grid0.coords t) 0).val
    · rw [if_pos hk, if_pos hk]
      refine (upg_apply _ _ _ _).trans ?_
      simp only [read_unread_whole]
      rfl
    · rw [if_neg hk, if_neg hk]
  · rw [if_neg hj, if_neg hj]
    exact (congrFun (read_unread_whole cc0_scratch1 _ _) y).trans (congrArg _ (eq_ix3 y))

set_option maxHeartbeats 1000000 in
/-- The carried rows at a point that carries on. -/
theorem hv_B (c : Dev nD) (t : Fin cfg0.N) (h0 : ¬ t.val % 352 = 0) (h1 : ¬ t.val % 11 = 0) (y : S11x8x512.Idx) :
    (outsAt0 m c t.val t.isLt).2.2.2 y = keepB (outsAt0 m c (t.val - 1) (Nat.lt_of_le_of_lt (Nat.sub_le _ _) t.isLt)).2.1 (iblk m c 3 t) (outsAt0 m c (t.val - 1) (Nat.lt_of_le_of_lt (Nat.sub_le _ _) t.isLt)).2.2.2 ((grid0.coords t) 0) ((grid0.coords t) 1) (y (0 : Fin 3)) (y (1 : Fin 3)) (y (2 : Fin 3)) := by
  rw [outsAt0_B m c t h0 h1]
  dsimp only
  frame_open
  try simp (disch := decide) only [↓ View.readCov_skip, ↓ View.readCov_cons_toLoadRect, ↓ View.readCov_fill]
  frame_out
  refine (slot_cases _ _ _ _ ((grid0.coords t) 1) (k0_off2_eq (grid0.coords t)) _ y).trans ?_
  unfold keepB
  by_cases hj : (y (0 : Fin 3)).val = ((grid0.coords t) 1).val
  · rw [if_pos hj, if_pos hj]
    refine (next_v _ _ _ _).trans ?_
    by_cases hk : keeps ((grid0.coords t) 0).val
    · rw [if_pos hk, if_pos hk]
      refine (upv_apply _ _ _ _).trans ?_
      simp only [read_unread_whole]
      rfl
    · rw [if_neg hk, if_neg hk]
  · rw [if_neg hj, if_neg hj]
    exact (congrFun (read_unread_whole cc0_scratch2 _ _) y).trans (congrArg _ (eq_ix3 y))

set_option maxHeartbeats 1000000 in
/-- The output block at a block's first point. -/
theorem out_C (c : Dev nD) (t : Fin cfg0.N) (h0 : ¬ t.val % 352 = 0) (h1 : t.val % 11 = 0) (y : S512x2048.Idx) :
    (outsAt0 m c t.val t.isLt).1 y = outB (normB (iblk m c 0 t) (iblk m c 1 t)) (iblk m c 0 t) (outsAt0 m c (t.val - 1) (Nat.lt_of_le_of_lt (Nat.sub_le _ _) t.isLt)).2.2.1 (outsAt0 m c (t.val - 1) (Nat.lt_of_le_of_lt (Nat.sub_le _ _) t.isLt)).2.2.2
      (iblk m c 2 t) (iblk m c 3 t) (iblk m c 4 t) (iblk m c 5 t) (iblk m c 6 t) (iblk m c 7 t) (iblk m c 8 t) ((grid0.coords t) 1) (y (0 : Fin 2)) (y (1 : Fin 2)) := by
  rw [outsAt0_C m c t h0 h1]
  dsimp only
  frame_open
  try simp (disch := decide) only [↓ View.readCov_skip, ↓ View.readCov_cons_toLoadRect, ↓ View.readCov_fill]
  frame_out
  simp only [read_unread_whole]
  simp only [norm_read, block_read]
  exact out_val _ _ _ _ _ _ _ _ _ _ _ _ (k0_off2_eq (grid0.coords t)) _ _ _ _ _ _ _ _ y

/-- The norm at a block's first point. -/
theorem nrm_C (c : Dev nD) (t : Fin cfg0.N) (h0 : ¬ t.val % 352 = 0) (h1 : t.val % 11 = 0) : (outsAt0 m c t.val t.isLt).2.1 = (normB (iblk m c 0 t) (iblk m c 1 t)) := by
  funext y
  rw [outsAt0_C m c t h0 h1]
  dsimp only
  frame_open
  try simp (disch := decide) only [↓ View.readCov_skip, ↓ View.readCov_cons_toLoadRect, ↓ View.readCov_fill]
  frame_out
  exact norm_left ..

set_option maxHeartbeats 1000000 in
/-- The carried rows at a block's first point. -/
theorem hg_C (c : Dev nD) (t : Fin cfg0.N) (h0 : ¬ t.val % 352 = 0) (h1 : t.val % 11 = 0) (y : S11x8x512.Idx) :
    (outsAt0 m c t.val t.isLt).2.2.1 y = keepB (normB (iblk m c 0 t) (iblk m c 1 t)) (iblk m c 2 t) (outsAt0 m c (t.val - 1) (Nat.lt_of_le_of_lt (Nat.sub_le _ _) t.isLt)).2.2.1 ((grid0.coords t) 0) ((grid0.coords t) 1) (y (0 : Fin 3)) (y (1 : Fin 3)) (y (2 : Fin 3)) := by
  rw [outsAt0_C m c t h0 h1]
  dsimp only
  frame_open
  try simp (disch := decide) only [↓ View.readCov_skip, ↓ View.readCov_cons_toLoadRect, ↓ View.readCov_fill]
  frame_out
  refine (slot_cases _ _ _ _ ((grid0.coords t) 1) (k0_off2_eq (grid0.coords t)) _ y).trans ?_
  unfold keepB
  by_cases hj : (y (0 : Fin 3)).val = ((grid0.coords t) 1).val
  · rw [if_pos hj, if_pos hj]
    refine (next_g _ _ _ _).trans ?_
    by_cases hk : keeps ((grid0.coords t) 0).val
    · rw [if_pos hk, if_pos hk]
      refine (upg_apply _ _ _ _).trans ?_
      rw [norm_read]
      rfl
    · rw [if_neg hk, if_neg hk]
  · rw [if_neg hj, if_neg hj]
    exact (congrFun (read_unread_whole cc0_scratch1 _ _) y).trans (congrArg _ (eq_ix3 y))

set_option maxHeartbeats 1000000 in
/-- The carried rows at a block's first point. -/
theorem hv_C (c : Dev nD) (t : Fin cfg0.N) (h0 : ¬ t.val % 352 = 0) (h1 : t.val % 11 = 0) (y : S11x8x512.Idx) :
    (outsAt0 m c t.val t.isLt).2.2.2 y = keepB (normB (iblk m c 0 t) (iblk m c 1 t)) (iblk m c 3 t) (outsAt0 m c (t.val - 1) (Nat.lt_of_le_of_lt (Nat.sub_le _ _) t.isLt)).2.2.2 ((grid0.coords t) 0) ((grid0.coords t) 1) (y (0 : Fin 3)) (y (1 : Fin 3)) (y (2 : Fin 3)) := by
  rw [outsAt0_C m c t h0 h1]
  dsimp only
  frame_open
  try simp (disch := decide) only [↓ View.readCov_skip, ↓ View.readCov_cons_toLoadRect, ↓ View.readCov_fill]
  frame_out
  refine (slot_cases _ _ _ _ ((grid0.coords t) 1) (k0_off2_eq (grid0.coords t)) _ y).trans ?_
  unfold keepB
  by_cases hj : (y (0 : Fin 3)).val = ((grid0.coords t) 1).val
  · rw [if_pos hj, if_pos hj]
    refine (next_v _ _ _ _).trans ?_
    by_cases hk : keeps ((grid0.coords t) 0).val
    · rw [if_pos hk, if_pos hk]
      refine (upv_apply _ _ _ _).trans ?_
      rw [norm_read]
      rfl
    · rw [if_neg hk, if_neg hk]
  · rw [if_neg hj, if_neg hj]
    exact (congrFun (read_unread_whole cc0_scratch2 _ _) y).trans (congrArg _ (eq_ix3 y))

set_option maxHeartbeats 1000000 in
/-- The output block at the first point. -/
theorem out_A (c : Dev nD) (t : Fin cfg0.N) (h0 : t.val % 352 = 0) (h1 : t.val % 11 = 0) (y : S512x2048.Idx) :
    (outsAt0 m c t.val t.isLt).1 y = outB (normB (iblk m c 0 t) (iblk m c 1 t)) (iblk m c 0 t) (k0_pay3 (F := Ideal)) (k0_pay4 (F := Ideal))
      (iblk m c 2 t) (iblk m c 3 t) (iblk m c 4 t) (iblk m c 5 t) (iblk m c 6 t) (iblk m c 7 t) (iblk m c 8 t) ((grid0.coords t) 1) (y (0 : Fin 2)) (y (1 : Fin 2)) := by
  rw [outsAt0_A m c t h0 h1]
  dsimp only
  frame_open
  try simp (disch := decide) only [↓ View.readCov_skip, ↓ View.readCov_cons_toLoadRect, ↓ View.readCov_fill]
  frame_out
  simp only [norm_read, block_read]
  exact out_val _ _ _ _ _ _ _ _ _ _ _ _ (k0_off2_eq (grid0.coords t)) _ _ _ _ _ _ _ _ y

/-- The norm at the first point. -/
theorem nrm_A (c : Dev nD) (t : Fin cfg0.N) (h0 : t.val % 352 = 0) (h1 : t.val % 11 = 0) : (outsAt0 m c t.val t.isLt).2.1 = (normB (iblk m c 0 t) (iblk m c 1 t)) := by
  funext y
  rw [outsAt0_A m c t h0 h1]
  dsimp only
  frame_open
  try simp (disch := decide) only [↓ View.readCov_skip, ↓ View.readCov_cons_toLoadRect, ↓ View.readCov_fill]
  frame_out
  exact norm_left ..

set_option maxHeartbeats 1000000 in
/-- The carried rows at the first point. -/
theorem hg_A (c : Dev nD) (t : Fin cfg0.N) (h0 : t.val % 352 = 0) (h1 : t.val % 11 = 0) (y : S11x8x512.Idx) :
    (outsAt0 m c t.val t.isLt).2.2.1 y = keepB (normB (iblk m c 0 t) (iblk m c 1 t)) (iblk m c 2 t) (k0_pay3 (F := Ideal)) ((grid0.coords t) 0) ((grid0.coords t) 1) (y (0 : Fin 3)) (y (1 : Fin 3)) (y (2 : Fin 3)) := by
  rw [outsAt0_A m c t h0 h1]
  dsimp only
  frame_open
  try simp (disch := decide) only [↓ View.readCov_skip, ↓ View.readCov_cons_toLoadRect, ↓ View.readCov_fill]
  frame_out
  rw [← View.read_writes_junk_eq_canon (View.whole cc0_scratch1)]
  refine (slot_cases _ _ _ _ ((grid0.coords t) 1) (k0_off2_eq (grid0.coords t)) _ y).trans ?_
  unfold keepB
  by_cases hj : (y (0 : Fin 3)).val = ((grid0.coords t) 1).val
  · rw [if_pos hj, if_pos hj]
    refine (next_g _ _ _ _).trans ?_
    by_cases hk : keeps ((grid0.coords t) 0).val
    · rw [if_pos hk, if_pos hk]
      refine (upg_apply _ _ _ _).trans ?_
      rw [norm_read]
      rfl
    · rw [if_neg hk, if_neg hk]
  · rw [if_neg hj, if_neg hj]
    refine (View.read_writes_cons_unit_of_mem (View.whole cc0_scratch1) _ _ _ [] y y rfl fun a => ?_).trans (congrArg _ (eq_ix3 y))
    fin_cases a
    · show (y (0 : Fin 3)).val = 0 + (y (0 : Fin 3)).val; omega
    · show (y (1 : Fin 3)).val = 0 + (y (1 : Fin 3)).val; omega
    · show (y (2 : Fin 3)).val = 0 + (y (2 : Fin 3)).val; omega

set_option maxHeartbeats 1000000 in
/-- The carried rows at the first point. -/
theorem hv_A (c : Dev nD) (t : Fin cfg0.N) (h0 : t.val % 352 = 0) (h1 : t.val % 11 = 0) (y : S11x8x512.Idx) :
    (outsAt0 m c t.val t.isLt).2.2.2 y = keepB (normB (iblk m c 0 t) (iblk m c 1 t)) (iblk m c 3 t) (k0_pay4 (F := Ideal)) ((grid0.coords t) 0) ((grid0.coords t) 1) (y (0 : Fin 3)) (y (1 : Fin 3)) (y (2 : Fin 3)) := by
  rw [outsAt0_A m c t h0 h1]
  dsimp only
  frame_open
  try simp (disch := decide) only [↓ View.readCov_skip, ↓ View.readCov_cons_toLoadRect, ↓ View.readCov_fill]
  frame_out
  rw [← View.read_writes_junk_eq_canon (View.whole cc0_scratch2)]
  refine (slot_cases _ _ _ _ ((grid0.coords t) 1) (k0_off2_eq (grid0.coords t)) _ y).trans ?_
  unfold keepB
  by_cases hj : (y (0 : Fin 3)).val = ((grid0.coords t) 1).val
  · rw [if_pos hj, if_pos hj]
    refine (next_v _ _ _ _).trans ?_
    by_cases hk : keeps ((grid0.coords t) 0).val
    · rw [if_pos hk, if_pos hk]
      refine (upv_apply _ _ _ _).trans ?_
      rw [norm_read]
      rfl
    · rw [if_neg hk, if_neg hk]
  · rw [if_neg hj, if_neg hj]
    refine (View.read_writes_cons_unit_of_mem (View.whole cc0_scratch2) _ _ _ [] y y rfl fun a => ?_).trans (congrArg _ (eq_ix3 y))
    fin_cases a
    · show (y (0 : Fin 3)).val = 0 + (y (0 : Fin 3)).val; omega
    · show (y (1 : Fin 3)).val = 0 + (y (1 : Fin 3)).val; omega
    · show (y (2 : Fin 3)).val = 0 + (y (2 : Fin 3)).val; omega

end Cert.Proof.Ffn
-- ==== Proof.Ffn.Tables.lean ====
/- The layer's prepared weights at an index: the two halves padded to a whole number of tiles. -/
module

public import proofs.«01_k».proof.Proof.Ffn.Spec
public import proofs.«01_k».proof.Proof.Gen.Kernel2Ideal.Value
public import Idealize.ShloMosaic.Lib.StableHlo.ReadAt

@[expose] public section

set_option maxRecDepth 65536
noncomputable section
namespace Cert.Proof.Ffn
open Cert.Kernel2Ideal Cert.Kernel2Ideal.Gen Idealize.ShloMosaic Idealize.ShloMosaic.TcCoe Idealize.SL.Sem

variable (m : (ℓ : Loc nD τ sig) → Buf (Elt Ideal) ℓ) (c : Dev nD)

/-- A padded column index of the value half, less the half's width. -/
theorem fin_sub {a n k : ℕ} (h : a + n - a < k) (h' : n < k) : (⟨a + n - a, h⟩ : Fin k) = ⟨n, h'⟩ := Fin.ext (Nat.add_sub_cancel_left a n)

theorem up_gate (k : Fin 2048) (f : Fin 5504) :
    V m c main_v7 (ix2 k ⟨f.val, by omega⟩) = m ((c : Thread nD τ).loc main_arg2) (ix3 (0 : Fin 1) k ⟨f.val, by omega⟩) := by
  unfold V
  after_reads_at
  rw [dif_pos (show f.val < 5632 by omega)]
  after_reads_at

theorem up_val (k : Fin 2048) (f : Fin 5504) :
    V m c main_v7 (ix2 k ⟨5632 + f.val, by omega⟩) = m ((c : Thread nD τ).loc main_arg2) (ix3 (0 : Fin 1) k ⟨5504 + f.val, by omega⟩) := by
  unfold V
  after_reads_at
  after_reads_at

theorem taps_gate (k : Fin 3) (f : Fin 5504) :
    V m c main_v14 (ix2 k ⟨f.val, by omega⟩) = m ((c : Thread nD τ).loc main_arg3) (ix3 (0 : Fin 1) k ⟨f.val, by omega⟩) := by
  unfold V
  after_reads_at
  rw [dif_pos (show f.val < 5632 by omega)]

theorem taps_val (k : Fin 3) (f : Fin 5504) :
    V m c main_v14 (ix2 k ⟨5632 + f.val, by omega⟩) = m ((c : Thread nD τ).loc main_arg3) (ix3 (0 : Fin 1) k ⟨5504 + f.val, by omega⟩) := by
  unfold V
  after_reads_at

theorem bias_gate (f : Fin 5504) :
    V m c main_v22 (ix2 (0 : Fin 1) ⟨f.val, by omega⟩) = m ((c : Thread nD τ).loc main_arg4) (ix2 (0 : Fin 1) ⟨f.val, by omega⟩) := by
  unfold V
  after_reads_at
  rw [dif_pos (show f.val < 5632 by omega)]
  after_reads_at

theorem bias_val (f : Fin 5504) :
    V m c main_v22 (ix2 (0 : Fin 1) ⟨5632 + f.val, by omega⟩) = m ((c : Thread nD τ).loc main_arg4) (ix2 (0 : Fin 1) ⟨5504 + f.val, by omega⟩) := by
  unfold V
  after_reads_at
  after_reads_at

theorem norm_tab (k : Fin 2048) : V m c main_v27 (ix2 (0 : Fin 1) k) = m ((c : Thread nD τ).loc main_arg1) (ix2 (0 : Fin 1) k) := by
  unfold V
  after_reads_at

theorem down_at (f : Fin 5504) (d : Fin 2048) :
    V m c main_v25 (ix2 ⟨f.val, by omega⟩ d) = m ((c : Thread nD τ).loc main_arg5) (ix3 (0 : Fin 1) f d) := by
  unfold V
  after_reads_at

/-- The rows added to fill the last tile are zero. -/
theorem down_zero (x : ℕ) (h : 5504 ≤ x) (h' : x < 5632) (d : Fin 2048) : V m c main_v25 (ix2 ⟨x, h'⟩ d) = (0 : EReal) := by
  unfold V
  after_reads_at
  rw [dif_neg (by omega)]
  show ((((0#32 : BitVec 32).toInt : ℝ)) : EReal) = 0
  simp
end Cert.Proof.Ffn
-- ==== Proof.Ffn.Fold.lean ====
/- What each grid point of the feed-forward launch leaves, in closed form, and the launch's result. -/
module

public import proofs.«01_k».proof.Proof.Ffn.Points
public import proofs.«01_k».proof.Proof.Ffn.Tables

@[expose] public section

set_option maxRecDepth 16384
noncomputable section
namespace Cert.Proof.Ffn
open Cert.Kernel2Ideal Cert.Kernel2Ideal.Gen Idealize.ShloMosaic Idealize.ShloMosaic.TcCoe Idealize.SL.Sem

/-- The block each window is at, at each point, and the point's own coordinates. -/
theorem idx_all : ∀ t : Fin cfg0.N, win0_0.index t = ![t.val / 11, 0] ∧ win0_1.index t = ![0, 0] ∧ win0_2.index t = ![0, t.val % 11]
    ∧ win0_3.index t = ![0, 11 + t.val % 11] ∧ win0_4.index t = ![0, t.val % 11] ∧ win0_5.index t = ![0, 11 + t.val % 11]
    ∧ win0_6.index t = ![0, t.val % 11] ∧ win0_7.index t = ![0, 11 + t.val % 11] ∧ win0_8.index t = ![t.val % 11, 0]
    ∧ ((grid0.coords t) 0).val = t.val / 11 ∧ ((grid0.coords t) 1).val = t.val % 11 :=
  (by decide +kernel : ∀ t : Fin grid0.N, _)

theorem lt_pts (t : Fin cfg0.N) : t.val < 352 := lt_of_lt_of_eq t.isLt N_0

/-- A block's row in the whole array. -/
def row (i : ℕ) (p : Fin 512) : Fin 16384 := ⟨(512 * i + p.val) % 16384, Nat.mod_lt _ (by decide)⟩
theorem row_val {i : ℕ} (h : i < 32) (p : Fin 512) : (row i p).val = 512 * i + p.val := Nat.mod_eq_of_lt (by omega)

/-- The eight rows before a block: zero where the block starts a sequence. -/
def halo (U : Fin 16384 → EReal) (i : ℕ) (x : Fin 8) : EReal := if i % 4 = 0 then 0 else U ⟨(512 * i - 8 + x.val) % 16384, Nat.mod_lt _ (by decide)⟩

theorem shB_eq (U : Fin 16384 → EReal) {i : ℕ} (hi : i < 32) (p : Fin 512) (s : ℕ) (h1 : 1 ≤ s) (h2 : s ≤ 8) :
    shB (fun p => U (row i p)) (halo U i) s p = sh U s (row i p) := by
  have hr := row_val hi p
  unfold shB sh halo
  by_cases hp : p.val < s
  · rw [if_pos hp]
    by_cases h4 : i % 4 = 0
    · rw [if_pos h4, if_neg (by omega)]
    · rw [if_neg h4, if_pos (by omega)]
      congr 1
      apply Fin.ext
      dsimp only
      omega
  · rw [if_neg hp, if_pos (by omega)]
    show U _ = U _
    congr 1
    apply Fin.ext
    rw [row_val hi]
    dsimp only
    omega

/-- A block's convolution with the rows before it is the whole array's. -/
theorem convB_eq (U : Fin 16384 → EReal) (w : Fin 3 → EReal) (b : EReal) {i : ℕ} (hi : i < 32) (p : Fin 512) :
    convB (fun p => U (row i p)) (halo U i) w b p = conv U w b (row i p) := by
  unfold convB conv
  rw [shB_eq U hi p 1 (by decide) (by decide), shB_eq U hi p 2 (by decide) (by decide)]

/-- A tile's column among the gate's padded columns, the value's, and the padded hidden units. -/
def pg (x : ℕ) : Fin 11264 := ⟨x % 5632, by omega⟩
def pv (x : ℕ) : Fin 11264 := ⟨5632 + x % 5632, by omega⟩
def pd (x : ℕ) : Fin 5632 := ⟨x % 5632, by omega⟩

section
variable (m : (ℓ : Loc nD τ sig) → Buf (Elt Ideal) ℓ) (c : Dev nD)

def Hf (r : Fin 16384) (k : Fin 2048) : EReal := m ((c : Thread nD τ).loc main_arg0) (ix2 r k)
def nwf (k : Fin 2048) : EReal := m ((c : Thread nD τ).loc main_arg1) (ix2 (0 : Fin 1) k)
def Wf (k : Fin 2048) (x : Fin 11008) : EReal := m ((c : Thread nD τ).loc main_arg2) (ix3 (0 : Fin 1) k x)
def cwf (s : Fin 3) (x : Fin 11008) : EReal := m ((c : Thread nD τ).loc main_arg3) (ix3 (0 : Fin 1) s x)
def cbf (x : Fin 11008) : EReal := m ((c : Thread nD τ).loc main_arg4) (ix2 (0 : Fin 1) x)
def Wdf (f : Fin 5504) (d : Fin 2048) : EReal := m ((c : Thread nD τ).loc main_arg5) (ix3 (0 : Fin 1) f d)

/-- The normed rows. -/
def Cf (r : Fin 16384) : Fin 2048 → EReal := rms (Hf m c r) (nwf m c)

/-- A padded column of the prepared weights. -/
def colW (x : Fin 11264) (k : Fin 2048) : EReal := V m c main_v7 (ix2 k x)
def colT (x : Fin 11264) (s : Fin 3) : EReal := V m c main_v14 (ix2 s x)
def colB (x : Fin 11264) : EReal := V m c main_v22 (ix2 (0 : Fin 1) x)
def rowD (x : Fin 5632) (d : Fin 2048) : EReal := V m c main_v25 (ix2 x d)

theorem iblk_0 (t : Fin cfg0.N) (p : Fin 512) (k : Fin 2048) : iblk m c 0 t (ix2 p k) = Hf m c (row (t.val / 11) p) k := by
  have ht := lt_pts t
  have hr := row_val (show t.val / 11 < 32 by omega) p
  unfold Hf
  rw [← V_main_arg0 m c]
  blk_ext [iblk, idx_all t]
theorem iblk_1 (t : Fin cfg0.N) (k : Fin 2048) : iblk m c 1 t (ix2 (0 : Fin 1) k) = nwf m c k := by
  unfold nwf
  rw [← norm_tab m c]
  blk_ext [iblk, idx_all t]
theorem iblk_2 (t : Fin cfg0.N) (k : Fin 2048) (q : Fin 512) (x : Fin 11264) (hx : x.val = 512 * (t.val % 11) + q.val) : iblk m c 2 t (ix2 k q) = colW m c x k := by
  unfold colW
  blk_ext [iblk, idx_all t]
theorem iblk_3 (t : Fin cfg0.N) (k : Fin 2048) (q : Fin 512) (x : Fin 11264) (hx : x.val = 5632 + (512 * (t.val % 11) + q.val)) : iblk m c 3 t (ix2 k q) = colW m c x k := by
  unfold colW
  blk_ext [iblk, idx_all t]
theorem iblk_4 (t : Fin cfg0.N) (s : Fin 3) (q : Fin 512) (x : Fin 11264) (hx : x.val = 512 * (t.val % 11) + q.val) : iblk m c 4 t (ix2 s q) = colT m c x s := by
  unfold colT
  blk_ext [iblk, idx_all t]
theorem iblk_5 (t : Fin cfg0.N) (s : Fin 3) (q : Fin 512) (x : Fin 11264) (hx : x.val = 5632 + (512 * (t.val % 11) + q.val)) : iblk m c 5 t (ix2 s q) = colT m c x s := by
  unfold colT
  blk_ext [iblk, idx_all t]
theorem iblk_6 (t : Fin cfg0.N) (q : Fin 512) (x : Fin 11264) (hx : x.val = 512 * (t.val % 11) + q.val) : iblk m c 6 t (ix2 (0 : Fin 1) q) = colB m c x := by
  unfold colB
  blk_ext [iblk, idx_all t]
theorem iblk_7 (t : Fin cfg0.N) (q : Fin 512) (x : Fin 11264) (hx : x.val = 5632 + (512 * (t.val % 11) + q.val)) : iblk m c 7 t (ix2 (0 : Fin 1) q) = colB m c x := by
  unfold colB
  blk_ext [iblk, idx_all t]
theorem iblk_8 (t : Fin cfg0.N) (q : Fin 512) (d : Fin 2048) (x : Fin 5632) (hx : x.val = 512 * (t.val % 11) + q.val) : iblk m c 8 t (ix2 q d) = rowD m c x d := by
  unfold rowD
  blk_ext [iblk, idx_all t]

theorem pg_val (j : ℕ) (hj : j < 11) (q : Fin 512) : (pg (512 * j + q.val)).val = 512 * j + q.val := Nat.mod_eq_of_lt (by omega)
theorem pv_val (j : ℕ) (hj : j < 11) (q : Fin 512) : (pv (512 * j + q.val)).val = 5632 + (512 * j + q.val) := congrArg (5632 + ·) (Nat.mod_eq_of_lt (by omega))
theorem pd_val (j : ℕ) (hj : j < 11) (q : Fin 512) : (pd (512 * j + q.val)).val = 512 * j + q.val := Nat.mod_eq_of_lt (by omega)

/-- The block of normed rows a point holds. -/
def NrmAt (n : ℕ) (C : Vec Ideal S512x2048 .bf16) : Prop := ∀ (p : Fin 512) (k : Fin 2048), C (ix2 p k) = Cf m c (row (n / 11) p) k

theorem normB_at (t : Fin cfg0.N) : NrmAt m c t.val (normB (iblk m c 0 t) (iblk m c 1 t)) := by
  intro p k
  show rms (fun k => iblk m c 0 t (ix2 p k)) (fun k => iblk m c 1 t (ix2 (0 : Fin 1) k)) k = _
  simp only [iblk_0, iblk_1]
  rfl

theorem nrm_at : ∀ (n : ℕ) (hn : n < cfg0.N), NrmAt m c n (outsAt0 m c n hn).2.1 := by
  intro n
  induction n using Nat.strong_induction_on with
  | _ n ih =>
    intro hn
    have hN : n < 352 := lt_pts ⟨n, hn⟩
    by_cases h1 : n % 11 = 0
    · by_cases h0 : n % 352 = 0
      · rw [nrm_A m c ⟨n, hn⟩ h0 h1]; exact normB_at m c ⟨n, hn⟩
      · rw [nrm_C m c ⟨n, hn⟩ h0 h1]; exact normB_at m c ⟨n, hn⟩
    · rw [nrm_B m c ⟨n, hn⟩ (show ¬ n % 352 = 0 by omega) h1]
      intro p k
      refine (ih (n - 1) (by omega) _ p k).trans ?_
      rw [show (n - 1) / 11 = n / 11 by omega]

/-- The carried rows before a point's tile, and after it: a tile already done in this block holds the block's own last rows. -/
def HalB (col : ℕ → Fin 11264) (n : ℕ) (S : Vec Ideal S11x8x512 .f32) : Prop := ∀ (j : Fin 11) (x : Fin 8) (q : Fin 512),
  S (ix3 j x q) = halo (up (Cf m c) (colW m c (col (512 * j.val + q.val)))) (if j.val < n % 11 then n / 11 + 1 else n / 11) x
def HalA (col : ℕ → Fin 11264) (n : ℕ) (S : Vec Ideal S11x8x512 .f32) : Prop := ∀ (j : Fin 11) (x : Fin 8) (q : Fin 512),
  S (ix3 j x q) = halo (up (Cf m c) (colW m c (col (512 * j.val + q.val)))) (if j.val ≤ n % 11 then n / 11 + 1 else n / 11) x

theorem zero_g (y : S11x8x512.Idx) : k0_pay3 (F := Ideal) y = 0 := Ideal.ofBits_zero_f32
theorem zero_v (y : S11x8x512.Idx) : k0_pay4 (F := Ideal) y = 0 := Ideal.ofBits_zero_f32

theorem halB_first (col : ℕ → Fin 11264) (S : Vec Ideal S11x8x512 .f32) (hS : ∀ y, S y = (0 : EReal)) : HalB m c col 0 S := by
  intro j x q
  rw [hS, if_neg (by omega)]
  rfl

theorem halB_next (col : ℕ → Fin 11264) (n : ℕ) (hn : ¬ n = 0) (S : Vec Ideal S11x8x512 .f32) (h : HalA m c col (n - 1) S) : HalB m c col n S := by
  intro j x q
  have hj := j.isLt
  refine (h j x q).trans ?_
  by_cases h1 : n % 11 = 0
  · rw [if_pos (by omega), if_neg (by omega), show (n - 1) / 11 + 1 = n / 11 by omega]
  · by_cases h2 : j.val < n % 11
    · rw [if_pos (by omega), if_pos h2, show (n - 1) / 11 = n / 11 by omega]
    · rw [if_neg (by omega), if_neg h2, show (n - 1) / 11 = n / 11 by omega]

theorem upB_at (n : ℕ) (C : Vec Ideal S512x2048 .bf16) (hC : NrmAt m c n C) (b : Vec Ideal S2048x512 .bf16) (x : Fin 11264) (p q : Fin 512)
    (hb : ∀ k, b (ix2 k q) = colW m c x k) : upB C b p q = up (Cf m c) (colW m c x) (row (n / 11) p) := by
  unfold upB up
  exact Finset.sum_congr rfl fun k _ => by rw [hC p k, hb k]

theorem keep_at (col : ℕ → Fin 11264) (t : Fin cfg0.N) (C : Vec Ideal S512x2048 .bf16) (hC : NrmAt m c t.val C) (b : Vec Ideal S2048x512 .bf16)
    (hb : ∀ k q, b (ix2 k q) = colW m c (col (512 * (t.val % 11) + q.val)) k) (S : Vec Ideal S11x8x512 .f32) (hS : HalB m c col t.val S)
    (j : Fin 11) (x : Fin 8) (q : Fin 512) :
    keepB C b S ((grid0.coords t) 0) ((grid0.coords t) 1) j x q
      = halo (up (Cf m c) (colW m c (col (512 * j.val + q.val)))) (if j.val ≤ t.val % 11 then t.val / 11 + 1 else t.val / 11) x := by
  obtain ⟨-, -, -, -, -, -, -, -, -, hi, hj⟩ := idx_all t
  have ht := lt_pts t
  unfold keepB
  rw [hi, hj]
  by_cases e : j.val = t.val % 11
  · rw [if_pos e, if_pos (show j.val ≤ t.val % 11 by omega), e]
    unfold halo
    by_cases hk : (t.val / 11 + 1) % 4 = 0
    · rw [if_neg (show ¬ keeps (t.val / 11) by unfold keeps; omega), if_pos hk]
    · rw [if_pos (show keeps (t.val / 11) by unfold keeps; omega), if_neg hk, upB_at m c t.val C hC b _ _ q (fun k => hb k q)]
      congr 1
      apply Fin.ext
      rw [row_val (by omega)]
      dsimp only
      omega
  · rw [if_neg e]
    refine (hS j x q).trans ?_
    by_cases h2 : j.val < t.val % 11
    · rw [if_pos (show j.val ≤ t.val % 11 by omega), if_pos h2]
    · rw [if_neg (show ¬ j.val ≤ t.val % 11 by omega), if_neg h2]

theorem b2_at (t : Fin cfg0.N) (k : Fin 2048) (q : Fin 512) : iblk m c 2 t (ix2 k q) = colW m c (pg (512 * (t.val % 11) + q.val)) k :=
  iblk_2 m c t k q _ (pg_val _ (Nat.mod_lt _ (by decide)) q)
theorem b3_at (t : Fin cfg0.N) (k : Fin 2048) (q : Fin 512) : iblk m c 3 t (ix2 k q) = colW m c (pv (512 * (t.val % 11) + q.val)) k :=
  iblk_3 m c t k q _ (pv_val _ (Nat.mod_lt _ (by decide)) q)

theorem hg_at : ∀ (n : ℕ) (hn : n < cfg0.N), HalA m c pg n (outsAt0 m c n hn).2.2.1 := by
  intro n
  induction n using Nat.strong_induction_on with
  | _ n ih =>
    intro hn j x q
    have hN : n < 352 := lt_pts ⟨n, hn⟩
    by_cases h1 : n % 11 = 0
    · by_cases h0 : n % 352 = 0
      · obtain rfl : n = 0 := by omega
        exact (hg_A m c ⟨0, hn⟩ h0 h1 (ix3 j x q)).trans (keep_at m c pg ⟨0, hn⟩ _ (normB_at m c ⟨0, hn⟩) _ (b2_at m c ⟨0, hn⟩) _ (halB_first m c pg _ zero_g) j x q)
      · exact (hg_C m c ⟨n, hn⟩ h0 h1 (ix3 j x q)).trans (keep_at m c pg ⟨n, hn⟩ _ (normB_at m c ⟨n, hn⟩) _ (b2_at m c ⟨n, hn⟩) _
          (halB_next m c pg n (by omega) _ (ih (n - 1) (by omega) _)) j x q)
    · have h0 : ¬ n % 352 = 0 := by omega
      have hC : NrmAt m c n (outsAt0 m c (n - 1) (by omega)).2.1 := by
        rw [← nrm_B m c ⟨n, hn⟩ h0 h1]; exact nrm_at m c n hn
      exact (hg_B m c ⟨n, hn⟩ h0 h1 (ix3 j x q)).trans (keep_at m c pg ⟨n, hn⟩ _ hC _ (b2_at m c ⟨n, hn⟩) _
          (halB_next m c pg n (by omega) _ (ih (n - 1) (by omega) _)) j x q)

theorem hv_at : ∀ (n : ℕ) (hn : n < cfg0.N), HalA m c pv n (outsAt0 m c n hn).2.2.2 := by
  intro n
  induction n using Nat.strong_induction_on with
  | _ n ih =>
    intro hn j x q
    have hN : n < 352 := lt_pts ⟨n, hn⟩
    by_cases h1 : n % 11 = 0
    · by_cases h0 : n % 352 = 0
      · obtain rfl : n = 0 := by omega
        exact (hv_A m c ⟨0, hn⟩ h0 h1 (ix3 j x q)).trans (keep_at m c pv ⟨0, hn⟩ _ (normB_at m c ⟨0, hn⟩) _ (b3_at m c ⟨0, hn⟩) _ (halB_first m c pv _ zero_v) j x q)
      · exact (hv_C m c ⟨n, hn⟩ h0 h1 (ix3 j x q)).trans (keep_at m c pv ⟨n, hn⟩ _ (normB_at m c ⟨n, hn⟩) _ (b3_at m c ⟨n, hn⟩) _
          (halB_next m c pv n (by omega) _ (ih (n - 1) (by omega) _)) j x q)
    · have h0 : ¬ n % 352 = 0 := by omega
      have hC : NrmAt m c n (outsAt0 m c (n - 1) (by omega)).2.1 := by
        rw [← nrm_B m c ⟨n, hn⟩ h0 h1]; exact nrm_at m c n hn
      exact (hv_B m c ⟨n, hn⟩ h0 h1 (ix3 j x q)).trans (keep_at m c pv ⟨n, hn⟩ _ hC _ (b3_at m c ⟨n, hn⟩) _
          (halB_next m c pv n (by omega) _ (ih (n - 1) (by omega) _)) j x q)

/-- One hidden unit of the padded layer at a row, times its projection. -/
def unit (r : Fin 16384) (d : Fin 2048) (x : ℕ) : EReal :=
  act (Cf m c) (colW m c (pg x)) (colW m c (pv x)) (colT m c (pg x)) (colT m c (pv x)) (colB m c (pg x)) (colB m c (pv x)) r * rowD m c (pd x) d

/-- The output block after a point: the residual and the units of the tiles done so far. -/
def OutA (n : ℕ) (o : Vec Ideal S512x2048 .f32) : Prop := ∀ (p : Fin 512) (d : Fin 2048),
  o (ix2 p d) = Hf m c (row (n / 11) p) d + ∑ j ∈ Finset.range (n % 11 + 1), ∑ q : Fin 512, unit m c (row (n / 11) p) d (512 * j + q.val)
def OutB (n : ℕ) (o : Vec Ideal S512x2048 .f32) : Prop := ∀ (p : Fin 512) (d : Fin 2048),
  o (ix2 p d) = Hf m c (row (n / 11) p) d + ∑ j ∈ Finset.range (n % 11), ∑ q : Fin 512, unit m c (row (n / 11) p) d (512 * j + q.val)

theorem cvB_at (col : ℕ → Fin 11264) (t : Fin cfg0.N) (C : Vec Ideal S512x2048 .bf16) (hC : NrmAt m c t.val C) (b : Vec Ideal S2048x512 .bf16)
    (hb : ∀ k q, b (ix2 k q) = colW m c (col (512 * (t.val % 11) + q.val)) k) (S : Vec Ideal S11x8x512 .f32) (hS : HalB m c col t.val S)
    (cw : Vec Ideal S3x512 .f32) (cb : Vec Ideal S1x512 .f32) (hw : ∀ s q, cw (ix2 s q) = colT m c (col (512 * (t.val % 11) + q.val)) s)
    (hcb : ∀ q, cb (ix2 (0 : Fin 1) q) = colB m c (col (512 * (t.val % 11) + q.val))) (p q : Fin 512) :
    cvB C b S cw cb ((grid0.coords t) 1) p q = conv (up (Cf m c) (colW m c (col (512 * (t.val % 11) + q.val)))) (colT m c (col (512 * (t.val % 11) + q.val)))
      (colB m c (col (512 * (t.val % 11) + q.val))) (row (t.val / 11) p) := by
  obtain ⟨-, -, -, -, -, -, -, -, -, hi, hj⟩ := idx_all t
  have ht := lt_pts t
  rw [← convB_eq _ _ _ (show t.val / 11 < 32 by omega)]
  unfold cvB
  rw [hcb q]
  refine convB_congr _ p (fun p => upB_at m c t.val C hC b _ p q (fun k => hb k q)) (fun x => ?_) (funext fun s => hw s q)
  refine (hS _ x q).trans ?_
  rw [hj, if_neg (lt_irrefl _)]

theorem out_step (t : Fin cfg0.N) (C : Vec Ideal S512x2048 .bf16) (hC : NrmAt m c t.val C) (o : Vec Ideal S512x2048 .f32) (ho : OutB m c t.val o)
    (hg hv : Vec Ideal S11x8x512 .f32) (hhg : HalB m c pg t.val hg) (hhv : HalB m c pv t.val hv) (b2 b3 : Vec Ideal S2048x512 .bf16)
    (b4 b5 : Vec Ideal S3x512 .f32) (b6 b7 : Vec Ideal S1x512 .f32) (b8 : Vec Ideal S512x2048 .bf16)
    (h2 : ∀ k q, b2 (ix2 k q) = colW m c (pg (512 * (t.val % 11) + q.val)) k) (h3 : ∀ k q, b3 (ix2 k q) = colW m c (pv (512 * (t.val % 11) + q.val)) k)
    (h4 : ∀ s q, b4 (ix2 s q) = colT m c (pg (512 * (t.val % 11) + q.val)) s) (h5 : ∀ s q, b5 (ix2 s q) = colT m c (pv (512 * (t.val % 11) + q.val)) s)
    (h6 : ∀ q, b6 (ix2 (0 : Fin 1) q) = colB m c (pg (512 * (t.val % 11) + q.val))) (h7 : ∀ q, b7 (ix2 (0 : Fin 1) q) = colB m c (pv (512 * (t.val % 11) + q.val)))
    (h8 : ∀ q d, b8 (ix2 q d) = rowD m c (pd (512 * (t.val % 11) + q.val)) d) (p : Fin 512) (d : Fin 2048) :
    outB C o hg hv b2 b3 b4 b5 b6 b7 b8 ((grid0.coords t) 1) p d
      = Hf m c (row (t.val / 11) p) d + ∑ j ∈ Finset.range (t.val % 11 + 1), ∑ q : Fin 512, unit m c (row (t.val / 11) p) d (512 * j + q.val) := by
  have hq : ∀ q : Fin 512, silu (cvB C b2 hg b4 b6 ((grid0.coords t) 1) p q) * cvB C b3 hv b5 b7 ((grid0.coords t) 1) p q * b8 (ix2 q d)
      = unit m c (row (t.val / 11) p) d (512 * (t.val % 11) + q.val) := fun q => by
    rw [cvB_at m c pg t C hC b2 h2 hg hhg b4 b6 h4 h6, cvB_at m c pv t C hC b3 h3 hv hhv b5 b7 h5 h7, h8]
    unfold unit act
    rfl
  unfold outB
  rw [ho p d, Finset.sum_congr rfl fun q _ => hq q, Finset.sum_range_succ, ← add_assoc]

theorem out_next (t : Fin cfg0.N) (C : Vec Ideal S512x2048 .bf16) (hC : NrmAt m c t.val C) (o : Vec Ideal S512x2048 .f32) (ho : OutB m c t.val o)
    (hg hv : Vec Ideal S11x8x512 .f32) (hhg : HalB m c pg t.val hg) (hhv : HalB m c pv t.val hv) (p : Fin 512) (d : Fin 2048) :
    outB C o hg hv (iblk m c 2 t) (iblk m c 3 t) (iblk m c 4 t) (iblk m c 5 t) (iblk m c 6 t) (iblk m c 7 t) (iblk m c 8 t) ((grid0.coords t) 1) p d
      = Hf m c (row (t.val / 11) p) d + ∑ j ∈ Finset.range (t.val % 11 + 1), ∑ q : Fin 512, unit m c (row (t.val / 11) p) d (512 * j + q.val) :=
  have hj : t.val % 11 < 11 := Nat.mod_lt _ (by decide)
  out_step m c t C hC o ho hg hv hhg hhv _ _ _ _ _ _ _ (b2_at m c t) (b3_at m c t)
    (fun s q => iblk_4 m c t s q _ (pg_val _ hj q)) (fun s q => iblk_5 m c t s q _ (pv_val _ hj q))
    (fun q => iblk_6 m c t q _ (pg_val _ hj q)) (fun q => iblk_7 m c t q _ (pv_val _ hj q)) (fun q d => iblk_8 m c t q d _ (pd_val _ hj q)) p d

theorem outB_first (t : Fin cfg0.N) (h1 : t.val % 11 = 0) : OutB m c t.val (iblk m c 0 t) := by
  intro p d
  rw [iblk_0, h1, Finset.sum_range_zero, add_zero]

theorem out_at : ∀ (n : ℕ) (hn : n < cfg0.N), OutA m c n (outsAt0 m c n hn).1 := by
  intro n
  induction n using Nat.strong_induction_on with
  | _ n ih =>
    intro hn p d
    have hN : n < 352 := lt_pts ⟨n, hn⟩
    by_cases h1 : n % 11 = 0
    · by_cases h0 : n % 352 = 0
      · obtain rfl : n = 0 := by omega
        exact (out_A m c ⟨0, hn⟩ h0 h1 (ix2 p d)).trans (out_next m c ⟨0, hn⟩ _ (normB_at m c ⟨0, hn⟩) _ (outB_first m c ⟨0, hn⟩ h1) _ _
          (halB_first m c pg _ zero_g) (halB_first m c pv _ zero_v) p d)
      · exact (out_C m c ⟨n, hn⟩ h0 h1 (ix2 p d)).trans (out_next m c ⟨n, hn⟩ _ (normB_at m c ⟨n, hn⟩) _ (outB_first m c ⟨n, hn⟩ h1) _ _
          (halB_next m c pg n (by omega) _ (hg_at m c (n - 1) _)) (halB_next m c pv n (by omega) _ (hv_at m c (n - 1) _)) p d)
    · have h0 : ¬ n % 352 = 0 := by omega
      have hC : NrmAt m c n (outsAt0 m c (n - 1) (by omega)).2.1 := by
        rw [← nrm_B m c ⟨n, hn⟩ h0 h1]; exact nrm_at m c n hn
      have ho : OutB m c n (outsAt0 m c (n - 1) (by omega)).1 := by
        intro p d
        refine (ih (n - 1) (by omega) _ p d).trans ?_
        rw [show (n - 1) / 11 = n / 11 by omega, show (n - 1) % 11 + 1 = n % 11 by omega]
      exact (out_B m c ⟨n, hn⟩ h0 h1 (ix2 p d)).trans (out_next m c ⟨n, hn⟩ _ hC _ ho _ _
          (halB_next m c pg n (by omega) _ (hg_at m c (n - 1) _)) (halB_next m c pv n (by omega) _ (hv_at m c (n - 1) _)) p d)

theorem unit_zero (r : Fin 16384) (d : Fin 2048) (x : ℕ) (h : 5504 ≤ x) (h' : x < 5632) : unit m c r d x = 0 := by
  unfold unit rowD
  have e : pd x = ⟨x, h'⟩ := Fin.ext (Nat.mod_eq_of_lt h')
  rw [e, down_zero m c x h h' d, mul_zero]

theorem unit_eq (r : Fin 16384) (d : Fin 2048) (f : Fin 5504) :
    unit m c r d f.val = act (Cf m c) (fun k => Wf m c k ⟨f.val, by omega⟩) (fun k => Wf m c k ⟨5504 + f.val, by omega⟩)
    (fun s => cwf m c s ⟨f.val, by omega⟩) (fun s => cwf m c s ⟨5504 + f.val, by omega⟩) (cbf m c ⟨f.val, by omega⟩) (cbf m c ⟨5504 + f.val, by omega⟩) r * Wdf m c f d := by
  have e1 : pg f.val = ⟨f.val, by omega⟩ := Fin.ext (Nat.mod_eq_of_lt (by omega))
  have e2 : pv f.val = ⟨5632 + f.val, by omega⟩ := Fin.ext (congrArg (5632 + ·) (Nat.mod_eq_of_lt (by omega)))
  have e3 : pd f.val = ⟨f.val, by omega⟩ := Fin.ext (Nat.mod_eq_of_lt (by omega))
  have w1 : colW m c (pg f.val) = fun k => Wf m c k ⟨f.val, by omega⟩ := funext fun k => by rw [e1]; exact up_gate m c k f
  have w2 : colW m c (pv f.val) = fun k => Wf m c k ⟨5504 + f.val, by omega⟩ := funext fun k => by rw [e2]; exact up_val m c k f
  have w3 : colT m c (pg f.val) = fun k => cwf m c k ⟨f.val, by omega⟩ := funext fun k => by rw [e1]; exact taps_gate m c k f
  have w4 : colT m c (pv f.val) = fun k => cwf m c k ⟨5504 + f.val, by omega⟩ := funext fun k => by rw [e2]; exact taps_val m c k f
  have w5 : colB m c (pg f.val) = cbf m c ⟨f.val, by omega⟩ := by rw [e1]; exact bias_gate m c f
  have w6 : colB m c (pv f.val) = cbf m c ⟨5504 + f.val, by omega⟩ := by rw [e2]; exact bias_val m c f
  have w7 : rowD m c (pd f.val) d = Wdf m c f d := by rw [e3]; exact down_at m c f d
  unfold unit
  rw [w1, w2, w3, w4, w5, w6, w7]

/-- The launch's result at a row and a column. -/
theorem result_at (r : Fin 16384) (d : Fin 2048) :
    Value.G9 m c (ix2 r d) = out (Hf m c) (nwf m c) (Wf m c) (cwf m c) (cbf m c) (Wdf m c) r d := by
  have hN : cfg0.N = 352 := N_0
  have hp : Value.pt9Of (ix2 r d) = 11 * (r.val / 512) + 10 := by
    show 11 * (1 * (r.val / 512 - 0) + 1 * (d.val / 2048 - 0)) + 10 = _
    omega
  have ht : 11 * (r.val / 512) + 10 < cfg0.N := by omega
  have hr : row (r.val / 512) ⟨r.val % 512, Nat.mod_lt _ (by decide)⟩ = r := Fin.ext (by rw [row_val (by omega)]; dsimp only; omega)
  unfold Value.G9
  rw [dif_pos (by rw [hp]; exact ht), Value.fold0_congr m c _ _ (11 * (r.val / 512) + 10) (by omega) hp, ← Value.outsAt0_sweep m c _ ht]
  have key := out_at m c (11 * (r.val / 512) + 10) ht ⟨r.val % 512, Nat.mod_lt _ (by decide)⟩ d
  rw [show (11 * (r.val / 512) + 10) / 11 = r.val / 512 by omega, show (11 * (r.val / 512) + 10) % 11 + 1 = 11 by omega, hr,
    sum_blocks, sum_pad _ (fun x h h' => unit_zero m c r d x h h')] at key
  refine Eq.trans (congrArg _ ?_) (key.trans ?_)
  · funext a
    fin_cases a
    · rfl
    · exact Fin.ext (Nat.mod_eq_of_lt d.isLt)
  · unfold out
    simp only [unit_eq]
    rfl

end
end Cert.Proof.Ffn
-- ==== Proof.Ffn.Ref.lean ====
/- The feed-forward reference at an index. -/
module

public import proofs.«01_k».proof.Proof.Ffn.Spec
public import proofs.«01_k».proof.Proof.Gen.Reference2Ideal.Read

@[expose] public section

set_option maxRecDepth 16384
noncomputable section
namespace Cert.Proof.Ffn.Ref
open Cert.Reference2Ideal Cert.Reference2Ideal.Gen Cert.Reference2Ideal.Read Idealize.ShloMosaic Idealize.ShloMosaic.TcCoe Idealize.SL.Sem Idealize.ShloMosaic.StableHlo

variable (x0 : (⟨S16384x2048, .f32⟩ : BufTy).Contents (Elt Ideal)) (x1 : (⟨S1x2048, .f32⟩ : BufTy).Contents (Elt Ideal))
  (x2 : (⟨S1x2048x11008, .f32⟩ : BufTy).Contents (Elt Ideal)) (x3 : (⟨S1x3x11008, .f32⟩ : BufTy).Contents (Elt Ideal))
  (x4 : (⟨S1x11008, .f32⟩ : BufTy).Contents (Elt Ideal)) (x5 : (⟨S1x5504x2048, .f32⟩ : BufTy).Contents (Elt Ideal))

/-- A sequence's row among all rows. -/
def rw8 (b : Fin 8) (p : Fin 2048) : Fin 16384 := ⟨b.val * 2048 + p.val, by omega⟩

def Hr (r : Fin 16384) (k : Fin 2048) : EReal := x0 (ix2 r k)
def nwr (k : Fin 2048) : EReal := x1 (ix2 (0 : Fin 1) k)
def Wr (k : Fin 2048) (x : Fin 11008) : EReal := x2 (ix3 (0 : Fin 1) k x)
def cwr (s : Fin 3) (x : Fin 11008) : EReal := x3 (ix3 (0 : Fin 1) s x)
def cbr (x : Fin 11008) : EReal := x4 (ix2 (0 : Fin 1) x)
def Wdr (f : Fin 5504) (d : Fin 2048) : EReal := x5 (ix3 (0 : Fin 1) f d)

def Cr (r : Fin 16384) : Fin 2048 → EReal := rms (Hr x0 r) (nwr x1)

theorem ref_nrm (b : Fin 8) (p k : Fin 2048) : val_main_v14 (F := Ideal) x0 x1 (ix3 b p k) = Cr x0 x1 (rw8 b p) k := by
  pointwise [val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  rfl

/-- The gate written with a quotient of one. -/
theorem silu_eq (g : EReal) : g * Ideal.div 1 (1 + Ideal.exp (-g)) = silu g := by
  have hp : 0 ≤ Ideal.exp (-g) := by
    generalize -g = y
    induction y with
    | bot => exact le_refl _
    | top => exact le_top
    | coe r => exact EReal.coe_nonneg.mpr (Real.exp_pos r).le
  rw [Ideal.mul_one_div (ne_of_gt (lt_of_lt_of_le zero_lt_one (le_add_of_nonneg_right hp)))]
  unfold silu
  rw [zero_sub]

theorem ref_w (k : Fin 2048) (x : Fin 11008) : val_main_v15 (F := Ideal) x2 (ix2 k x) = Wr x2 k x := by
  pointwise [val_main_v15]
  rfl

theorem ref_up (b : Fin 8) (p : Fin 2048) (x : Fin 11008) : val_main_v16 (F := Ideal) x0 x1 x2 (ix3 b p x) = up (Cr x0 x1) (fun k => Wr x2 k x) (rw8 b p) := by
  have hl : ∀ k, lidx_main_v16 (ix3 b p x) k = ix3 b p k := fun k => (eq_ix3 _).trans rfl
  have hr : ∀ k, ridx_main_v16 (ix3 b p x) k = ix2 k x := fun k => (eq_ix2 _).trans rfl
  rw [val_main_v16_apply]
  refine Finset.sum_congr rfl fun k _ => ?_
  rw [hl, ref_nrm, hr, ref_w]

theorem zero_pad : FloatOps.sitofp (F := Ideal) FTy.f32 0#32 = (0 : EReal) := by
  show ((((0#32 : BitVec 32).toInt : ℝ)) : EReal) = 0
  simp

/-- A row of the padded projection is the row before it, or zero before the sequence. -/
theorem sh_eq (U : Fin 16384 → EReal) (b : Fin 8) (p : Fin 2048) (s q : ℕ) (hq : s ≤ p.val → q = p.val - s) (h' : s ≤ p.val → q < 2048) (z : EReal) (hz : z = 0)
    (P : Prop) [Decidable P] (hP : P ↔ s ≤ p.val) (e : P → EReal) (he : ∀ (h : P), e h = U (rw8 b ⟨q, h' (hP.mp h)⟩)) :
    (if h : P then e h else z) = sh U s (rw8 b p) := by
  unfold sh
  have hm : (rw8 b p).val % 2048 = p.val := by unfold rw8; dsimp only; omega
  rw [hm]
  by_cases h : P
  · have h1 := hP.mp h
    rw [dif_pos h, if_pos h1, he]
    congr 1
    apply Fin.ext
    have := hq h1
    unfold rw8
    dsimp only
    omega
  · rw [dif_neg h, if_neg (fun h1 => h (hP.mpr h1)), hz]

theorem ref_conv (b : Fin 8) (p : Fin 2048) (x : Fin 11008) : val_main_v42 (F := Ideal) x0 x1 x2 x3 x4 (ix3 b p x)
    = conv (up (Cr x0 x1) (fun k => Wr x2 k x)) (fun s => cwr x3 s x) (cbr x4 x) (rw8 b p) := by
  pointwise [val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_call0_v0, val_main_c]
  rw [sh_eq (up (Cr x0 x1) (fun k => Wr x2 k x)) b p 2 (p.val - 2) (fun _ => rfl) (fun _ => by omega) _ zero_pad _ (by omega) _ (fun _ => ref_up x0 x1 x2 b _ x),
    sh_eq (up (Cr x0 x1) (fun k => Wr x2 k x)) b p 1 (1 + p.val - 2) (fun _ => by omega) (fun _ => by omega) _ zero_pad _ (by omega) _ (fun _ => ref_up x0 x1 x2 b _ x), ref_up]
  unfold conv
  show cbr x4 x + _ * cwr x3 0 x + _ * cwr x3 1 x + _ * cwr x3 2 x = _
  rw [mul_comm _ (cwr x3 0 x), mul_comm _ (cwr x3 1 x), mul_comm _ (cwr x3 2 x), add_right_comm _ (cwr x3 0 x * _), add_right_comm _ (cwr x3 0 x * _),
    add_right_comm _ (cwr x3 1 x * _)]

theorem ref_gate (i : S8x2048x5504.Idx) : val_main_call1_v5 (F := Ideal) x0 x1 x2 x3 x4 i = Ideal.div 1 (1 + Ideal.exp (-(val_main_v43 (F := Ideal) x0 x1 x2 x3 x4 i))) := by
  pointwise [val_main_call1_v5, val_main_call1_v4, val_main_call1_v3, val_main_call1_v2, val_main_call1_v1, val_main_call1_v0, val_main_call1_cst, val_main_call1_cst_0]

theorem ref_half (b : Fin 8) (p : Fin 2048) (f : Fin 5504) : val_main_v43 (F := Ideal) x0 x1 x2 x3 x4 (ix3 b p f) = val_main_v42 (F := Ideal) x0 x1 x2 x3 x4 (ix3 b p ⟨f.val, by omega⟩) := by
  pointwise [val_main_v43]

theorem ref_out (b : Fin 8) (p d : Fin 2048) : val_main_v49 (F := Ideal) x0 x1 x2 x3 x4 x5 (ix3 b p d)
    = out (Hr x0) (nwr x1) (Wr x2) (cwr x3) (cbr x4) (Wdr x5) (rw8 b p) d := by
  pointwise [val_main_v49, val_main_v48, val_main_v47, val_main_v46, val_main_v45, val_main_v44, val_main_v43, val_main_v0]
  simp only [ref_gate, ref_half, ref_conv, silu_eq]
  rfl

/-- The reference's result at a row and a column. -/
theorem ref_result (r : Fin 16384) (d : Fin 2048) : val_main_v50 (F := Ideal) x0 x1 x2 x3 x4 x5 (ix2 r d)
    = out (Hr x0) (nwr x1) (Wr x2) (cwr x3) (cbr x4) (Wdr x5) r d := by
  pointwise [val_main_v50]
  refine (ref_out x0 x1 x2 x3 x4 x5 _ _ _).trans ?_
  congr 1
  apply Fin.ext
  unfold rw8
  dsimp only
  omega
end Cert.Proof.Ffn.Ref
-- ==== Proof.Ffn.Agree.lean ====
/- The feed-forward call and its reference agree. -/
module

public import proofs.«01_k».proof.Defs
public import proofs.«01_k».proof.Proof.Ffn.Fold
public import proofs.«01_k».proof.Proof.Ffn.Ref

@[expose] public section

noncomputable section
namespace Cert.Proof.Ffn
open Idealize.ShloMosaic Idealize.SL.Sem

/-- The reference runs, leaves its arguments and every counter as they were. -/
theorem frame_r : Cert.quiescent_Reference2Ideal (hReference2Ideal := Cert.Reference2Ideal.Gen.facts) := fun m ρ _ =>
  (θ_run Cert.Reference2Ideal.defs _ _).mono (fun r h => ⟨fun c => (h c).2, Idealize.ShloMosaic.sem_eq_zero_of_no_sems (by decide) r.2⟩)
    (Cert.Reference2Ideal.Value.run (F := Ideal) m ρ)

/-- The two results agree, element by element, where the arguments do. -/
theorem result_eq (m : (ℓ : Loc Cert.Kernel2Ideal.nD Cert.Kernel2Ideal.τ Cert.Kernel2Ideal.sig) → Buf (Elt Ideal) ℓ) (c : Dev Cert.Kernel2Ideal.nD) :
    Cert.Reference2Ideal.Read.val_main_v50 (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))
      = Cert.Kernel2Ideal.Value.G9 m c := by
  funext x
  rw [eq_ix2 x]
  exact (Ref.ref_result _ _ _ _ _ _ (x 0) (x 1)).trans (result_at m c (x 0) (x 1)).symm

/-- The kernel and the reference compute one result over the extended reals. -/
theorem agree : Cert.algebraic_Kernel2Ideal_Reference2Ideal (hKernel2Ideal := Cert.Kernel2Ideal.Gen.facts) (hReference2Ideal := Cert.Reference2Ideal.Gen.facts) := by
  intro m g m' g' _ hm
  refine ⟨fun c => Cert.Kernel2Ideal.Value.G9 m c, Cert.Kernel2Ideal.Value.run m g, ?_⟩
  refine (θ_run Cert.Reference2Ideal.defs _ _).mono (fun r h c => ⟨?_, (h c).2⟩) (Cert.Reference2Ideal.Value.run (F := Ideal) m' g')
  obtain ⟨h0, h1, h2, h3, h4, h5⟩ := hm c
  refine (h c).1.trans ((Cert.Reference2Ideal.Read.val_main_v50_eq _ _).trans ?_)
  show Cert.Reference2Ideal.Read.val_main_v50 (F := Ideal) (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)) (m' ((c.tc : Thread Cert.Reference2Ideal.nD Cert.Reference2Ideal.τ).loc Cert.Reference2Ideal.main_arg3)) (m' ((c.tc : Thread Cert.Reference2Ideal.nD Cert.Reference2Ideal.τ).loc Cert.Reference2Ideal.main_arg4)) (m' ((c.tc : Thread Cert.Reference2Ideal.nD Cert.Reference2Ideal.τ).loc Cert.Reference2Ideal.main_arg5)) = _
  rw [h0, h1, h2, h3, h4, h5]
  exact result_eq m c

end Cert.Proof.Ffn
-- ==== Proof.InProj.Loop.lean ====
/- The first column tile's eight trips leave the norm of the block's rows. -/
module

public import proofs.«01_k».proof.Proof.Ffn.Spec
public import proofs.«01_k».proof.Proof.Gen.Kernel3Ideal.Value
public import Idealize.ShloMosaic.Lib.Pipeline.ReadBack
public import Idealize.ShloMosaic.Lib.WritesUnit
public import Idealize.ShloMosaic.Lib.WholeRead

@[expose] public section

set_option maxRecDepth 16384
noncomputable section
namespace Cert.Proof.InProj
open Cert.Kernel3Ideal Cert.Kernel3Ideal.Gen Idealize.ShloMosaic Idealize.ShloMosaic.TcCoe Idealize.SL.Sem
open Cert.Proof.Ffn (rms)

theorem norm_apply (h : Vec Ideal S128x2048 .f32) (w : Vec Ideal S1x2048 .f32) (p : Fin 128) (k : Fin 2048) :
    k0_pay1 h w (ix2 p k) = rms (fun k => h (ix2 p k)) (fun k => w (ix2 0 k)) k := by
  pointwise [k0_pay1]
  rfl

theorem proj_apply (a : Vec Ideal S1024x2048 .bf16) (w : Vec Ideal S2048x1024 .bf16) (p q : Fin 1024) :
    k0_pay2 a w (ix2 p q) = ∑ k, a (ix2 p k) * w (ix2 k q) := by
  pointwise [k0_pay2]

/-- The block's rows' norm. -/
def normB (x : Vec Ideal S1024x2048 .f32) (w : Vec Ideal S1x2048 .f32) : Vec Ideal S1024x2048 .bf16 :=
  fun y => rms (fun k => x (ix2 (y (0 : Fin 2)) k)) (fun k => w (ix2 (0 : Fin 1) k)) (y (1 : Fin 2))

variable (vs : Variants) (c : Dev nD) (bd : Option vs.V) (i : grid0.Coords)
  (m2 : Memref sig .tc .vmem S1024x2048 .f32) (w2 : m2.IsWhole) (m3 : Memref sig .tc .vmem S1x2048 .f32) (w3 : m3.IsWhole)
  (m4 : Memref sig .tc .vmem S2048x1024 .bf16) (w4 : m4.IsWhole) (m5 : Memref sig .tc .vmem S1024x1024 .bf16) (w5 : m5.IsWhole)
  (m6 : Memref sig .tc .vmem S1024x2048 .bf16) (w6 : m6.IsWhole) (hh)

/-- The first trips' rows of the norm. -/
theorem loop_c (x : Vec Ideal S1024x2048 .f32) (w : Vec Ideal S1x2048 .f32) (y : S1024x2048.Idx) : ∀ n : ℕ, n ≤ 8 → (y (0 : Fin 2)).val < 128 * n →
    View.canon (pb_k0_t1 (F := Ideal) vs c bd i m2 w2 m3 w3 m4 w4 m5 w5 m6 w6 hh (w2.unread x) (w3.unread w) n) y = normB x w y
  | 0, _, h => absurd h (by omega)
  | n + 1, hn, h => by
    have hk : n < k0_t1_loop.trips := lt_of_lt_of_le (show n < 8 by omega) (by decide)
    rw [pb_k0_t1_succ vs c bd i m2 w2 m3 w3 m4 w4 m5 w5 m6 w6 hh (w2.unread x) (w3.unread w) ⟨n, hk⟩]
    have ih := loop_c x w y n (by omega)
    revert ih
    generalize pb_k0_t1 (F := Ideal) vs c bd i m2 w2 m3 w3 m4 w4 m5 w5 m6 w6 hh (w2.unread x) (w3.unread w) n = L
    intro ih
    unfold tripL_k0_t1 trip_k0_t1
    dsimp only
    rw [← View.read_writes_junk_eq_canon (View.whole cc0_scratch0)] at ih ⊢
    by_cases hy : (y (0 : Fin 2)).val < 128 * n
    · exact (View.read_writes_cons_rows_of_not_mem (d := ![1024, 2048]) (o := 128 * n) (W := 128) (View.whole cc0_scratch0) _ _ _ L y (k0_off1_eq ⟨n, hk⟩) rfl (.inl hy)).trans (ih hy)
    · refine (View.read_writes_cons_rows_of_mem (d := ![1024, 2048]) (o := 128 * n) (View.whole cc0_scratch0) _ _ _ L y (ix2 (⟨(y (0 : Fin 2)).val - 128 * n, by omega⟩ : Fin 128) (y (1 : Fin 2))) (k0_off1_eq ⟨n, hk⟩) ?_ rfl).trans ?_
      · show (y (0 : Fin 2)).val = 128 * n + ((y (0 : Fin 2)).val - 128 * n); omega
      · refine (norm_apply _ _ _ _).trans (congrArg₂ (fun a b => rms a b (y (1 : Fin 2))) (funext fun k => ?_) (funext fun k => ?_))
        · refine (w2.readAt_unread x _ _).trans (congrArg x (funext fun a => Fin.ext ?_))
          have e := k0_off1_eq ⟨n, hk⟩
          fin_cases a
          · show k0_off1 ⟨n, hk⟩ 0 + 1 * ((y (0 : Fin 2)).val - 128 * n) = (y (0 : Fin 2)).val
            rw [e]
            show 128 * n + 1 * ((y (0 : Fin 2)).val - 128 * n) = (y (0 : Fin 2)).val
            omega
          · show k0_off1 ⟨n, hk⟩ 1 + 1 * k.val = k.val
            rw [e]
            show 0 + 1 * k.val = k.val
            omega
        · refine (w3.readAt_unread w _ _).trans (congrArg w (funext fun a => Fin.ext ?_))
          fin_cases a
          · rfl
          · show 0 + 1 * k.val = k.val
            omega

theorem trips8 : Scf.trips 0#32 (Scalar.addi 0#32 8#32) 1#32 = 8 := by decide

/-- The whole norm, read back after the trips. -/
theorem norm_read (x : Vec Ideal S1024x2048 .f32) (w : Vec Ideal S1x2048 .f32) (ib) :
    (View.whole cc0_scratch0).readCov (Val := Elt Ideal) (s := S1024x2048) (e := .bf16) (pb_k0_t1 (F := Ideal) vs c bd i m2 w2 m3 w3 m4 w4 m5 w5 m6 w6 hh (w2.unread x) (w3.unread w) (Scf.trips 0#32 (Scalar.addi 0#32 8#32) 1#32))
      (Rect.unit ![0, 0] ![1024, 2048] ib).toLoadRect = normB x w := by
  rw [trips8, View.readCov_eq_canon']
  funext j
  refine (loop_c vs c bd i m2 w2 m3 w3 m4 w4 m5 w5 m6 w6 hh x w _ 8 (le_refl _) (by exact Fin.isLt _)).trans (congrArg (normB x w) (funext fun a => Fin.ext ?_))
  fin_cases a
  · show 0 + 1 * (j (0 : Fin 2)).val = (j (0 : Fin 2)).val; omega
  · show 0 + 1 * (j (1 : Fin 2)).val = (j (1 : Fin 2)).val; omega

/-- The norm the trips leave. -/
theorem norm_left (x : Vec Ideal S1024x2048 .f32) (w : Vec Ideal S1x2048 .f32) (y : S1024x2048.Idx) :
    View.canon (pb_k0_t1 (F := Ideal) vs c bd i m2 w2 m3 w3 m4 w4 m5 w5 m6 w6 hh (w2.unread x) (w3.unread w) (Scf.trips 0#32 (Scalar.addi 0#32 8#32) 1#32)) y = normB x w y := by
  rw [trips8]
  exact loop_c vs c bd i m2 w2 m3 w3 m4 w4 m5 w5 m6 w6 hh x w y 8 (le_refl _) (y (0 : Fin 2)).isLt

section
variable (m : (ℓ : Loc nD τ sig) → Buf (Elt Ideal) ℓ)

/-- The norm at a block's first column tile. -/
theorem nrm_A (c : Dev nD) (t : Fin cfg0.N) (h0 : t.val % 5 = 0) : (outsAt0 m c t.val t.isLt).2 = normB (iblk m c 0 t) (iblk m c 1 t) := by
  funext y
  rw [outsAt0_A m c t h0]
  dsimp only
  frame_open
  try simp (disch := decide) only [↓ View.readCov_skip, ↓ View.readCov_cons_toLoadRect, ↓ View.readCov_fill]
  frame_out
  exact norm_left ..

/-- The norm at a later column tile. -/
theorem nrm_B (c : Dev nD) (t : Fin cfg0.N) (h0 : ¬ t.val % 5 = 0) :
    (outsAt0 m c t.val t.isLt).2 = (outsAt0 m c (t.val - 1) (Nat.lt_of_le_of_lt (Nat.sub_le _ _) t.isLt)).2 := by
  rw [outsAt0_B m c t h0]
  rfl

/-- The output block is the norm's product with the tile's weights. -/
theorem out_A (c : Dev nD) (t : Fin cfg0.N) (h0 : t.val % 5 = 0) (p q : Fin 1024) :
    (outsAt0 m c t.val t.isLt).1 (ix2 p q) = ∑ k, (outsAt0 m c t.val t.isLt).2 (ix2 p k) * iblk m c 2 t (ix2 k q) := by
  rw [nrm_A m c t h0, outsAt0_A m c t h0]
  dsimp only
  frame_open
  try simp (disch := decide) only [↓ View.readCov_skip, ↓ View.readCov_cons_toLoadRect, ↓ View.readCov_fill]
  frame_out
  simp only [norm_read, read_unread_whole]
  exact proj_apply _ _ _ _

theorem out_B (c : Dev nD) (t : Fin cfg0.N) (h0 : ¬ t.val % 5 = 0) (p q : Fin 1024) :
    (outsAt0 m c t.val t.isLt).1 (ix2 p q) = ∑ k, (outsAt0 m c t.val t.isLt).2 (ix2 p k) * iblk m c 2 t (ix2 k q) := by
  rw [nrm_B m c t h0, outsAt0_B m c t h0]
  dsimp only
  frame_open
  try simp (disch := decide) only [↓ View.readCov_skip, ↓ View.readCov_cons_toLoadRect, ↓ View.readCov_fill]
  frame_out
  simp only [read_unread_whole]
  exact proj_apply _ _ _ _
end

end Cert.Proof.InProj
-- ==== Proof.InProj.Fold.lean ====
/- The input projection's result at a row and a column. -/
module

public import proofs.«01_k».proof.Proof.InProj.Loop
public import Idealize.ShloMosaic.Lib.StableHlo.ReadAt

@[expose] public section

set_option maxRecDepth 16384
noncomputable section
namespace Cert.Proof.InProj
open Cert.Kernel3Ideal Cert.Kernel3Ideal.Gen Idealize.ShloMosaic Idealize.ShloMosaic.TcCoe Idealize.SL.Sem
open Cert.Proof.Ffn (rms)

/-- The block each window is at, at each point. -/
theorem idx_all : ∀ t : Fin cfg0.N, win0_0.index t = ![t.val / 5, 0] ∧ win0_1.index t = ![0, 0] ∧ win0_2.index t = ![0, t.val % 5] :=
  (by decide +kernel : ∀ t : Fin grid0.N, _)

theorem lt_pts (t : Fin cfg0.N) : t.val < 80 := lt_of_lt_of_eq t.isLt N_0

/-- A block's row in the whole array. -/
def row (i : ℕ) (p : Fin 1024) : Fin 16384 := ⟨(1024 * i + p.val) % 16384, Nat.mod_lt _ (by decide)⟩
theorem row_val {i : ℕ} (h : i < 16) (p : Fin 1024) : (row i p).val = 1024 * i + p.val := Nat.mod_eq_of_lt (by omega)

section
variable (m : (ℓ : Loc nD τ sig) → Buf (Elt Ideal) ℓ) (c : Dev nD)

def Xf (r : Fin 16384) (k : Fin 2048) : EReal :=
  m ((c : Thread nD τ).loc main_arg0) (ix3 (⟨r.val / 2048, by omega⟩ : Fin 8) (⟨r.val % 2048, Nat.mod_lt _ (by decide)⟩ : Fin 2048) k)
def nwf (k : Fin 2048) : EReal := m ((c : Thread nD τ).loc main_arg1) (ix2 (0 : Fin 1) k)
def Wf (k : Fin 2048) (d : Fin 5120) : EReal := m ((c : Thread nD τ).loc main_arg2) (ix3 (0 : Fin 1) k d)

theorem x_tab (r : Fin 16384) (k : Fin 2048) : V m c main_v0 (ix2 r k) = Xf m c r k := by
  unfold V Xf
  after_reads_at

theorem norm_tab (k : Fin 2048) : V m c main_v2 (ix2 (0 : Fin 1) k) = nwf m c k := by
  unfold V nwf
  after_reads_at

theorem w_tab (k : Fin 2048) (d : Fin 5120) : V m c main_v4 (ix2 k d) = Wf m c k d := by
  unfold V Wf
  after_reads_at

theorem iblk_0 (t : Fin cfg0.N) (p : Fin 1024) (k : Fin 2048) : iblk m c 0 t (ix2 p k) = Xf m c (row (t.val / 5) p) k := by
  have ht := lt_pts t
  have hr := row_val (show t.val / 5 < 16 by omega) p
  rw [← x_tab m c]
  blk_ext [iblk, idx_all t]
theorem iblk_1 (t : Fin cfg0.N) (k : Fin 2048) : iblk m c 1 t (ix2 (0 : Fin 1) k) = nwf m c k := by
  rw [← norm_tab m c]
  blk_ext [iblk, idx_all t]
theorem iblk_2 (t : Fin cfg0.N) (k : Fin 2048) (q : Fin 1024) (x : Fin 5120) (hx : x.val = 1024 * (t.val % 5) + q.val) : iblk m c 2 t (ix2 k q) = Wf m c k x := by
  rw [← w_tab m c]
  blk_ext [iblk, idx_all t]

theorem nrm_at : ∀ (n : ℕ) (hn : n < cfg0.N) (p : Fin 1024) (k : Fin 2048),
    (outsAt0 m c n hn).2 (ix2 p k) = rms (Xf m c (row (n / 5) p)) (nwf m c) k := by
  intro n
  induction n using Nat.strong_induction_on with
  | _ n ih =>
    intro hn p k
    by_cases h0 : n % 5 = 0
    · rw [nrm_A m c ⟨n, hn⟩ h0]
      show rms (fun k => iblk m c 0 ⟨n, hn⟩ (ix2 p k)) (fun k => iblk m c 1 ⟨n, hn⟩ (ix2 (0 : Fin 1) k)) k = _
      simp only [iblk_0, iblk_1]
    · rw [nrm_B m c ⟨n, hn⟩ h0]
      refine (ih (n - 1) (by omega) _ p k).trans ?_
      rw [show (n - 1) / 5 = n / 5 by omega]

theorem out_at (t : Fin cfg0.N) (p q : Fin 1024) (x : Fin 5120) (hx : x.val = 1024 * (t.val % 5) + q.val) :
    (outsAt0 m c t.val t.isLt).1 (ix2 p q) = ∑ k, rms (Xf m c (row (t.val / 5) p)) (nwf m c) k * Wf m c k x := by
  have e : (outsAt0 m c t.val t.isLt).1 (ix2 p q) = ∑ k, (outsAt0 m c t.val t.isLt).2 (ix2 p k) * iblk m c 2 t (ix2 k q) := by
    by_cases h0 : t.val % 5 = 0
    · exact out_A m c t h0 p q
    · exact out_B m c t h0 p q
  refine e.trans (Finset.sum_congr rfl fun k _ => ?_)
  rw [nrm_at m c, iblk_2 m c t k q x hx]

/-- The launch's result at a row and a column: the row's norm times the column's weights. -/
theorem result_at (r : Fin 16384) (d : Fin 5120) :
    Value.G3 m c (ix2 r d) = ∑ k, rms (Xf m c r) (nwf m c) k * Wf m c k d := by
  have hN : cfg0.N = 80 := N_0
  have hp : Value.pt3Of (ix2 r d) = 5 * (r.val / 1024) + d.val / 1024 := by
    show 5 * (r.val / 1024 - 0) + 1 * (d.val / 1024 - 0) = _
    omega
  have ht : 5 * (r.val / 1024) + d.val / 1024 < cfg0.N := by omega
  have hr : row (r.val / 1024) ⟨r.val % 1024, Nat.mod_lt _ (by decide)⟩ = r := Fin.ext (by rw [row_val (by omega)]; dsimp only; omega)
  unfold Value.G3
  rw [dif_pos (by rw [hp]; exact ht), Value.fold0_congr m c _ _ (5 * (r.val / 1024) + d.val / 1024) (by omega) hp, ← Value.outsAt0_sweep m c _ ht]
  have key := out_at m c ⟨5 * (r.val / 1024) + d.val / 1024, ht⟩ ⟨r.val % 1024, Nat.mod_lt _ (by decide)⟩ ⟨d.val % 1024, Nat.mod_lt _ (by decide)⟩ d (by dsimp only; omega)
  rw [show (5 * (r.val / 1024) + d.val / 1024) / 5 = r.val / 1024 by omega, hr] at key
  exact (congrArg _ (eq_ix2 _)).trans key

end
end Cert.Proof.InProj
-- ==== Proof.InProj.Ref.lean ====
/- The input projection's reference at an index. -/
module

public import proofs.«01_k».proof.Proof.Ffn.Spec
public import proofs.«01_k».proof.Proof.Gen.Reference3Ideal.Read

@[expose] public section

set_option maxRecDepth 16384
noncomputable section
namespace Cert.Proof.InProj.Ref
open Cert.Reference3Ideal Cert.Reference3Ideal.Gen Cert.Reference3Ideal.Read Idealize.ShloMosaic Idealize.ShloMosaic.TcCoe Idealize.SL.Sem Idealize.ShloMosaic.StableHlo
open Cert.Proof.Ffn (rms)

variable (x0 : (⟨S8x2048x2048, .f32⟩ : BufTy).Contents (Elt Ideal)) (x1 : (⟨S1x2048, .f32⟩ : BufTy).Contents (Elt Ideal))
  (x2 : (⟨S1x2048x5120, .f32⟩ : BufTy).Contents (Elt Ideal))

theorem ref_nrm (b : Fin 8) (p k : Fin 2048) :
    val_main_v13 (F := Ideal) x0 x1 (ix3 b p k) = rms (fun k => x0 (ix3 b p k)) (fun k => x1 (ix2 (0 : Fin 1) k)) k := by
  pointwise [val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  rfl

theorem ref_w (k : Fin 2048) (d : Fin 5120) : val_main_v14 (F := Ideal) x2 (ix2 k d) = x2 (ix3 (0 : Fin 1) k d) := by
  pointwise [val_main_v14]

theorem ref_proj (b : Fin 8) (p : Fin 2048) (d : Fin 5120) : val_main_v15 (F := Ideal) x0 x1 x2 (ix3 b p d)
    = ∑ k, rms (fun k => x0 (ix3 b p k)) (fun k => x1 (ix2 (0 : Fin 1) k)) k * x2 (ix3 (0 : Fin 1) k d) := by
  have hl : ∀ k, lidx_main_v15 (ix3 b p d) k = ix3 b p k := fun k => (eq_ix3 _).trans rfl
  have hr : ∀ k, ridx_main_v15 (ix3 b p d) k = ix2 k d := fun k => (eq_ix2 _).trans rfl
  rw [val_main_v15_apply]
  refine Finset.sum_congr rfl fun k _ => ?_
  rw [hl, ref_nrm, hr, ref_w]

/-- The reference's result at a row and a column. -/
theorem ref_result (r : Fin 16384) (d : Fin 5120) : val_main_v17 (F := Ideal) x0 x1 x2 (ix2 r d)
    = ∑ k, rms (fun k => x0 (ix3 (⟨r.val / 2048, by omega⟩ : Fin 8) (⟨r.val % 2048, Nat.mod_lt _ (by decide)⟩ : Fin 2048) k)) (fun k => x1 (ix2 (0 : Fin 1) k)) k * x2 (ix3 (0 : Fin 1) k d) := by
  refine Eq.trans ?_ (ref_proj x0 x1 x2 _ _ d)
  pointwise [val_main_v17, val_main_v16]

end Cert.Proof.InProj.Ref
-- ==== Proof.InProj.Agree.lean ====
/- The input projection and its reference agree. -/
module

public import proofs.«01_k».proof.Defs
public import proofs.«01_k».proof.Proof.InProj.Fold
public import proofs.«01_k».proof.Proof.InProj.Ref

@[expose] public section

noncomputable section
namespace Cert.Proof.InProj
open Idealize.ShloMosaic Idealize.SL.Sem

/-- The reference runs, leaves its arguments and every counter as they were. -/
theorem frame_r : Cert.quiescent_Reference3Ideal (hReference3Ideal := Cert.Reference3Ideal.Gen.facts) := fun m ρ _ =>
  (θ_run Cert.Reference3Ideal.defs _ _).mono (fun r h => ⟨fun c => (h c).2, Idealize.ShloMosaic.sem_eq_zero_of_no_sems (by decide) r.2⟩)
    (Cert.Reference3Ideal.Value.run (F := Ideal) m ρ)

/-- The two results agree, element by element, where the arguments do. -/
theorem result_eq (m : (ℓ : Loc Cert.Kernel3Ideal.nD Cert.Kernel3Ideal.τ Cert.Kernel3Ideal.sig) → Buf (Elt Ideal) ℓ) (c : Dev Cert.Kernel3Ideal.nD) :
    Cert.Reference3Ideal.Read.val_main_v17 (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2))
      = Cert.Kernel3Ideal.Value.G3 m c := by
  funext x
  rw [eq_ix2 x]
  exact (Ref.ref_result _ _ _ (x 0) (x 1)).trans (result_at m c (x 0) (x 1)).symm

/-- The kernel and the reference compute one result over the extended reals. -/
theorem agree : Cert.algebraic_Kernel3Ideal_Reference3Ideal (hKernel3Ideal := Cert.Kernel3Ideal.Gen.facts) (hReference3Ideal := Cert.Reference3Ideal.Gen.facts) := by
  intro m g m' g' _ hm
  refine ⟨fun c => Cert.Kernel3Ideal.Value.G3 m c, Cert.Kernel3Ideal.Value.run m g, ?_⟩
  refine (θ_run Cert.Reference3Ideal.defs _ _).mono (fun r h c => ⟨?_, (h c).2⟩) (Cert.Reference3Ideal.Value.run (F := Ideal) m' g')
  obtain ⟨h0, h1, h2⟩ := hm c
  refine (h c).1.trans ((Cert.Reference3Ideal.Read.val_main_v17_eq ..).trans ?_)
  show Cert.Reference3Ideal.Read.val_main_v17 (F := Ideal) (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) = _
  rw [h0, h1, h2]
  exact result_eq m c

end Cert.Proof.InProj
-- ==== Proof.OutProj.Fold.lean ====
/- The output projection's result at a row and a column: the residual and the product with the weights. -/
module

public import proofs.«01_k».proof.Proof.Gen.Kernel4Ideal.Value
public import Idealize.ShloMosaic.Lib.Pipeline.ReadBack
public import Idealize.ShloMosaic.Lib.Pipeline.ValueKit
public import Idealize.ShloMosaic.Lib.WritesUnit
public import Idealize.ShloMosaic.Lib.StableHlo.ReadAt

@[expose] public section

set_option maxRecDepth 16384
noncomputable section
namespace Cert.Proof.OutProj
open Cert.Kernel4Ideal Cert.Kernel4Ideal.Gen Idealize.ShloMosaic Idealize.ShloMosaic.TcCoe Idealize.SL.Sem

theorem proj_apply (x : Vec Ideal S1024x1024 .f32) (a : Vec Ideal S1024x2048 .bf16) (w : Vec Ideal S2048x1024 .bf16) (p q : Fin 1024) :
    k0_pay1 x a w (ix2 p q) = x (ix2 p q) + ∑ k, a (ix2 p k) * w (ix2 k q) := by
  pointwise [k0_pay1]

/-- A block's output. -/
theorem out_apply (a : Vec Ideal S1024x2048 .bf16) (w : Vec Ideal S2048x1024 .bf16) (x : Vec Ideal S1024x1024 .f32) (p q : Fin 1024) :
    out0_3 a w x (ix2 p q) = x (ix2 p q) + ∑ k, a (ix2 p k) * w (ix2 k q) := by
  have ea : View.ld a r0_1 = a := funext fun y => congrArg a (funext fun b => Fin.ext (by fin_cases b <;> exact (Nat.zero_add _).trans (Nat.one_mul _)))
  have ew : View.ld w r0_2 = w := funext fun y => congrArg w (funext fun b => Fin.ext (by fin_cases b <;> exact (Nat.zero_add _).trans (Nat.one_mul _)))
  have ex : View.ld x r0_0 = x := funext fun y => congrArg x (funext fun b => Fin.ext (by fin_cases b <;> exact (Nat.zero_add _).trans (Nat.one_mul _)))
  unfold out0_3
  rw [ea, ew, ex, ← View.read_writes_junk_eq_canon (View.whole cc0_stg3_0)]
  refine (View.read_writes_cons_unit_of_mem (View.whole cc0_stg3_0) _ _ _ [] (ix2 p q) (ix2 p q) rfl fun a => ?_).trans (proj_apply x a w p q)
  fin_cases a
  · exact (Nat.zero_add p.val).symm
  · exact (Nat.zero_add q.val).symm

/-- The block each window is at, at each point. -/
theorem idx_all : ∀ t : Fin cfg0.N, win0_0.index t = ![t.val / 2, 0] ∧ win0_1.index t = ![0, t.val % 2] ∧ win0_2.index t = ![t.val / 2, t.val % 2]
    ∧ win0_3.index t = ![t.val / 2, t.val % 2] :=
  (by decide +kernel : ∀ t : Fin grid0.N, _)

theorem lt_pts (t : Fin cfg0.N) : t.val < 32 := lt_of_lt_of_eq t.isLt N_0

section
variable (m : (ℓ : Loc nD τ sig) → Buf (Elt Ideal) ℓ) (c : Dev nD)

def Mf (r : Fin 16384) (k : Fin 2048) : EReal := m ((c : Thread nD τ).loc main_arg0) (ix2 r k)
def Wf (k d : Fin 2048) : EReal := m ((c : Thread nD τ).loc main_arg1) (ix3 (0 : Fin 1) k d)
def Xf (r : Fin 16384) (d : Fin 2048) : EReal :=
  m ((c : Thread nD τ).loc main_arg2) (ix3 (⟨r.val / 2048, by omega⟩ : Fin 8) (⟨r.val % 2048, Nat.mod_lt _ (by decide)⟩ : Fin 2048) d)

theorem x_tab (r : Fin 16384) (k : Fin 2048) : V m c main_v0 (ix2 r k) = Xf m c r k := by
  unfold V Xf
  after_reads_at

theorem w_tab (k d : Fin 2048) : V m c main_v2 (ix2 k d) = Wf m c k d := by
  unfold V Wf
  after_reads_at

theorem iblk_0 (t : Fin cfg0.N) (p : Fin 1024) (k : Fin 2048) (r : Fin 16384) (hr : r.val = 1024 * (t.val / 2) + p.val) : iblk m c 0 t (ix2 p k) = Mf m c r k := by
  unfold Mf
  rw [← V_main_arg0 m c]
  blk_ext [iblk, idx_all t]
theorem iblk_1 (t : Fin cfg0.N) (k : Fin 2048) (q : Fin 1024) (d : Fin 2048) (hd : d.val = 1024 * (t.val % 2) + q.val) : iblk m c 1 t (ix2 k q) = Wf m c k d := by
  rw [← w_tab m c]
  blk_ext [iblk, idx_all t]
theorem iblk_2 (t : Fin cfg0.N) (p q : Fin 1024) (r : Fin 16384) (hr : r.val = 1024 * (t.val / 2) + p.val) (d : Fin 2048) (hd : d.val = 1024 * (t.val % 2) + q.val) :
    iblk m c 2 t (ix2 p q) = Xf m c r d := by
  rw [← x_tab m c]
  blk_ext [iblk, idx_all t]

/-- The launch's result at a row and a column. -/
def res (r : Fin 16384) (d : Fin 2048) : EReal := Xf m c r d + ∑ k, Mf m c r k * Wf m c k d

/-- The launch's result array. -/
def G : Buf (Elt Ideal) ((c : Thread nD τ).loc main_v3) := fun i => res m c (i (0 : Fin 2)) (i (1 : Fin 2))

theorem block_at (t : Fin cfg0.N) (p q : Fin 1024) (r : Fin 16384) (hr : r.val = 1024 * (t.val / 2) + p.val) (d : Fin 2048) (hd : d.val = 1024 * (t.val % 2) + q.val) :
    out0_3 (iblk m c 0 t) (iblk m c 1 t) (iblk m c 2 t) (ix2 p q) = res m c r d := by
  refine (out_apply (iblk m c 0 t) (iblk m c 1 t) (iblk m c 2 t) p q).trans ?_
  unfold res
  refine congrArg₂ (· + ·) (iblk_2 m c t p q r hr d hd) (Finset.sum_congr rfl fun k _ => ?_)
  rw [iblk_0 m c t p k r hr, iblk_1 m c t k q d hd]

theorem flushed_eq (t : Fin cfg0.N) : (dats m 0 c).flushed 3 t = ((cfg0.win 3).blk t).view.read (Elt Ideal) (G m c) := by
  rw [Value.flushed3]
  obtain ⟨-, -, -, e⟩ := idx_all t
  funext y
  have b0 : (((cfg0.win 3).blk t).view.emb y 0).val = win0_3.index t (0 : Fin 2) * 1024 + 1 * (y 0).val := rfl
  have b1 : (((cfg0.win 3).blk t).view.emb y 1).val = win0_3.index t (1 : Fin 2) * 1024 + 1 * (y 1).val := rfl
  have h0 : win0_3.index t (0 : Fin 2) = t.val / 2 := congrFun e 0
  have h1 : win0_3.index t (1 : Fin 2) = t.val % 2 := congrFun e 1
  show out0_3 (iblk m c 0 t) (iblk m c 1 t) (iblk m c 2 t) ((cfg0.win 3).xinj (grid0.coords t) y) = res m c (((cfg0.win 3).blk t).view.emb y 0) (((cfg0.win 3).blk t).view.emb y 1)
  refine Eq.trans (congrArg _ (eq_ix2 _)) (block_at m c t ⟨(y 0).val, (y 0).isLt⟩ ⟨(y 1).val, (y 1).isLt⟩ _ ?_ _ ?_)
  · rw [b0, h0]; dsimp only; omega
  · rw [b1, h1]; dsimp only; omega

theorem mem_blk (t : Fin cfg0.N) (i : S16384x2048.Idx) (h0 : (i 0).val / 1024 = t.val / 2) (h1 : (i 1).val / 1024 = t.val % 2) : i ∈ ((cfg0.win 3).blk t).view.set := by
  obtain ⟨-, -, -, e⟩ := idx_all t
  show i ∈ ((View.whole main_v3).slice (win0_3.rect t)).set
  rw [View.set_slice_whole, Rect.mem_set_unit]
  intro a
  show win0_3.index t a * S1024x1024.size a ≤ (i a).val ∧ (i a).val < win0_3.index t a * S1024x1024.size a + S1024x1024.size a
  rw [e]
  match a with
  | ⟨0, _⟩ => show t.val / 2 * 1024 ≤ (i 0).val ∧ (i 0).val < t.val / 2 * 1024 + 1024; omega
  | ⟨1, _⟩ => show t.val % 2 * 1024 ≤ (i 1).val ∧ (i 1).val < t.val % 2 * 1024 + 1024; omega

theorem covered (i : S16384x2048.Idx) : ∃ t : Fin cfg0.N, (cfg0.win 3).flush t = true ∧ i ∈ ((cfg0.win 3).blk t).view.set := by
  have hi0 : (i 0).val < 16384 := (i 0).isLt
  have hi1 : (i 1).val < 2048 := (i 1).isLt
  have hN : cfg0.N = 32 := N_0
  exact ⟨⟨2 * ((i 0).val / 1024) + (i 1).val / 1024, by omega⟩, flush0_3 _, mem_blk _ i (by dsimp only; omega) (by dsimp only; omega)⟩

theorem final : (dats m 0 c).arrAt 3 cfg0.N = G m c :=
  (dats m 0 c).arrAt_eq_of_cover 3 _ (fun t _ => flushed_eq m c t) (fun i => covered i)

theorem result_at (r : Fin 16384) (d : Fin 2048) : G m c (ix2 r d) = res m c r d := rfl

end

/-- The run with its result named and its arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v3) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.Proof.OutProj
-- ==== Proof.OutProj.Ref.lean ====
/- The output projection's reference at an index. -/
module

public import proofs.«01_k».proof.Proof.Gen.Reference4Ideal.Read
public import Idealize.ShloMosaic.Lib.Pipeline.ValueKit

@[expose] public section

set_option maxRecDepth 16384
noncomputable section
namespace Cert.Proof.OutProj.Ref
open Cert.Reference4Ideal Cert.Reference4Ideal.Gen Cert.Reference4Ideal.Read Idealize.ShloMosaic Idealize.ShloMosaic.TcCoe Idealize.SL.Sem Idealize.ShloMosaic.StableHlo

variable (x0 : (⟨S16384x2048, .bf16⟩ : BufTy).Contents (Elt Ideal)) (x1 : (⟨S1x2048x2048, .f32⟩ : BufTy).Contents (Elt Ideal))
  (x2 : (⟨S8x2048x2048, .f32⟩ : BufTy).Contents (Elt Ideal))

theorem ref_mix (b : Fin 8) (p k : Fin 2048) (r : Fin 16384) (hr : r.val = b.val * 2048 + p.val) : val_main_v1 (F := Ideal) x0 (ix3 b p k) = x0 (ix2 r k) := by
  have e : r = ⟨b.val * 2048 + p.val, by omega⟩ := Fin.ext hr
  rw [e]
  pointwise [val_main_v1, val_main_v0]

theorem ref_w (k d : Fin 2048) : val_main_v2 (F := Ideal) x1 (ix2 k d) = x1 (ix3 (0 : Fin 1) k d) := by
  pointwise [val_main_v2]

theorem ref_sum (b : Fin 8) (p d : Fin 2048) (r : Fin 16384) (hr : r.val = b.val * 2048 + p.val) :
    val_main_v4 (F := Ideal) x0 x1 x2 (ix3 b p d) = x2 (ix3 b p d) + ∑ k, x0 (ix2 r k) * x1 (ix3 (0 : Fin 1) k d) := by
  have hl : ∀ k, lidx_main_v3 (ix3 b p d) k = ix3 b p k := fun k => (eq_ix3 _).trans rfl
  have hr' : ∀ k, ridx_main_v3 (ix3 b p d) k = ix2 k d := fun k => (eq_ix2 _).trans rfl
  rw [val_main_v4_apply, val_main_v3_apply]
  refine congrArg (x2 (ix3 b p d) + ·) (Finset.sum_congr rfl fun k _ => ?_)
  rw [hl, ref_mix x0 b p k r hr, hr', ref_w]

/-- The reference's result at a row and a column. -/
theorem ref_result (r : Fin 16384) (d : Fin 2048) : val_main_v5 (F := Ideal) x0 x1 x2 (ix2 r d)
    = x2 (ix3 (⟨r.val / 2048, by omega⟩ : Fin 8) (⟨r.val % 2048, Nat.mod_lt _ (by decide)⟩ : Fin 2048) d) + ∑ k, x0 (ix2 r k) * x1 (ix3 (0 : Fin 1) k d) := by
  refine Eq.trans ?_ (ref_sum x0 x1 x2 _ _ d r (by dsimp only; omega))
  pointwise [val_main_v5]

end Cert.Proof.OutProj.Ref
-- ==== Proof.OutProj.Agree.lean ====
/- The output projection and its reference agree. -/
module

public import proofs.«01_k».proof.Defs
public import proofs.«01_k».proof.Proof.OutProj.Fold
public import proofs.«01_k».proof.Proof.OutProj.Ref

@[expose] public section

noncomputable section
namespace Cert.Proof.OutProj
open Idealize.ShloMosaic Idealize.SL.Sem

/-- The reference runs, leaves its arguments and every counter as they were. -/
theorem frame_r : Cert.quiescent_Reference4Ideal (hReference4Ideal := Cert.Reference4Ideal.Gen.facts) := fun m ρ _ =>
  (θ_run Cert.Reference4Ideal.defs _ _).mono (fun r h => ⟨fun c => (h c).2, Idealize.ShloMosaic.sem_eq_zero_of_no_sems (by decide) r.2⟩)
    (Cert.Reference4Ideal.Value.run (F := Ideal) m ρ)

/-- The two results agree, element by element, where the arguments do. -/
theorem result_eq (m : (ℓ : Loc Cert.Kernel4Ideal.nD Cert.Kernel4Ideal.τ Cert.Kernel4Ideal.sig) → Buf (Elt Ideal) ℓ) (c : Dev Cert.Kernel4Ideal.nD) :
    Cert.Reference4Ideal.Read.val_main_v5 (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2))
      = G m c := by
  funext x
  rw [eq_ix2 x]
  exact (Ref.ref_result _ _ _ (x 0) (x 1)).trans (result_at m c (x 0) (x 1)).symm

/-- The kernel and the reference compute one result over the extended reals. -/
theorem agree : Cert.algebraic_Kernel4Ideal_Reference4Ideal (hKernel4Ideal := Cert.Kernel4Ideal.Gen.facts) (hReference4Ideal := Cert.Reference4Ideal.Gen.facts) := by
  intro m g m' g' _ hm
  refine ⟨fun c => G m c, run m g, ?_⟩
  refine (θ_run Cert.Reference4Ideal.defs _ _).mono (fun r h c => ⟨?_, (h c).2⟩) (Cert.Reference4Ideal.Value.run (F := Ideal) m' g')
  obtain ⟨h0, h1, h2⟩ := hm c
  refine (h c).1.trans ((Cert.Reference4Ideal.Read.val_main_v5_eq ..).trans ?_)
  show Cert.Reference4Ideal.Read.val_main_v5 (F := Ideal) (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg2)) = _
  rw [h0, h1, h2]
  exact result_eq m c

end Cert.Proof.OutProj
-- ==== Proof.Ple.Body.lean ====
/- The per-layer embedding's vector operations at an index. -/
module

public import proofs.«01_k».proof.Proof.Ffn.Spec
public import proofs.«01_k».proof.Proof.Gen.Kernel5Ideal.Value

@[expose] public section

set_option maxRecDepth 16384
noncomputable section
namespace Cert.Proof.Ple
open Cert.Kernel5Ideal Cert.Kernel5Ideal.Gen Idealize.ShloMosaic Idealize.ShloMosaic.TcCoe Idealize.SL.Sem
open Cert.Proof.Ffn (rms)

/-- A projected embedding through the gate. -/
def gated (pp g : EReal) : EReal := Ideal.div pp (1 + Ideal.exp (0 - g))

theorem norm_apply (h : Vec Ideal S128x2048 .f32) (w : Vec Ideal S1x2048 .f32) (p : Fin 128) (k : Fin 2048) :
    k0_pay3 h w (ix2 p k) = rms (fun k => h (ix2 p k)) (fun k => w (ix2 0 k)) k := by
  pointwise [k0_pay3]
  rfl

theorem fin_apply (h : Vec Ideal S128x2048 .f32) (w : Vec Ideal S1x2048 .f32) (p : Fin 128) (k : Fin 2048) :
    k0_pay2 h w (ix2 p k) = rms (fun k => h (ix2 p k)) (fun k => w (ix2 0 k)) k := by
  pointwise [k0_pay2]
  rfl

theorem copy_apply (v : Vec Ideal S128x256 .f32) (p : Fin 128) (k : Fin 256) : k0_pay4 v (ix2 p k) = v (ix2 p k) := by
  pointwise [k0_pay4]

variable (e : Vec Ideal S512x2048 .bf16) (a : Vec Ideal S512x256 .bf16) (wg : Vec Ideal S2048x512 .bf16) (wp : Vec Ideal S256x512 .bf16)
  (h : Vec Ideal S512x512 .f32) (p q : Fin 512)

/-- One column tile's residual plus its gated embedding. -/
def tile : EReal := h (ix2 p q) + gated (∑ k, a (ix2 p k) * wp (ix2 k q)) (∑ k, e (ix2 p k) * wg (ix2 k q))

theorem tile_1 : k0_pay5 e a wg wp h (ix2 p q) = tile e a wg wp h p q := by
  pointwise [k0_pay5]
  rfl

theorem tile_2 : k0_pay8 (k0_pay6 a wp) h (k0_pay7 e wg) (ix2 p q) = tile e a wg wp h p q := by
  pointwise [k0_pay8, k0_pay6, k0_pay7]
  rfl

theorem tile_3 : k0_pay9 e a wg wp h (ix2 p q) = tile e a wg wp h p q := by
  pointwise [k0_pay9]
  rfl

theorem tile_4 : k0_pay1 (k0_pay10 a wp) h (k0_pay11 e wg) (ix2 p q) = tile e a wg wp h p q := by
  pointwise [k0_pay1, k0_pay10, k0_pay11]
  rfl

end Cert.Proof.Ple
-- ==== Proof.Ple.Loop.lean ====
/- What the body's two loops of four trips leave: the rows' norm and embedding before the column tiles, the final norm after. -/
module

public import proofs.«01_k».proof.Proof.Ple.Body
public import Idealize.ShloMosaic.Lib.Pipeline.ReadBack
public import Idealize.ShloMosaic.Lib.WritesUnit
public import Idealize.ShloMosaic.Lib.WholeRead

@[expose] public section

set_option maxRecDepth 16384
noncomputable section
namespace Cert.Proof.Ple
open Cert.Kernel5Ideal Cert.Kernel5Ideal.Gen Idealize.ShloMosaic Idealize.ShloMosaic.TcCoe Idealize.SL.Sem
open Cert.Proof.Ffn (rms)

/-- A block's rows' norm. -/
def normB (x : Vec Ideal S512x2048 .f32) (w : Vec Ideal S1x2048 .f32) : Vec Ideal S512x2048 .bf16 :=
  fun y => rms (fun k => x (ix2 (y (0 : Fin 2)) k)) (fun k => w (ix2 (0 : Fin 1) k)) (y (1 : Fin 2))

variable (vs : Variants) (c : Dev nD) (bd : Option vs.V) (i : grid0.Coords)
  (m2 : Memref sig .tc .vmem S512x2048 .f32) (w2 : m2.IsWhole) (m3 : Memref sig .tc .vmem S512x256 .f32) (w3 : m3.IsWhole)
  (m4 : Memref sig .tc .vmem S1x2048 .f32) (w4 : m4.IsWhole) (m5 : Memref sig .tc .vmem S2048x2048 .bf16) (w5 : m5.IsWhole)
  (m6 : Memref sig .tc .vmem S256x2048 .bf16) (w6 : m6.IsWhole) (m7 : Memref sig .tc .vmem S1x2048 .f32) (w7 : m7.IsWhole)
  (m8 : Memref sig .tc .vmem S512x2048 .f32) (w8 : m8.IsWhole) (m9 : Memref sig .tc .vmem S512x2048 .bf16) (w9 : m9.IsWhole)
  (m10 : Memref sig .tc .vmem S512x256 .bf16) (w10 : m10.IsWhole)

/-- The first trips' rows of the norm. -/
theorem loop_e (x : Vec Ideal S512x2048 .f32) (a : Vec Ideal S512x256 .f32) (w : Vec Ideal S1x2048 .f32) (y : S512x2048.Idx) : ∀ n : ℕ, n ≤ 4 → (y (0 : Fin 2)).val < 128 * n →
    View.canon (pb_k0_t1 (F := Ideal) vs c bd i m2 w2 m3 w3 m4 w4 m5 w5 m6 w6 m7 w7 m8 w8 m9 w9 m10 w10 (w2.unread x) (w3.unread a) (w4.unread w) n).1 y = normB x w y
  | 0, _, h => absurd h (by omega)
  | n + 1, hn, h => by
    have hk : n < k0_t1_loop.trips := lt_of_lt_of_le (show n < 4 by omega) (by decide)
    rw [pb_k0_t1_succ vs c bd i m2 w2 m3 w3 m4 w4 m5 w5 m6 w6 m7 w7 m8 w8 m9 w9 m10 w10 (w2.unread x) (w3.unread a) (w4.unread w) ⟨n, hk⟩]
    have ih := loop_e x a w y n (by omega)
    revert ih
    generalize pb_k0_t1 (F := Ideal) vs c bd i m2 w2 m3 w3 m4 w4 m5 w5 m6 w6 m7 w7 m8 w8 m9 w9 m10 w10 (w2.unread x) (w3.unread a) (w4.unread w) n = L
    intro ih
    unfold tripL_k0_t1 trip_k0_t1
    dsimp only
    rw [← View.read_writes_junk_eq_canon (View.whole cc0_scratch0)] at ih ⊢
    by_cases hy : (y (0 : Fin 2)).val < 128 * n
    · exact (View.read_writes_cons_rows_of_not_mem (d := ![512, 2048]) (o := 128 * n) (W := 128) (View.whole cc0_scratch0) _ _ _ L.1 y (k0_off1_eq ⟨n, hk⟩) rfl (.inl hy)).trans (ih hy)
    · refine (View.read_writes_cons_rows_of_mem (d := ![512, 2048]) (o := 128 * n) (View.whole cc0_scratch0) _ _ _ L.1 y (ix2 (⟨(y (0 : Fin 2)).val - 128 * n, by omega⟩ : Fin 128) (y (1 : Fin 2))) (k0_off1_eq ⟨n, hk⟩) ?_ rfl).trans ?_
      · show (y (0 : Fin 2)).val = 128 * n + ((y (0 : Fin 2)).val - 128 * n); omega
      · refine (norm_apply _ _ _ _).trans (congrArg₂ (fun a b => rms a b (y (1 : Fin 2))) (funext fun k => ?_) (funext fun k => ?_))
        · refine (w2.readAt_unread x _ _).trans (congrArg x (funext fun b => Fin.ext ?_))
          have e := k0_off1_eq ⟨n, hk⟩
          fin_cases b
          · show k0_off1 ⟨n, hk⟩ 0 + 1 * ((y (0 : Fin 2)).val - 128 * n) = (y (0 : Fin 2)).val
            rw [e]
            show 128 * n + 1 * ((y (0 : Fin 2)).val - 128 * n) = (y (0 : Fin 2)).val
            omega
          · show k0_off1 ⟨n, hk⟩ 1 + 1 * (k).val = (k).val
            rw [e]
            show 0 + 1 * (k).val = (k).val
            omega
        · refine (w4.readAt_unread w _ _).trans (congrArg w (funext fun b => Fin.ext ?_))
          fin_cases b
          · rfl
          · show 0 + 1 * k.val = k.val
            omega

/-- The first trips' rows of the embedding. -/
theorem loop_p (x : Vec Ideal S512x2048 .f32) (a : Vec Ideal S512x256 .f32) (w : Vec Ideal S1x2048 .f32) (y : S512x256.Idx) : ∀ n : ℕ, n ≤ 4 → (y (0 : Fin 2)).val < 128 * n →
    View.canon (pb_k0_t1 (F := Ideal) vs c bd i m2 w2 m3 w3 m4 w4 m5 w5 m6 w6 m7 w7 m8 w8 m9 w9 m10 w10 (w2.unread x) (w3.unread a) (w4.unread w) n).2 y = a y
  | 0, _, h => absurd h (by omega)
  | n + 1, hn, h => by
    have hk : n < k0_t1_loop.trips := lt_of_lt_of_le (show n < 4 by omega) (by decide)
    rw [pb_k0_t1_succ vs c bd i m2 w2 m3 w3 m4 w4 m5 w5 m6 w6 m7 w7 m8 w8 m9 w9 m10 w10 (w2.unread x) (w3.unread a) (w4.unread w) ⟨n, hk⟩]
    have ih := loop_p x a w y n (by omega)
    revert ih
    generalize pb_k0_t1 (F := Ideal) vs c bd i m2 w2 m3 w3 m4 w4 m5 w5 m6 w6 m7 w7 m8 w8 m9 w9 m10 w10 (w2.unread x) (w3.unread a) (w4.unread w) n = L
    intro ih
    unfold tripL_k0_t1 trip_k0_t1
    dsimp only
    rw [← View.read_writes_junk_eq_canon (View.whole cc0_scratch1)] at ih ⊢
    by_cases hy : (y (0 : Fin 2)).val < 128 * n
    · exact (View.read_writes_cons_rows_of_not_mem (d := ![512, 256]) (o := 128 * n) (W := 128) (View.whole cc0_scratch1) _ _ _ L.2 y (k0_off2_eq ⟨n, hk⟩) rfl (.inl hy)).trans (ih hy)
    · refine (View.read_writes_cons_rows_of_mem (d := ![512, 256]) (o := 128 * n) (View.whole cc0_scratch1) _ _ _ L.2 y (ix2 (⟨(y (0 : Fin 2)).val - 128 * n, by omega⟩ : Fin 128) (y (1 : Fin 2))) (k0_off2_eq ⟨n, hk⟩) ?_ rfl).trans ?_
      · show (y (0 : Fin 2)).val = 128 * n + ((y (0 : Fin 2)).val - 128 * n); omega
      · refine (copy_apply _ _ _).trans ?_
        refine (w3.readAt_unread a _ _).trans (congrArg a (funext fun b => Fin.ext ?_))
        have e := k0_off2_eq ⟨n, hk⟩
        fin_cases b
        · show k0_off2 ⟨n, hk⟩ 0 + 1 * ((y (0 : Fin 2)).val - 128 * n) = (y (0 : Fin 2)).val
          rw [e]
          show 128 * n + 1 * ((y (0 : Fin 2)).val - 128 * n) = (y (0 : Fin 2)).val
          omega
        · show k0_off2 ⟨n, hk⟩ 1 + 1 * (y (1 : Fin 2)).val = (y (1 : Fin 2)).val
          rw [e]
          show 0 + 1 * (y (1 : Fin 2)).val = (y (1 : Fin 2)).val
          omega

theorem trips4 : Scf.trips 0#32 (Scalar.addi 0#32 4#32) 1#32 = 4 := by decide

/-- The whole norm, read back after the trips. -/
theorem norm_read (x : Vec Ideal S512x2048 .f32) (a : Vec Ideal S512x256 .f32) (w : Vec Ideal S1x2048 .f32) (ib) :
    (View.whole cc0_scratch0).readCov (Val := Elt Ideal) (s := S512x2048) (e := .bf16) (pb_k0_t1 (F := Ideal) vs c bd i m2 w2 m3 w3 m4 w4 m5 w5 m6 w6 m7 w7 m8 w8 m9 w9 m10 w10 (w2.unread x) (w3.unread a) (w4.unread w)
      (Scf.trips 0#32 (Scalar.addi 0#32 4#32) 1#32)).1 (Rect.unit ![0, 0] ![512, 2048] ib).toLoadRect = normB x w := by
  rw [trips4, View.readCov_eq_canon']
  funext j
  refine (loop_e vs c bd i m2 w2 m3 w3 m4 w4 m5 w5 m6 w6 m7 w7 m8 w8 m9 w9 m10 w10 x a w _ 4 (le_refl _) (by exact Fin.isLt _)).trans (congrArg (normB x w) (funext fun b => Fin.ext ?_))
  fin_cases b
  · show 0 + 1 * (j (0 : Fin 2)).val = (j (0 : Fin 2)).val; omega
  · show 0 + 1 * (j (1 : Fin 2)).val = (j (1 : Fin 2)).val; omega

/-- The whole embedding, read back after the trips. -/
theorem emb_read (x : Vec Ideal S512x2048 .f32) (a : Vec Ideal S512x256 .f32) (w : Vec Ideal S1x2048 .f32) (ib) :
    (View.whole cc0_scratch1).readCov (Val := Elt Ideal) (s := S512x256) (e := .bf16) (pb_k0_t1 (F := Ideal) vs c bd i m2 w2 m3 w3 m4 w4 m5 w5 m6 w6 m7 w7 m8 w8 m9 w9 m10 w10 (w2.unread x) (w3.unread a) (w4.unread w)
      (Scf.trips 0#32 (Scalar.addi 0#32 4#32) 1#32)).2 (Rect.unit ![0, 0] ![512, 256] ib).toLoadRect = a := by
  rw [trips4, View.readCov_eq_canon']
  funext j
  refine (loop_p vs c bd i m2 w2 m3 w3 m4 w4 m5 w5 m6 w6 m7 w7 m8 w8 m9 w9 m10 w10 x a w _ 4 (le_refl _) (by exact Fin.isLt _)).trans (congrArg (a) (funext fun b => Fin.ext ?_))
  fin_cases b
  · show 0 + 1 * (j (0 : Fin 2)).val = (j (0 : Fin 2)).val; omega
  · show 0 + 1 * (j (1 : Fin 2)).val = (j (1 : Fin 2)).val; omega

/-- After some trips of the final norm the rows done hold their norm, the others what they held. -/
theorem loop_f (w : Vec Ideal S1x2048 .f32) (G : BufTy.Contents (Elt Ideal) m8.view.ty) : ∀ (n : ℕ), n ≤ 4 → ∀ y : S512x2048.Idx,
    m8.view.read (Elt Ideal) (m8.view.writes (Elt Ideal) G (pb_k0_t2 (F := Ideal) vs c bd i m2 w2 m3 w3 m4 w4 m5 w5 m6 w6 m7 w7 m8 w8 m9 w9 m10 w10 (w7.unread w) G n)) y
      = if (y (0 : Fin 2)).val < 128 * n then normB (m8.view.read (Elt Ideal) G) w y else m8.view.read (Elt Ideal) G y
  | 0, _, y => by rw [if_neg (by omega)]; rfl
  | n + 1, hn, y => by
    have hk : n < k0_t2_loop.trips := lt_of_lt_of_le (show n < 4 by omega) (by decide)
    rw [pb_k0_t2_succ vs c bd i m2 w2 m3 w3 m4 w4 m5 w5 m6 w6 m7 w7 m8 w8 m9 w9 m10 w10 (w7.unread w) G ⟨n, hk⟩]
    have ih := loop_f w G n (by omega)
    revert ih
    generalize pb_k0_t2 (F := Ideal) vs c bd i m2 w2 m3 w3 m4 w4 m5 w5 m6 w6 m7 w7 m8 w8 m9 w9 m10 w10 (w7.unread w) G n = L
    intro ih
    unfold tripL_k0_t2 trip_k0_t2
    dsimp only
    by_cases hy : (y (0 : Fin 2)).val < 128 * n
    · refine (View.read_writes_cons_rows_of_not_mem (d := ![512, 2048]) (o := 128 * n) (W := 128) m8.view _ _ _ L y (k0_off3_eq ⟨n, hk⟩) rfl (.inl hy)).trans ((ih y).trans ?_)
      rw [if_pos hy, if_pos (show (y (0 : Fin 2)).val < 128 * (n + 1) by omega)]
    by_cases hz : (y (0 : Fin 2)).val < 128 * (n + 1)
    · rw [if_pos hz]
      refine (View.read_writes_cons_rows_of_mem (d := ![512, 2048]) (o := 128 * n) m8.view _ _ _ L y (ix2 (⟨(y (0 : Fin 2)).val - 128 * n, by omega⟩ : Fin 128) (y (1 : Fin 2))) (k0_off3_eq ⟨n, hk⟩) ?_ rfl).trans ?_
      · show (y (0 : Fin 2)).val = 128 * n + ((y (0 : Fin 2)).val - 128 * n); omega
      · refine (fin_apply _ _ _ _).trans (congrArg₂ (fun a b => rms a b (y (1 : Fin 2))) (funext fun k => ?_) (funext fun k => ?_))
        · have e := k0_off3_eq ⟨n, hk⟩
          refine Eq.trans (congrArg (m8.view.read (Elt Ideal) (m8.view.writes (Elt Ideal) G L)) (a₂ := ix2 (y (0 : Fin 2)) k) (funext fun b => Fin.ext ?_)) ((ih _).trans (if_neg hy))
          fin_cases b
          · show k0_off3 ⟨n, hk⟩ 0 + 1 * ((y (0 : Fin 2)).val - 128 * n) = (y (0 : Fin 2)).val
            rw [e]
            show 128 * n + 1 * ((y (0 : Fin 2)).val - 128 * n) = (y (0 : Fin 2)).val
            omega
          · show k0_off3 ⟨n, hk⟩ 1 + 1 * k.val = k.val
            rw [e]
            show 0 + 1 * k.val = k.val
            omega
        · refine (w7.readAt_unread w _ _).trans (congrArg w (funext fun b => Fin.ext ?_))
          fin_cases b
          · rfl
          · show 0 + 1 * k.val = k.val
            omega
    · rw [if_neg hz]
      refine (View.read_writes_cons_rows_of_not_mem (d := ![512, 2048]) (o := 128 * n) (W := 128) m8.view _ _ _ L y (k0_off3_eq ⟨n, hk⟩) rfl (.inr (by omega))).trans ((ih y).trans (if_neg hy))

end Cert.Proof.Ple
-- ==== Proof.Ple.Points.lean ====
/- What a grid point leaves: the residual plus the gated embedding, tile by tile, then the rows' final norm. -/
module

public import proofs.«01_k».proof.Proof.Ple.Loop
public import Idealize.ShloMosaic.Lib.Pipeline.ValueKit

@[expose] public section

set_option maxRecDepth 16384
noncomputable section
namespace Cert.Proof.Ple
open Cert.Kernel5Ideal Cert.Kernel5Ideal.Gen Idealize.ShloMosaic Idealize.ShloMosaic.TcCoe Idealize.SL.Sem
open Cert.Proof.Ffn (rms)

/-- A load of 512 columns. -/
theorem ld_cols {α : Type} {m : ℕ} (o : ℕ) (X : (⟨2, ![m, 2048]⟩ : Shape).Idx → α) (inb) (p : Fin m) (q : Fin 512) (d : Fin 2048) (hd : d.val = o + q.val) :
    View.ld (e' := .f32) (Val := fun _ => α) X (Rect.unit (s := ⟨2, ![m, 2048]⟩) ![0, o] ![m, 512] inb) (ix2 p q) = X (ix2 p d) := by
  refine congrArg X (funext fun x => Fin.ext ?_)
  fin_cases x
  · show 0 + 1 * p.val = p.val; omega
  · show o + 1 * q.val = d.val; omega

/-- A block's residual plus its gated embedding. -/
def mid (e : Vec Ideal S512x2048 .bf16) (a : Vec Ideal S512x256 .bf16) (wg : Vec Ideal S2048x2048 .bf16) (wp : Vec Ideal S256x2048 .bf16) (h : Vec Ideal S512x2048 .f32) : Vec Ideal S512x2048 .f32 :=
  fun y => h y + gated (∑ k, a (ix2 (y (0 : Fin 2)) k) * wp (ix2 k (y (1 : Fin 2)))) (∑ k, e (ix2 (y (0 : Fin 2)) k) * wg (ix2 k (y (1 : Fin 2))))

theorem tile_ld (e : Vec Ideal S512x2048 .bf16) (a : Vec Ideal S512x256 .bf16) (wg : Vec Ideal S2048x2048 .bf16) (wp : Vec Ideal S256x2048 .bf16) (h : Vec Ideal S512x2048 .f32) (o : ℕ) (ig ip ih) (p q : Fin 512) (d : Fin 2048) (hd : d.val = o + q.val) :
    tile e a (View.ld wg (Rect.unit (s := S2048x2048) ![0, o] ![2048, 512] ig)) (View.ld wp (Rect.unit (s := S256x2048) ![0, o] ![256, 512] ip))
      (View.ld h (Rect.unit (s := S512x2048) ![0, o] ![512, 512] ih)) p q = mid e a wg wp h (ix2 p d) :=
  congrArg₂ (· + ·) (ld_cols o h ih p q d hd) (congrArg₂ gated
    (Finset.sum_congr rfl fun k _ => congrArg (a (ix2 p k) * ·) (ld_cols o wp ip k q d hd))
    (Finset.sum_congr rfl fun k _ => congrArg (e (ix2 p k) * ·) (ld_cols o wg ig k q d hd)))

/-- The four column tiles' stores, last first. -/
def tiles (e : Vec Ideal S512x2048 .bf16) (a : Vec Ideal S512x256 .bf16) (wg : Vec Ideal S2048x2048 .bf16) (wp : Vec Ideal S256x2048 .bf16) (h : Vec Ideal S512x2048 .f32) : List (View.Piece (Elt Ideal) S512x2048 .f32) :=
  [⟨Rect.unit ![0, 1536] ![512, 512] inb_S512x2048_S512x512_0_1536,
      k0_pay1 (k0_pay10 a (View.ld wp (Rect.unit ![0, 1536] ![256, 512] inb_S256x2048_S256x512_0_1536))) (View.ld h (Rect.unit ![0, 1536] ![512, 512] inb_S512x2048_S512x512_0_1536)) (k0_pay11 e (View.ld wg (Rect.unit ![0, 1536] ![2048, 512] inb_S2048x2048_S2048x512_0_1536)))⟩,
    ⟨Rect.unit ![0, 1024] ![512, 512] inb_S512x2048_S512x512_0_1024,
      k0_pay9 e a (View.ld wg (Rect.unit ![0, 1024] ![2048, 512] inb_S2048x2048_S2048x512_0_1024)) (View.ld wp (Rect.unit ![0, 1024] ![256, 512] inb_S256x2048_S256x512_0_1024)) (View.ld h (Rect.unit ![0, 1024] ![512, 512] inb_S512x2048_S512x512_0_1024))⟩,
    ⟨Rect.unit ![0, 512] ![512, 512] inb_S512x2048_S512x512_0_512,
      k0_pay8 (k0_pay6 a (View.ld wp (Rect.unit ![0, 512] ![256, 512] inb_S256x2048_S256x512_0_512))) (View.ld h (Rect.unit ![0, 512] ![512, 512] inb_S512x2048_S512x512_0_512)) (k0_pay7 e (View.ld wg (Rect.unit ![0, 512] ![2048, 512] inb_S2048x2048_S2048x512_0_512)))⟩,
    ⟨Rect.unit ![0, 0] ![512, 512] inb_S512x2048_S512x512_0_0,
      k0_pay5 e a (View.ld wg (Rect.unit ![0, 0] ![2048, 512] inb_S2048x2048_S2048x512_0_0)) (View.ld wp (Rect.unit ![0, 0] ![256, 512] inb_S256x2048_S256x512_0_0)) (View.ld h (Rect.unit ![0, 0] ![512, 512] inb_S512x2048_S512x512_0_0))⟩]

theorem tiles_at (e : Vec Ideal S512x2048 .bf16) (a : Vec Ideal S512x256 .bf16) (wg : Vec Ideal S2048x2048 .bf16) (wp : Vec Ideal S256x2048 .bf16) (h : Vec Ideal S512x2048 .f32) : View.canon (tiles e a wg wp h) = mid e a wg wp h := by
  funext y
  obtain ⟨p, d, rfl⟩ : ∃ p d, y = ix2 p d := ⟨y 0, y 1, eq_ix2 y⟩
  unfold tiles
  rw [← View.read_writes_junk_eq_canon (View.whole cc0_stg6_0)]
  by_cases h1536 : 1536 ≤ d.val
  · refine (View.read_writes_cons_unit_of_mem (View.whole cc0_stg6_0) _ _ _ _ (ix2 p d) (ix2 p (⟨d.val - 1536, by omega⟩ : Fin 512)) rfl fun b => ?_).trans ((tile_4 ..).trans (tile_ld e a wg wp h 1536 _ _ _ p _ d ?_))
    · fin_cases b
      · exact (Nat.zero_add p.val).symm
      · show d.val = 1536 + (d.val - 1536); omega
    · show d.val = 1536 + (d.val - 1536); omega
  refine (View.read_writes_cons_unit_of_not_mem (View.whole cc0_stg6_0) _ _ _ _ (ix2 p d) rfl (1 : Fin 2) (.inl (show d.val < 1536 by omega))).trans ?_
  by_cases h1024 : 1024 ≤ d.val
  · refine (View.read_writes_cons_unit_of_mem (View.whole cc0_stg6_0) _ _ _ _ (ix2 p d) (ix2 p (⟨d.val - 1024, by omega⟩ : Fin 512)) rfl fun b => ?_).trans ((tile_3 ..).trans (tile_ld e a wg wp h 1024 _ _ _ p _ d ?_))
    · fin_cases b
      · exact (Nat.zero_add p.val).symm
      · show d.val = 1024 + (d.val - 1024); omega
    · show d.val = 1024 + (d.val - 1024); omega
  refine (View.read_writes_cons_unit_of_not_mem (View.whole cc0_stg6_0) _ _ _ _ (ix2 p d) rfl (1 : Fin 2) (.inl (show d.val < 1024 by omega))).trans ?_
  by_cases h512 : 512 ≤ d.val
  · refine (View.read_writes_cons_unit_of_mem (View.whole cc0_stg6_0) _ _ _ _ (ix2 p d) (ix2 p (⟨d.val - 512, by omega⟩ : Fin 512)) rfl fun b => ?_).trans ((tile_2 ..).trans (tile_ld e a wg wp h 512 _ _ _ p _ d ?_))
    · fin_cases b
      · exact (Nat.zero_add p.val).symm
      · show d.val = 512 + (d.val - 512); omega
    · show d.val = 512 + (d.val - 512); omega
  refine (View.read_writes_cons_unit_of_not_mem (View.whole cc0_stg6_0) _ _ _ _ (ix2 p d) rfl (1 : Fin 2) (.inl (show d.val < 512 by omega))).trans ?_
  refine (View.read_writes_cons_unit_of_mem (View.whole cc0_stg6_0) _ _ _ _ (ix2 p d) (ix2 p (⟨d.val - 0, by omega⟩ : Fin 512)) rfl fun b => ?_).trans ((tile_1 ..).trans (tile_ld e a wg wp h 0 _ _ _ p _ d ?_))
  · fin_cases b
    · exact (Nat.zero_add p.val).symm
    · show d.val = 0 + (d.val - 0); omega
  · show d.val = 0 + (d.val - 0); omega

section
variable (vs : Variants) (c : Dev nD) (bd : Option vs.V) (i : grid0.Coords)
  (m2 : Memref sig .tc .vmem S512x2048 .f32) (w2 : m2.IsWhole) (m3 : Memref sig .tc .vmem S512x256 .f32) (w3 : m3.IsWhole)
  (m4 : Memref sig .tc .vmem S1x2048 .f32) (w4 : m4.IsWhole) (m5 : Memref sig .tc .vmem S2048x2048 .bf16) (w5 : m5.IsWhole)
  (m6 : Memref sig .tc .vmem S256x2048 .bf16) (w6 : m6.IsWhole) (m7 : Memref sig .tc .vmem S1x2048 .f32) (w7 : m7.IsWhole)
  (m8 : Memref sig .tc .vmem S512x2048 .f32) (w8 : m8.IsWhole) (m9 : Memref sig .tc .vmem S512x2048 .bf16) (w9 : m9.IsWhole)
  (m10 : Memref sig .tc .vmem S512x256 .bf16) (w10 : m10.IsWhole)

/-- The final norm over the tiles. -/
theorem left (w : Vec Ideal S1x2048 .f32) (T : List (View.Piece (Elt Ideal) S512x2048 .f32)) (y : S512x2048.Idx) :
    View.canon (pb_k0_t2 (F := Ideal) vs c bd i m2 w2 m3 w3 m4 w4 m5 w5 m6 w6 m7 w7 m8 w8 m9 w9 m10 w10 (w7.unread w) (m8.view.writes (Elt Ideal) m8.view.junk T) (Scf.trips 0#32 (Scalar.addi 0#32 4#32) 1#32) ++ T) y
      = normB (View.canon T) w y := by
  have e : m8.view.read (Elt Ideal) (m8.view.writes (Elt Ideal) m8.view.junk T) = View.canon T := View.read_writes_junk_eq_canon m8.view T
  rw [trips4, ← View.read_writes_junk_eq_canon m8.view, View.writes_append, ← e]
  exact (loop_f vs c bd i m2 w2 m3 w3 m4 w4 m5 w5 m6 w6 m7 w7 m8 w8 m9 w9 m10 w10 w _ 4 (le_refl _) y).trans (if_pos (y (0 : Fin 2)).isLt)
end

variable (m : (ℓ : Loc nD τ sig) → Buf (Elt Ideal) ℓ)

/-- What a point leaves in the output's block. -/
theorem out_A (c : Dev nD) (t : Fin cfg0.N) :
    outsAt0 m c t = normB (mid (normB (iblk m c 0 t) (iblk m c 2 t)) (iblk m c 1 t) (iblk m c 3 t) (iblk m c 4 t) (iblk m c 0 t)) (iblk m c 5 t) := by
  funext y
  unfold outsAt0
  frame_open
  try simp (disch := decide) only [↓ View.readCov_skip, ↓ View.readCov_cons_toLoadRect, ↓ View.readCov_fill]
  frame_out
  simp only [norm_read, emb_read]
  rw [← tiles_at]
  exact left ..

end Cert.Proof.Ple
-- ==== Proof.Ple.Fold.lean ====
/- The per-layer embedding's result at a row and a column. -/
module

public import proofs.«01_k».proof.Proof.Ple.Points
public import Idealize.ShloMosaic.Lib.StableHlo.ReadAt

@[expose] public section

set_option maxRecDepth 16384
noncomputable section
namespace Cert.Proof.Ple
open Cert.Kernel5Ideal Cert.Kernel5Ideal.Gen Idealize.ShloMosaic Idealize.ShloMosaic.TcCoe Idealize.SL.Sem
open Cert.Proof.Ffn (rms)

/-- The block each window is at, at each point. -/
theorem idx_all : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![0, 0] ∧ win0_6.index t = ![t.val, 0] :=
  (by decide +kernel : ∀ t : Fin grid0.N, _)

theorem lt_pts (t : Fin cfg0.N) : t.val < 32 := lt_of_lt_of_eq t.isLt N_0

/-- One row: the residual plus its normed projection's gate on the embedding's projection, before the final norm. -/
def midr (h n3 : Fin 2048 → EReal) (a : Fin 256 → EReal) (wg : Fin 2048 → Fin 2048 → EReal) (wp : Fin 256 → Fin 2048 → EReal) (d : Fin 2048) : EReal :=
  h d + gated (∑ k, a k * wp k d) (∑ k, rms h n3 k * wg k d)

section
variable (m : (ℓ : Loc nD τ sig) → Buf (Elt Ideal) ℓ) (c : Dev nD)

def Hf (r : Fin 16384) (k : Fin 2048) : EReal := m ((c : Thread nD τ).loc main_arg0) (ix2 r k)
def Af (r : Fin 16384) (k : Fin 256) : EReal :=
  m ((c : Thread nD τ).loc main_arg1) (ix4 (0 : Fin 1) (⟨r.val / 2048, by omega⟩ : Fin 8) (⟨r.val % 2048, Nat.mod_lt _ (by decide)⟩ : Fin 2048) k)
def n3f (k : Fin 2048) : EReal := m ((c : Thread nD τ).loc main_arg2) (ix2 (0 : Fin 1) k)
def Wgf (k d : Fin 2048) : EReal := m ((c : Thread nD τ).loc main_arg3) (ix3 (0 : Fin 1) k d)
def Wpf (k : Fin 256) (d : Fin 2048) : EReal := m ((c : Thread nD τ).loc main_arg4) (ix3 (0 : Fin 1) k d)
def nff (k : Fin 2048) : EReal := m ((c : Thread nD τ).loc main_arg5) (ix1 k)

theorem a_tab (r : Fin 16384) (k : Fin 256) : V m c main_v5 (ix2 r k) = Af m c r k := by
  unfold V Af
  after_reads_at

theorem n3_tab (k : Fin 2048) : V m c main_v7 (ix2 (0 : Fin 1) k) = n3f m c k := by
  unfold V n3f
  after_reads_at

theorem wg_tab (k d : Fin 2048) : V m c main_v1 (ix2 k d) = Wgf m c k d := by
  unfold V Wgf
  after_reads_at

theorem wp_tab (k : Fin 256) (d : Fin 2048) : V m c main_v3 (ix2 k d) = Wpf m c k d := by
  unfold V Wpf
  after_reads_at

theorem nf_tab (k : Fin 2048) : V m c main_v8 (ix2 (0 : Fin 1) k) = nff m c k := by
  unfold V nff
  after_reads_at

theorem iblk_0 (t : Fin cfg0.N) (p : Fin 512) (k : Fin 2048) (r : Fin 16384) (hr : r.val = 512 * t.val + p.val) : iblk m c 0 t (ix2 p k) = Hf m c r k := by
  unfold Hf
  rw [← V_main_arg0 m c]
  blk_ext [iblk, idx_all t]
theorem iblk_1 (t : Fin cfg0.N) (p : Fin 512) (k : Fin 256) (r : Fin 16384) (hr : r.val = 512 * t.val + p.val) : iblk m c 1 t (ix2 p k) = Af m c r k := by
  rw [← a_tab m c]
  blk_ext [iblk, idx_all t]
theorem iblk_2 (t : Fin cfg0.N) (k : Fin 2048) : iblk m c 2 t (ix2 (0 : Fin 1) k) = n3f m c k := by
  rw [← n3_tab m c]
  blk_ext [iblk, idx_all t]
theorem iblk_3 (t : Fin cfg0.N) (k d : Fin 2048) : iblk m c 3 t (ix2 k d) = Wgf m c k d := by
  rw [← wg_tab m c]
  blk_ext [iblk, idx_all t]
theorem iblk_4 (t : Fin cfg0.N) (k : Fin 256) (d : Fin 2048) : iblk m c 4 t (ix2 k d) = Wpf m c k d := by
  rw [← wp_tab m c]
  blk_ext [iblk, idx_all t]
theorem iblk_5 (t : Fin cfg0.N) (k : Fin 2048) : iblk m c 5 t (ix2 (0 : Fin 1) k) = nff m c k := by
  rw [← nf_tab m c]
  blk_ext [iblk, idx_all t]

/-- The launch's result at a row and a column. -/
def res (r : Fin 16384) (d : Fin 2048) : EReal := rms (midr (Hf m c r) (n3f m c) (Af m c r) (Wgf m c) (Wpf m c)) (nff m c) d

/-- The launch's result array. -/
def G : Buf (Elt Ideal) ((c : Thread nD τ).loc main_v9) := fun i => res m c (i (0 : Fin 2)) (i (1 : Fin 2))

/-- A block's rows, of arrays that are the arguments' there. -/
theorem block_eq (x : Vec Ideal S512x2048 .f32) (a : Vec Ideal S512x256 .f32) (n3 : Vec Ideal S1x2048 .f32) (wg : Vec Ideal S2048x2048 .bf16) (wp : Vec Ideal S256x2048 .bf16)
    (nf : Vec Ideal S1x2048 .f32) (p : Fin 512) (d : Fin 2048) (h n3' nf' : Fin 2048 → EReal) (a' : Fin 256 → EReal) (wg' : Fin 2048 → Fin 2048 → EReal) (wp' : Fin 256 → Fin 2048 → EReal)
    (e0 : ∀ k, x (ix2 p k) = h k) (e1 : ∀ k, a (ix2 p k) = a' k) (e2 : ∀ k, n3 (ix2 (0 : Fin 1) k) = n3' k) (e3 : ∀ k d, wg (ix2 k d) = wg' k d) (e4 : ∀ k d, wp (ix2 k d) = wp' k d)
    (e5 : ∀ k, nf (ix2 (0 : Fin 1) k) = nf' k) : normB (mid (normB x n3) a wg wp x) nf (ix2 p d) = rms (midr h n3' a' wg' wp') nf' d := by
  obtain rfl := funext e0
  obtain rfl := funext e1
  obtain rfl := funext e2
  obtain rfl := funext fun k => funext (e3 k)
  obtain rfl := funext fun k => funext (e4 k)
  obtain rfl := funext e5
  rfl

theorem block_at (t : Fin cfg0.N) (p : Fin 512) (d : Fin 2048) (r : Fin 16384) (hr : r.val = 512 * t.val + p.val) : outsAt0 m c t (ix2 p d) = res m c r d := by
  rw [out_A m c t]
  exact block_eq (iblk m c 0 t) (iblk m c 1 t) (iblk m c 2 t) (iblk m c 3 t) (iblk m c 4 t) (iblk m c 5 t) p d _ _ _ _ _ _ (fun k => iblk_0 m c t p k r hr)
    (fun k => iblk_1 m c t p k r hr) (fun k => iblk_2 m c t k) (fun k d => iblk_3 m c t k d) (fun k d => iblk_4 m c t k d) (fun k => iblk_5 m c t k)

theorem flushed_eq (t : Fin cfg0.N) : (dats m 0 c).flushed 6 t = ((cfg0.win 6).blk t).view.read (Elt Ideal) (G m c) := by
  rw [Value.flushed6]
  obtain ⟨-, -, -, -, -, -, e⟩ := idx_all t
  funext y
  have b0 : (((cfg0.win 6).blk t).view.emb y 0).val = win0_6.index t (0 : Fin 2) * 512 + 1 * (y 0).val := rfl
  have b1 : (((cfg0.win 6).blk t).view.emb y 1).val = win0_6.index t (1 : Fin 2) * 2048 + 1 * (y 1).val := rfl
  have h0 : win0_6.index t (0 : Fin 2) = t.val := congrFun e 0
  have h1 : win0_6.index t (1 : Fin 2) = 0 := congrFun e 1
  show outsAt0 m c t ((cfg0.win 6).xinj (grid0.coords t) y) = res m c (((cfg0.win 6).blk t).view.emb y 0) (((cfg0.win 6).blk t).view.emb y 1)
  refine Eq.trans (congrArg _ (eq_ix2 _)) ((block_at m c t ⟨(y 0).val, (y 0).isLt⟩ ⟨(y 1).val, (y 1).isLt⟩ (((cfg0.win 6).blk t).view.emb y 0) ?_).trans
    (congrArg (res m c (((cfg0.win 6).blk t).view.emb y 0)) (Fin.ext ?_)))
  · rw [b0, h0]; dsimp only; omega
  · rw [b1, h1]; dsimp only; omega

theorem mem_blk (t : Fin cfg0.N) (i : S16384x2048.Idx) (h0 : (i 0).val / 512 = t.val) : i ∈ ((cfg0.win 6).blk t).view.set := by
  obtain ⟨-, -, -, -, -, -, e⟩ := idx_all t
  have hi1 : (i 1).val < 2048 := (i 1).isLt
  show i ∈ ((View.whole main_v9).slice (win0_6.rect t)).set
  rw [View.set_slice_whole, Rect.mem_set_unit]
  intro a
  show win0_6.index t a * S512x2048.size a ≤ (i a).val ∧ (i a).val < win0_6.index t a * S512x2048.size a + S512x2048.size a
  rw [e]
  match a with
  | ⟨0, _⟩ => show t.val * 512 ≤ (i 0).val ∧ (i 0).val < t.val * 512 + 512; omega
  | ⟨1, _⟩ => show 0 * 2048 ≤ (i 1).val ∧ (i 1).val < 0 * 2048 + 2048; omega

theorem covered (i : S16384x2048.Idx) : ∃ t : Fin cfg0.N, (cfg0.win 6).flush t = true ∧ i ∈ ((cfg0.win 6).blk t).view.set := by
  have hi0 : (i 0).val < 16384 := (i 0).isLt
  have hN : cfg0.N = 32 := N_0
  exact ⟨⟨(i 0).val / 512, by omega⟩, flush0_6 _, mem_blk _ i rfl⟩

theorem final : (dats m 0 c).arrAt 6 cfg0.N = G m c :=
  (dats m 0 c).arrAt_eq_of_cover 6 _ (fun t _ => flushed_eq m c t) (fun i => covered i)

theorem result_at (r : Fin 16384) (d : Fin 2048) : G m c (ix2 r d) = res m c r d := rfl

end

/-- The run with its result named and its arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v9) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Value.run_blocks m ρ)

end Cert.Proof.Ple
-- ==== Proof.Ple.Ref.lean ====
/- The per-layer embedding's reference at an index. -/
module

public import proofs.«01_k».proof.Proof.Ple.Fold
public import proofs.«01_k».proof.Proof.Gen.Reference5Ideal.Read

@[expose] public section

set_option maxRecDepth 16384
noncomputable section
namespace Cert.Proof.Ple.Ref
open Cert.Reference5Ideal Cert.Reference5Ideal.Gen Cert.Reference5Ideal.Read Idealize.ShloMosaic Idealize.ShloMosaic.TcCoe Idealize.SL.Sem Idealize.ShloMosaic.StableHlo
open Cert.Proof.Ffn (rms)

variable (x0 : (⟨S16384x2048, .f32⟩ : BufTy).Contents (Elt Ideal)) (x1 : (⟨S1x8x2048x256, .f32⟩ : BufTy).Contents (Elt Ideal))
  (x2 : (⟨S1x2048, .f32⟩ : BufTy).Contents (Elt Ideal)) (x3 : (⟨S1x2048x2048, .f32⟩ : BufTy).Contents (Elt Ideal))
  (x4 : (⟨S1x256x2048, .f32⟩ : BufTy).Contents (Elt Ideal)) (x5 : (⟨S2048, .f32⟩ : BufTy).Contents (Elt Ideal))

/-- A sequence's row among all rows. -/
def rw8 (b : Fin 8) (p : Fin 2048) : Fin 16384 := ⟨b.val * 2048 + p.val, by omega⟩

theorem ref_nrm (b : Fin 8) (p k : Fin 2048) :
    val_main_v14 (F := Ideal) x0 x2 (ix3 b p k) = rms (fun k => x0 (ix2 (rw8 b p) k)) (fun k => x2 (ix2 (0 : Fin 1) k)) k := by
  pointwise [val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  rfl

theorem ref_wg (k d : Fin 2048) : val_main_v15 (F := Ideal) x3 (ix2 k d) = x3 (ix3 (0 : Fin 1) k d) := by
  pointwise [val_main_v15]

theorem ref_wp (k : Fin 256) (d : Fin 2048) : val_main_v24 (F := Ideal) x4 (ix2 k d) = x4 (ix3 (0 : Fin 1) k d) := by
  pointwise [val_main_v24]

theorem ref_emb (b : Fin 8) (p : Fin 2048) (k : Fin 256) : val_main_v23 (F := Ideal) x1 (ix3 b p k) = x1 (ix4 (0 : Fin 1) b p k) := by
  pointwise [val_main_v23]

theorem ref_gl (b : Fin 8) (p d : Fin 2048) : val_main_v16 (F := Ideal) x0 x2 x3 (ix3 b p d)
    = ∑ k, rms (fun k => x0 (ix2 (rw8 b p) k)) (fun k => x2 (ix2 (0 : Fin 1) k)) k * x3 (ix3 (0 : Fin 1) k d) := by
  have hl : ∀ k, lidx_main_v16 (ix3 b p d) k = ix3 b p k := fun k => (eq_ix3 _).trans rfl
  have hr : ∀ k, ridx_main_v16 (ix3 b p d) k = ix2 k d := fun k => (eq_ix2 _).trans rfl
  rw [val_main_v16_apply]
  refine Finset.sum_congr rfl fun k _ => ?_
  rw [hl, ref_nrm, hr, ref_wg]

theorem ref_pp (b : Fin 8) (p d : Fin 2048) : val_main_v25 (F := Ideal) x1 x4 (ix3 b p d) = ∑ k, x1 (ix4 (0 : Fin 1) b p k) * x4 (ix3 (0 : Fin 1) k d) := by
  have hl : ∀ k, lidx_main_v25 (ix3 b p d) k = ix3 b p k := fun k => (eq_ix3 _).trans rfl
  have hr : ∀ k, ridx_main_v25 (ix3 b p d) k = ix2 k d := fun k => (eq_ix2 _).trans rfl
  rw [val_main_v25_apply]
  refine Finset.sum_congr rfl fun k _ => ?_
  rw [hl, ref_emb, hr, ref_wp]

/-- The gate written as a factor. -/
theorem gate_eq (pp g : EReal) : Ideal.div 1 (1 + Ideal.exp (-g)) * pp = gated pp g := by
  have hp : 0 ≤ Ideal.exp (-g) := by
    generalize -g = y
    induction y with
    | bot => exact le_refl _
    | top => exact le_top
    | coe r => exact EReal.coe_nonneg.mpr (Real.exp_pos r).le
  rw [mul_comm, Ideal.mul_one_div (ne_of_gt (lt_of_lt_of_le zero_lt_one (le_add_of_nonneg_right hp)))]
  unfold gated
  rw [zero_sub]

theorem ref_gate (i : S8x2048x2048.Idx) : val_main_v22 (F := Ideal) x0 x2 x3 i = Ideal.div 1 (1 + Ideal.exp (-(val_main_v16 (F := Ideal) x0 x2 x3 i))) := by
  pointwise [val_main_v22, val_main_v21, val_main_v20, val_main_v19, val_main_v18, val_main_v17, val_main_cst_2, val_main_cst_3]

/-- A row before the final norm. -/
def Mr (r : Fin 16384) (b : Fin 8) (p : Fin 2048) : Fin 2048 → EReal :=
  midr (fun k => x0 (ix2 r k)) (fun k => x2 (ix2 (0 : Fin 1) k)) (fun k => x1 (ix4 (0 : Fin 1) b p k)) (fun k d => x3 (ix3 (0 : Fin 1) k d)) (fun k d => x4 (ix3 (0 : Fin 1) k d))

theorem ref_v0 (b : Fin 8) (p d : Fin 2048) : val_main_v0 (F := Ideal) x0 (ix3 b p d) = x0 (ix2 (rw8 b p) d) := by
  pointwise [val_main_v0]
  rfl

theorem ref_mid (b : Fin 8) (p d : Fin 2048) : val_main_v27 (F := Ideal) x0 x1 x2 x3 x4 (ix3 b p d) = Mr x0 x1 x2 x3 x4 (rw8 b p) b p d := by
  pointwise [val_main_v27, val_main_v26]
  rw [ref_gate, gate_eq, ref_gl, ref_pp, ref_v0]
  rfl

theorem ref_fin (b : Fin 8) (p d : Fin 2048) : val_main_v40 (F := Ideal) x0 x1 x2 x3 x4 x5 (ix3 b p d) = rms (Mr x0 x1 x2 x3 x4 (rw8 b p) b p) (fun k => x5 (ix1 k)) d := by
  have e : (fun d => val_main_v27 (F := Ideal) x0 x1 x2 x3 x4 (ix3 b p d)) = Mr x0 x1 x2 x3 x4 (rw8 b p) b p := funext fun d => ref_mid x0 x1 x2 x3 x4 b p d
  rw [← e]
  pointwise [val_main_v40, val_main_v39, val_main_v38, val_main_v37, val_main_v36, val_main_v35, val_main_v34, val_main_v33, val_main_v32, val_main_v31, val_main_v30, val_main_v29, val_main_v28, val_main_cst_4, val_main_cst_5, val_main_cst_6]
  rfl

/-- The reference's result at a row and a column. -/
theorem ref_result (r : Fin 16384) (d : Fin 2048) : val_main_v41 (F := Ideal) x0 x1 x2 x3 x4 x5 (ix2 r d)
    = rms (Mr x0 x1 x2 x3 x4 r (⟨r.val / 2048, by omega⟩ : Fin 8) (⟨r.val % 2048, Nat.mod_lt _ (by decide)⟩ : Fin 2048)) (fun k => x5 (ix1 k)) d := by
  have hr : rw8 (⟨r.val / 2048, by omega⟩ : Fin 8) (⟨r.val % 2048, Nat.mod_lt _ (by decide)⟩ : Fin 2048) = r := by
    apply Fin.ext
    unfold rw8
    dsimp only
    omega
  have e := ref_fin x0 x1 x2 x3 x4 x5 (⟨r.val / 2048, by omega⟩ : Fin 8) (⟨r.val % 2048, Nat.mod_lt _ (by decide)⟩ : Fin 2048) d
  rw [hr] at e
  refine Eq.trans ?_ e
  pointwise [val_main_v41]

end Cert.Proof.Ple.Ref
-- ==== Proof.Ple.Agree.lean ====
/- The per-layer embedding and its reference agree. -/
module

public import proofs.«01_k».proof.Defs
public import proofs.«01_k».proof.Proof.Ple.Fold
public import proofs.«01_k».proof.Proof.Ple.Ref

@[expose] public section

noncomputable section
namespace Cert.Proof.Ple
open Idealize.ShloMosaic Idealize.SL.Sem

/-- The reference runs, leaves its arguments and every counter as they were. -/
theorem frame_r : Cert.quiescent_Reference5Ideal (hReference5Ideal := Cert.Reference5Ideal.Gen.facts) := fun m ρ _ =>
  (θ_run Cert.Reference5Ideal.defs _ _).mono (fun r h => ⟨fun c => (h c).2, Idealize.ShloMosaic.sem_eq_zero_of_no_sems (by decide) r.2⟩)
    (Cert.Reference5Ideal.Value.run (F := Ideal) m ρ)

/-- The two results agree, element by element, where the arguments do. -/
theorem result_eq (m : (ℓ : Loc Cert.Kernel5Ideal.nD Cert.Kernel5Ideal.τ Cert.Kernel5Ideal.sig) → Buf (Elt Ideal) ℓ) (c : Dev Cert.Kernel5Ideal.nD) :
    Cert.Reference5Ideal.Read.val_main_v41 (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5))
      = G m c := by
  funext x
  rw [eq_ix2 x]
  exact (Ref.ref_result _ _ _ _ _ _ (x 0) (x 1)).trans (result_at m c (x 0) (x 1)).symm

/-- The kernel and the reference compute one result over the extended reals. -/
theorem agree : Cert.algebraic_Kernel5Ideal_Reference5Ideal (hKernel5Ideal := Cert.Kernel5Ideal.Gen.facts) (hReference5Ideal := Cert.Reference5Ideal.Gen.facts) := by
  intro m g m' g' _ hm
  refine ⟨fun c => G m c, run m g, ?_⟩
  refine (θ_run Cert.Reference5Ideal.defs _ _).mono (fun r h c => ⟨?_, (h c).2⟩) (Cert.Reference5Ideal.Value.run (F := Ideal) m' g')
  obtain ⟨h0, h1, h2, h3, h4, h5⟩ := hm c
  refine (h c).1.trans ((Cert.Reference5Ideal.Read.val_main_v41_eq ..).trans ?_)
  show Cert.Reference5Ideal.Read.val_main_v41 (F := Ideal) (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2)) (m' ((c.tc : Thread Cert.Reference5Ideal.nD Cert.Reference5Ideal.τ).loc Cert.Reference5Ideal.main_arg3)) (m' ((c.tc : Thread Cert.Reference5Ideal.nD Cert.Reference5Ideal.τ).loc Cert.Reference5Ideal.main_arg4)) (m' ((c.tc : Thread Cert.Reference5Ideal.nD Cert.Reference5Ideal.τ).loc Cert.Reference5Ideal.main_arg5)) = _
  rw [h0, h1, h2, h3, h4, h5]
  exact result_eq m c

end Cert.Proof.Ple
-- ==== Proof.lean ====
/- The claims: every call and its reference run, every idealization is sanctioned, and the results agree. -/
module

public import proofs.«01_k».proof.Proof.Fold
public import proofs.«01_k».proof.Proof.RefOut
public import proofs.«01_k».proof.Proof.Gen.KernelIdeal.Value
public import proofs.«01_k».proof.Proof.Ffn.Agree
public import proofs.«01_k».proof.Proof.Gen.Kernel2.Frame
public import proofs.«01_k».proof.Proof.Gen.Kernel2Ideal.Value
public import proofs.«01_k».proof.Proof.Gen.Reference2Ideal.Read
public import proofs.«01_k».proof.Proof.InProj.Agree
public import proofs.«01_k».proof.Proof.Gen.Kernel3.Frame
public import proofs.«01_k».proof.Proof.Gen.Kernel3Ideal.Value
public import proofs.«01_k».proof.Proof.Gen.Reference3Ideal.Read
public import proofs.«01_k».proof.Proof.OutProj.Agree
public import proofs.«01_k».proof.Proof.Gen.Kernel4.Frame
public import proofs.«01_k».proof.Proof.Gen.Kernel4Ideal.Value
public import proofs.«01_k».proof.Proof.Gen.Reference4Ideal.Read
public import proofs.«01_k».proof.Proof.Ple.Agree
public import proofs.«01_k».proof.Proof.Gen.Kernel5.Frame
public import proofs.«01_k».proof.Proof.Gen.Kernel5Ideal.Value
public import proofs.«01_k».proof.Proof.Gen.Reference5Ideal.Read
public import proofs.«01_k».proof.Proof.Gen.ReferenceIdeal.Read
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init

@[expose] public section

noncomputable section

namespace Cert.Proof

open Idealize.ShloMosaic Idealize.SL.Sem Cert.Kernel

/-- The reference runs, leaves its arguments and every counter as they were. -/
theorem frame_r : Cert.quiescent_ReferenceIdeal (hReferenceIdeal := Cert.ReferenceIdeal.Gen.facts) := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- The two results agree, element by element, where the arguments do. -/
theorem result_eq (m : (ℓ : Loc Cert.KernelIdeal.nD Cert.KernelIdeal.τ Cert.KernelIdeal.sig) → Buf (Elt Ideal) ℓ) (c : Dev Cert.KernelIdeal.nD) :
    Cert.ReferenceIdeal.Read.val_main_v415 (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) = Cert.KernelIdeal.Value.G9 m c := by
  funext x
  rw [eq_ix2 x]
  exact (Ref.ref_out _ _ _ _ (x 0) (x 1)).trans (result_at m c (x 0) (x 1)).symm

/-- The kernel and the reference compute one result over the extended reals. -/
theorem agree : Cert.algebraic_KernelIdeal_ReferenceIdeal (hKernelIdeal := Cert.KernelIdeal.Gen.facts) (hReferenceIdeal := Cert.ReferenceIdeal.Gen.facts) := by
  intro m g m' g' _ hm
  refine ⟨fun c => Cert.KernelIdeal.Value.G9 m c, Cert.KernelIdeal.Value.run m g, ?_⟩
  refine (θ_run Cert.ReferenceIdeal.defs _ _).mono (fun r h c => ⟨?_, (h c).2⟩) (Cert.ReferenceIdeal.Value.run (F := Ideal) m' g')
  obtain ⟨h0, h1, h2, h3⟩ := hm c
  refine (h c).1.trans ((Cert.ReferenceIdeal.Read.val_main_v415_eq _).trans ?_)
  show Cert.ReferenceIdeal.Read.val_main_v415 (F := Ideal) (m' ((c.tc : Thread Cert.ReferenceIdeal.nD Cert.ReferenceIdeal.τ).loc Cert.ReferenceIdeal.main_arg0))
    (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2))
    (m' ((c.tc : Thread Cert.ReferenceIdeal.nD Cert.ReferenceIdeal.τ).loc Cert.ReferenceIdeal.main_arg3)) = _
  rw [h0, h1, h2, h3]
  exact result_eq m c

/-- The kernel's idealization is sanctioned: eight constants named, nothing else. -/
theorem kept : Cert.preserves_Kernel_KernelIdeal := by
  refine ⟨?_, ?_, ?_, ?_, ?_, ?_, ?_, ?_⟩ <;> exact IdealRules.named_const.statement _ _ _ _ _ rfl

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  fun m ρ _ => Cert.Kernel.Gen.frame m ρ, fun m ρ _ => Cert.KernelIdeal.Gen.frame m ρ, frame_r,
  fun m ρ _ => Cert.Kernel2.Gen.frame m ρ, fun m ρ _ => Cert.Kernel2Ideal.Gen.frame m ρ, Ffn.frame_r,
  fun m ρ _ => Cert.Kernel3.Gen.frame m ρ, fun m ρ _ => Cert.Kernel3Ideal.Gen.frame m ρ, InProj.frame_r,
  fun m ρ _ => Cert.Kernel4.Gen.frame m ρ, fun m ρ _ => Cert.Kernel4Ideal.Gen.frame m ρ, OutProj.frame_r,
  fun m ρ _ => Cert.Kernel5.Gen.frame m ρ, fun m ρ _ => Cert.Kernel5Ideal.Gen.frame m ρ, Ple.frame_r,
  kept, agree, trivial, Ffn.agree, trivial, InProj.agree, trivial, OutProj.agree, trivial, Ple.agree⟩

end Cert.Proof

end
